-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v34) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  IdealRules.named_const.Statement Cert.Kernel8Ideal.κ "neg_inf" .f32 0xC2D20000#32 ⊥

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v29) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S16640x2048 : Shape := ⟨2, ![16640, 2048]⟩
abbrev S1x2048x2048 : Shape := ⟨3, ![1, 2048, 2048]⟩
abbrev S2x3x2048 : Shape := ⟨3, ![2, 3, 2048]⟩
abbrev S2048x2048 : Shape := ⟨2, ![2048, 2048]⟩
abbrev S1x1x2048 : Shape := ⟨3, ![1, 1, 2048]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 15
  | .vmem => 11
  | .smem => 0
  | _ => 0

abbrev bufTy : (tb : Table) → Fin (tcTables nBuf tb) → BufTy
  | .hbm, ⟨0, _⟩ => ⟨S16640x2048, .bf16⟩
  | .hbm, ⟨1, _⟩ => ⟨S1x2048x2048, .f32⟩
  | .hbm, ⟨2, _⟩ => ⟨S16640x2048, .f32⟩
  | .hbm, ⟨3, _⟩ => ⟨S2x3x2048, .f32⟩
  | .hbm, ⟨4, _⟩ => ⟨S2x3x2048, .f32⟩
  | .hbm, ⟨5, _⟩ => ⟨S2048x2048, .f32⟩
  | .hbm, ⟨6, _⟩ => ⟨S2048x2048, .bf16⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S16384x2048, .f32⟩
  | .hbm, ⟨14, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c512_i32 : BitVec 32 := 512#32
  let v0 : BitVec 32 := Scalar.muli arg0 c512_i32
  let c16_i32 : BitVec 32 := 16#32
  let v1 : BitVec 32 := Scalar.addi v0 c16_i32
  v1
def k0_mult2 (i : grid0.Coords) : BitVec 32 :=
  let arg0 : BitVec 32 := BitVec.ofNat 32 (i 0).val
  let c512_i32 : BitVec 32 := 512#32
  let v0 : BitVec 32 := Scalar.muli arg0 c512_i32
  let c16_i32 : BitVec 32 := 16#32
  let v1 : BitVec 32 := Scalar.addi v0 c16_i32
  v1
def cc0_transform_0 (i : grid0.Coords) : Fin 2 → Nat :=
  let arg0 : BitVec 32 := BitVec.ofNat 32 (i 0).val
  let c512_i32 : BitVec 32 := 512#32
  let v0 : BitVec 32 := Scalar.muli arg0 c512_i32
  let c16_i32 : BitVec 32 := 16#32
  let v1 : BitVec 32 := Scalar.addi v0 c16_i32
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c512_i32 : BitVec 32 := 512#32
  let v0 : BitVec 32 := Scalar.muli arg0 c512_i32
  let c16_i32 : BitVec 32 := 16#32
  let v1 : BitVec 32 := Scalar.addi v0 c16_i32
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16640x2048 : Shape := ⟨2, ![16640, 2048]⟩
abbrev S1x2048x2048 : Shape := ⟨3, ![1, 2048, 2048]⟩
abbrev S2x3x2048 : Shape := ⟨3, ![2, 3, 2048]⟩
abbrev S16400x2048 : Shape := ⟨2, ![16400, 2048]⟩
abbrev S_ : Shape := ⟨0, ![]⟩
abbrev S2048x2048 : Shape := ⟨2, ![2048, 2048]⟩
abbrev S1x1x2048 : Shape := ⟨3, ![1, 1, 2048]⟩
abbrev S2048 : Shape := ⟨1, ![2048]⟩
abbrev S16400 : Shape := ⟨1, ![16400]⟩
abbrev S16400x1 : Shape := ⟨2, ![16400, 1]⟩
abbrev S1x2048 : Shape := ⟨2, ![1, 2048]⟩
abbrev S16384x2048 : Shape := ⟨2, ![16384, 2048]⟩

abbrev nBuf : Space → Nat
  | .hbm => 49
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S1x2048x2048, .f32⟩
  | .hbm, ⟨2, _⟩ => ⟨S16640x2048, .f32⟩
  | .hbm, ⟨3, _⟩ => ⟨S2x3x2048, .f32⟩
  | .hbm, ⟨4, _⟩ => ⟨S2x3x2048, .f32⟩
  | .hbm, ⟨5, _⟩ => ⟨S16640x2048, .f32⟩
  | .hbm, ⟨6, _⟩ => ⟨S16400x2048, .f32⟩
  | .hbm, ⟨7, _⟩ => ⟨S16400x2048, .f32⟩
  | .hbm, ⟨8, _⟩ => ⟨S_, .f32⟩
  | .hbm, ⟨9, _⟩ => ⟨S16400x2048, .f32⟩
  | .hbm, ⟨10, _⟩ => ⟨S16400x2048, .f32⟩
  | .hbm, ⟨11, _⟩ => ⟨S2048x2048, .f32⟩
  | .hbm, ⟨12, _⟩ => ⟨S16400x2048, .f32⟩
  | .hbm, ⟨13, _⟩ => ⟨S16400x2048, .f32⟩
  | .hbm, ⟨14, _⟩ => ⟨S1x1x2048, .f32⟩
  | .hbm, ⟨15, _⟩ => ⟨S2048, .f32⟩
  | .hbm, ⟨16, _⟩ => ⟨S1x1x2048, .f32⟩
  | .hbm, ⟨17, _⟩ => ⟨S2048, .f32⟩
  | .hbm, ⟨18, _⟩ => ⟨S_, .f32⟩
  | .hbm, ⟨19, _⟩ => ⟨S16400, .f32⟩
  | .hbm, ⟨20, _⟩ => ⟨S16400x1, .f32⟩
  | .hbm, ⟨21, _⟩ => ⟨S_, .f32⟩
  | .hbm, ⟨22, _⟩ => ⟨S16400x1, .f32⟩
  | .hbm, ⟨23, _⟩ => ⟨S16400x1, .f32⟩
  | .hbm, ⟨24, _⟩ => ⟨S16400x2048, .f32⟩
  | .hbm, ⟨25, _⟩ => ⟨S16400x2048, .f32⟩
  | .hbm, ⟨26, _⟩ => ⟨S16400x2048, .f32⟩
  | .hbm, ⟨27, _⟩ => ⟨S_, .f32⟩
  | .hbm, ⟨28, _⟩ => ⟨S16400, .f32⟩
  | .hbm, ⟨29, _⟩ => ⟨S16400x1, .f32⟩
  | .hbm, ⟨30, _⟩ => ⟨S_, .f32⟩
  | .hbm, ⟨31, _⟩ => ⟨S16400x1, .f32⟩
  | .hbm, ⟨32, _⟩ => ⟨S16400x1, .f32⟩
  | .hbm, ⟨33, _⟩ => ⟨S16400x2048, .f32⟩
  | .hbm, ⟨34, _⟩ => ⟨S16400x2048, .f32⟩
  | .hbm, ⟨35, _⟩ => ⟨S_, .f32⟩
  | .hbm, ⟨36, _⟩ => ⟨S16400x1, .f32⟩
  | .hbm, ⟨37, _⟩ => ⟨S16400x1, .f32⟩
  | .hbm, ⟨38, _⟩ => ⟨S16400x1, .f32⟩
  | .hbm, ⟨39, _⟩ => ⟨S16400x2048, .f32⟩
  | .hbm, ⟨40, _⟩ => ⟨S16400x2048, .f32⟩
  | .hbm, ⟨41, _⟩ => ⟨S1x2048, .f32⟩
  | .hbm, ⟨42, _⟩ => ⟨S16400x2048, .f32⟩
  | .hbm, ⟨43, _⟩ => ⟨S16400x2048, .f32⟩
  | .hbm, ⟨44, _⟩ => ⟨S1x2048, .f32⟩
  | .hbm, ⟨45, _⟩ => ⟨S16400x2048, .f32⟩
  | .hbm, ⟨46, _⟩ => ⟨S16400x2048, .f32⟩
  | .hbm, ⟨47, _⟩ => ⟨S16384x2048, .f32⟩
  | .hbm, ⟨48, _⟩ => ⟨S16384x2048, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel2.lean ====
abbrev S16384x2048 : Shape := ⟨2, ![16384, 2048]⟩
abbrev S2x2x2048x11264 : Shape := ⟨4, ![2, 2, 2048, 11264]⟩
abbrev S2x2x5632x2048 : Shape := ⟨4, ![2, 2, 5632, 2048]⟩
abbrev S2x3x2048 : Shape := ⟨3, ![2, 3, 2048]⟩
abbrev S1x1x2048 : Shape := ⟨3, ![1, 1, 2048]⟩
abbrev S2048 : Shape := ⟨1, ![2048]⟩
abbrev S1x2048 : Shape := ⟨2, ![1, 2048]⟩
abbrev S512x2048 : Shape := ⟨2, ![512, 2048]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2x2x2048x11264, .f32⟩
  | .hbm, ⟨2, _⟩ => ⟨S2x2x5632x2048, .f32⟩
  | .hbm, ⟨3, _⟩ => ⟨S2x3x2048, .f32⟩
  | .hbm, ⟨4, _⟩ => ⟨S2x3x2048, .f32⟩
  | .hbm, ⟨5, _⟩ => ⟨S2x2x2048x11264, .bf16⟩
  | .hbm, ⟨6, _⟩ => ⟨S2x2x5632x2048, .bf16⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S16384x2048, .f32⟩
  | .hbm, ⟨14, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048x512, .bf16⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_20 : BitVec 32 := 0#32
  let v24 : BitVec 1 := Scalar.cmpi .ne v23 c0_i32_20
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16384x2048 : Shape := ⟨2, ![16384, 2048]⟩
abbrev S2x2x2048x11264 : Shape := ⟨4, ![2, 2, 2048, 11264]⟩
abbrev S2x2x5632x2048 : Shape := ⟨4, ![2, 2, 5632, 2048]⟩
abbrev S2x3x2048 : Shape := ⟨3, ![2, 3, 2048]⟩
abbrev S_ : Shape := ⟨0, ![]⟩
abbrev S1x1x2048x11264 : Shape := ⟨4, ![1, 1, 2048, 11264]⟩
abbrev S2048x11264 : Shape := ⟨2, ![2048, 11264]⟩
abbrev S1x1x5632x2048 : Shape := ⟨4, ![1, 1, 5632, 2048]⟩
abbrev S5632x2048 : Shape := ⟨2, ![5632, 2048]⟩
abbrev S16384x11264 : Shape := ⟨2, ![16384, 11264]⟩
abbrev S16384x5632 : Shape := ⟨2, ![16384, 5632]⟩
abbrev S1x1x2048 : Shape := ⟨3, ![1, 1, 2048]⟩
abbrev S2048 : Shape := ⟨1, ![2048]⟩
abbrev S16384 : Shape := ⟨1, ![16384]⟩
abbrev S16384x1 : Shape := ⟨2, ![16384, 1]⟩
abbrev S1x2048 : Shape := ⟨2, ![1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2x2048x11264, .f32⟩
  | .hbm, ⟨2, _⟩ => ⟨S2x2x5632x2048, .f32⟩
  | .hbm, ⟨3, _⟩ => ⟨S2x3x2048, .f32⟩
  | .hbm, ⟨4, _⟩ => ⟨S2x3x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S1x1x2048x11264, .f32⟩
  | .hbm, ⟨9, _⟩ => ⟨S2048x11264, .f32⟩
  | .hbm, ⟨10, _⟩ => ⟨S1x1x5632x2048, .f32⟩
  | .hbm, ⟨11, _⟩ => ⟨S5632x2048, .f32⟩
  | .hbm, ⟨12, _⟩ => ⟨S16384x11264, .f32⟩
  | .hbm, ⟨13, _⟩ => ⟨S16384x5632, .f32⟩
  | .hbm, ⟨14, _⟩ => ⟨S16384x5632, .f32⟩
  | .hbm, ⟨15, _⟩ => ⟨S16384x5632, .f32⟩
  | .hbm, ⟨16, _⟩ => ⟨S16384x5632, .f32⟩
  | .hbm, ⟨17, _⟩ => ⟨S_, .f32⟩
  | .hbm, ⟨18, _⟩ => ⟨S16384x5632, .f32⟩
  | .hbm, ⟨19, _⟩ => ⟨S16384x5632, .f32⟩
  | .hbm, ⟨20, _⟩ => ⟨S_, .f32⟩
  | .hbm, ⟨21, _⟩ => ⟨S16384x5632, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S16384x2048, .f32⟩
  | .hbm, ⟨26, _⟩ => ⟨S_, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S1x1x2048, .f32⟩
  | .hbm, ⟨31, _⟩ => ⟨S2048, .f32⟩
  | .hbm, ⟨32, _⟩ => ⟨S1x1x2048, .f32⟩
  | .hbm, ⟨33, _⟩ => ⟨S2048, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | .hbm, ⟨60, _⟩ => ⟨S1x2048, .f32⟩
  | .hbm, ⟨61, _⟩ => ⟨S16384x2048, .f32⟩
  | .hbm, ⟨62, _⟩ => ⟨S16384x2048, .f32⟩
  | .hbm, ⟨63, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Kernel3.lean ====
abbrev S16640x2048 : Shape := ⟨2, ![16640, 2048]⟩
abbrev S1x2048x6160 : Shape := ⟨3, ![1, 2048, 6160]⟩
abbrev S2048x6160 : Shape := ⟨2, ![2048, 6160]⟩
abbrev S16640x6144 : Shape := ⟨2, ![16640, 6144]⟩
abbrev S640x2048 : Shape := ⟨2, ![640, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S16640x2048, .bf16⟩
  | .hbm, ⟨1, _⟩ => ⟨S1x2048x6160, .f32⟩
  | .hbm, ⟨2, _⟩ => ⟨S2048x6160, .f32⟩
  | .hbm, ⟨3, _⟩ => ⟨S2048x6160, .bf16⟩
  | .hbm, ⟨4, _⟩ => ⟨S16640x6144, .bf16⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S2048x2048, .bf16⟩
  | .local _ .vmem, ⟨4, _⟩ => ⟨S640x2048, .bf16⟩
  | .local _ .vmem, ⟨5, _⟩ => ⟨S640x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16640x2048 : Shape := ⟨2, ![16640, 2048]⟩
abbrev S1x2048x6160 : Shape := ⟨3, ![1, 2048, 6160]⟩
abbrev S2048x6160 : Shape := ⟨2, ![2048, 6160]⟩
abbrev S16640x6160 : Shape := ⟨2, ![16640, 6160]⟩
abbrev S16640x6144 : Shape := ⟨2, ![16640, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S1x2048x6160, .f32⟩
  | .hbm, ⟨2, _⟩ => ⟨S16640x2048, .f32⟩
  | .hbm, ⟨3, _⟩ => ⟨S2048x6160, .f32⟩
  | .hbm, ⟨4, _⟩ => ⟨S16640x6160, .f32⟩
  | .hbm, ⟨5, _⟩ => ⟨S16640x6144, .f32⟩
  | .hbm, ⟨6, _⟩ => ⟨S16640x6144, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S16640x2048 : Shape := ⟨2, ![16640, 2048]⟩
abbrev S1x2048x6160 : Shape := ⟨3, ![1, 2048, 6160]⟩
abbrev S2048x6160 : Shape := ⟨2, ![2048, 6160]⟩
abbrev S2048x16 : Shape := ⟨2, ![2048, 16]⟩
abbrev S_ : Shape := ⟨0, ![]⟩
abbrev S2048x128 : Shape := ⟨2, ![2048, 128]⟩
abbrev S16640x128 : Shape := ⟨2, ![16640, 128]⟩
abbrev S640x2048 : Shape := ⟨2, ![640, 2048]⟩
abbrev S640x128 : Shape := ⟨2, ![640, 128]⟩

abbrev nBuf : Space → Nat
  | .hbm => 9
  | .vmem => 5
  | .smem => 0
  | _ => 0

abbrev bufTy : (tb : Table) → Fin (tcTables nBuf tb) → BufTy
  | .hbm, ⟨0, _⟩ => ⟨S16640x2048, .bf16⟩
  | .hbm, ⟨1, _⟩ => ⟨S1x2048x6160, .f32⟩
  | .hbm, ⟨2, _⟩ => ⟨S2048x6160, .f32⟩
  | .hbm, ⟨3, _⟩ => ⟨S2048x6160, .bf16⟩
  | .hbm, ⟨4, _⟩ => ⟨S2048x16, .bf16⟩
  | .hbm, ⟨5, _⟩ => ⟨S_, .i32⟩
  | .hbm, ⟨6, _⟩ => ⟨S_, .bf16⟩
  | .hbm, ⟨7, _⟩ => ⟨S2048x128, .bf16⟩
  | .hbm, ⟨8, _⟩ => ⟨S16640x128, .f32⟩
  | .local _ .vmem, ⟨0, _⟩ => ⟨S640x2048, .bf16⟩
  | .local _ .vmem, ⟨1, _⟩ => ⟨S640x2048, .bf16⟩
  | .local _ .vmem, ⟨2, _⟩ => ⟨S2048x128, .bf16⟩
  | .local _ .vmem, ⟨3, _⟩ => ⟨S640x128, .f32⟩
  | .local _ .vmem, ⟨4, _⟩ => ⟨S640x128, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16640x2048 : Shape := ⟨2, ![16640, 2048]⟩
abbrev S1x2048x6160 : Shape := ⟨3, ![1, 2048, 6160]⟩
abbrev S2048x6160 : Shape := ⟨2, ![2048, 6160]⟩
abbrev S16640x6160 : Shape := ⟨2, ![16640, 6160]⟩
abbrev S16640x16 : Shape := ⟨2, ![16640, 16]⟩
abbrev S_ : Shape := ⟨0, ![]⟩
abbrev S16640x128 : Shape := ⟨2, ![16640, 128]⟩

abbrev nBuf : Space → Nat
  | .hbm => 9
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S1x2048x6160, .f32⟩
  | .hbm, ⟨2, _⟩ => ⟨S16640x2048, .f32⟩
  | .hbm, ⟨3, _⟩ => ⟨S2048x6160, .f32⟩
  | .hbm, ⟨4, _⟩ => ⟨S16640x6160, .f32⟩
  | .hbm, ⟨5, _⟩ => ⟨S16640x16, .f32⟩
  | .hbm, ⟨6, _⟩ => ⟨S_, .i32⟩
  | .hbm, ⟨7, _⟩ => ⟨S_, .f32⟩
  | .hbm, ⟨8, _⟩ => ⟨S16640x128, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S16640x2048 : Shape := ⟨2, ![16640, 2048]⟩
abbrev S1x2048x2048 : Shape := ⟨3, ![1, 2048, 2048]⟩
abbrev S2048x2048 : Shape := ⟨2, ![2048, 2048]⟩
abbrev S640x2048 : Shape := ⟨2, ![640, 2048]⟩

abbrev nBuf : Space → Nat
  | .hbm => 5
  | .vmem => 5
  | .smem => 0
  | _ => 0

abbrev bufTy : (tb : Table) → Fin (tcTables nBuf tb) → BufTy
  | .hbm, ⟨0, _⟩ => ⟨S16640x2048, .bf16⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S16640x2048, .bf16⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S640x2048, .bf16⟩
  | .local _ .vmem, ⟨4, _⟩ => ⟨S640x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16640x2048 : Shape := ⟨2, ![16640, 2048]⟩
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S1x2048x2048, .f32⟩
  | .hbm, ⟨2, _⟩ => ⟨S16640x2048, .f32⟩
  | .hbm, ⟨3, _⟩ => ⟨S2048x2048, .f32⟩
  | .hbm, ⟨4, _⟩ => ⟨S16640x2048, .f32⟩
  | .hbm, ⟨5, _⟩ => ⟨S_, .f32⟩
  | .hbm, ⟨6, _⟩ => ⟨S16640x2048, .f32⟩
  | .hbm, ⟨7, _⟩ => ⟨S16640x2048, .f32⟩
  | .hbm, ⟨8, _⟩ => ⟨S16640x2048, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16640x2048 : Shape := ⟨2, ![16640, 2048]⟩
abbrev S2048x4096 : Shape := ⟨2, ![2048, 4096]⟩
abbrev S16640x4096 : Shape := ⟨2, ![16640, 4096]⟩
abbrev S640x2048 : Shape := ⟨2, ![640, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S16640x2048, .bf16⟩
  | .hbm, ⟨1, _⟩ => ⟨S2048x4096, .f32⟩
  | .hbm, ⟨2, _⟩ => ⟨S2048x4096, .bf16⟩
  | .hbm, ⟨3, _⟩ => ⟨S16640x4096, .bf16⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S2048x2048, .bf16⟩
  | .local _ .vmem, ⟨4, _⟩ => ⟨S640x2048, .bf16⟩
  | .local _ .vmem, ⟨5, _⟩ => ⟨S640x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16640x2048 : Shape := ⟨2, ![16640, 2048]⟩
abbrev S2048x4096 : Shape := ⟨2, ![2048, 4096]⟩
abbrev S16640x4096 : Shape := ⟨2, ![16640, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S2048x4096, .f32⟩
  | .hbm, ⟨2, _⟩ => ⟨S16640x2048, .f32⟩
  | .hbm, ⟨3, _⟩ => ⟨S16640x4096, .f32⟩
  | .hbm, ⟨4, _⟩ => ⟨S16640x4096, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S16640x2048 : Shape := ⟨2, ![16640, 2048]⟩
abbrev S1x2048x2048 : Shape := ⟨3, ![1, 2048, 2048]⟩
abbrev S2x3x2048 : Shape := ⟨3, ![2, 3, 2048]⟩
abbrev S2048x2048 : Shape := ⟨2, ![2048, 2048]⟩
abbrev S1x1x2048 : Shape := ⟨3, ![1, 1, 2048]⟩
abbrev S2048 : Shape := ⟨1, ![2048]⟩
abbrev S1x2048 : Shape := ⟨2, ![1, 2048]⟩
abbrev S640x2048 : Shape := ⟨2, ![640, 2048]⟩
abbrev S160x2048 : Shape := ⟨2, ![160, 2048]⟩
abbrev S160 : Shape := ⟨1, ![160]⟩
abbrev S160x1 : Shape := ⟨2, ![160, 1]⟩

abbrev nBuf : Space → Nat
  | .hbm => 15
  | .vmem => 11
  | .smem => 0
  | _ => 0

abbrev bufTy : (tb : Table) → Fin (tcTables nBuf tb) → BufTy
  | .hbm, ⟨0, _⟩ => ⟨S16640x2048, .bf16⟩
  | .hbm, ⟨1, _⟩ => ⟨S1x2048x2048, .f32⟩
  | .hbm, ⟨2, _⟩ => ⟨S16640x2048, .f32⟩
  | .hbm, ⟨3, _⟩ => ⟨S2x3x2048, .f32⟩
  | .hbm, ⟨4, _⟩ => ⟨S2x3x2048, .f32⟩
  | .hbm, ⟨5, _⟩ => ⟨S2048x2048, .f32⟩
  | .hbm, ⟨6, _⟩ => ⟨S2048x2048, .bf16⟩
  | .hbm, ⟨7, _⟩ => ⟨S1x1x2048, .f32⟩
  | .hbm, ⟨8, _⟩ => ⟨S2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S16640x2048, .f32⟩
  | .hbm, ⟨14, _⟩ => ⟨S16640x2048, .bf16⟩
  | .local _ .vmem, ⟨0, _⟩ => ⟨S640x2048, .bf16⟩
  | .local _ .vmem, ⟨1, _⟩ => ⟨S640x2048, .bf16⟩
  | .local _ .vmem, ⟨2, _⟩ => ⟨S2048x2048, .bf16⟩
  | .local _ .vmem, ⟨3, _⟩ => ⟨S640x2048, .f32⟩
  | .local _ .vmem, ⟨4, _⟩ => ⟨S640x2048, .f32⟩
  | .local _ .vmem, ⟨5, _⟩ => ⟨S1x2048, .f32⟩
  | .local _ .vmem, ⟨6, _⟩ => ⟨S1x2048, .f32⟩
  | .local _ .vmem, ⟨7, _⟩ => ⟨S640x2048, .f32⟩
  | .local _ .vmem, ⟨8, _⟩ => ⟨S640x2048, .f32⟩
  | .local _ .vmem, ⟨9, _⟩ => ⟨S640x2048, .bf16⟩
  | .local _ .vmem, ⟨10, _⟩ => ⟨S640x2048, .bf16⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16640x2048 : Shape := ⟨2, ![16640, 2048]⟩
abbrev S1x2048x2048 : Shape := ⟨3, ![1, 2048, 2048]⟩
abbrev S2x3x2048 : Shape := ⟨3, ![2, 3, 2048]⟩
abbrev S2048x2048 : Shape := ⟨2, ![2048, 2048]⟩
abbrev S_ : Shape := ⟨0, ![]⟩
abbrev S1x1x2048 : Shape := ⟨3, ![1, 1, 2048]⟩
abbrev S2048 : Shape := ⟨1, ![2048]⟩
abbrev S16640 : Shape := ⟨1, ![16640]⟩
abbrev S16640x1 : Shape := ⟨2, ![16640, 1]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S1x2048x2048, .f32⟩
  | .hbm, ⟨2, _⟩ => ⟨S16640x2048, .f32⟩
  | .hbm, ⟨3, _⟩ => ⟨S2x3x2048, .f32⟩
  | .hbm, ⟨4, _⟩ => ⟨S2x3x2048, .f32⟩
  | .hbm, ⟨5, _⟩ => ⟨S16640x2048, .f32⟩
  | .hbm, ⟨6, _⟩ => ⟨S2048x2048, .f32⟩
  | .hbm, ⟨7, _⟩ => ⟨S16640x2048, .f32⟩
  | .hbm, ⟨8, _⟩ => ⟨S_, .f32⟩
  | .hbm, ⟨9, _⟩ => ⟨S16640x2048, .f32⟩
  | .hbm, ⟨10, _⟩ => ⟨S16640x2048, .f32⟩
  | .hbm, ⟨11, _⟩ => ⟨S16640x2048, .f32⟩
  | .hbm, ⟨12, _⟩ => ⟨S1x1x2048, .f32⟩
  | .hbm, ⟨13, _⟩ => ⟨S2048, .f32⟩
  | .hbm, ⟨14, _⟩ => ⟨S1x1x2048, .f32⟩
  | .hbm, ⟨15, _⟩ => ⟨S2048, .f32⟩
  | .hbm, ⟨16, _⟩ => ⟨S_, .f32⟩
  | .hbm, ⟨17, _⟩ => ⟨S16640, .f32⟩
  | .hbm, ⟨18, _⟩ => ⟨S16640x1, .f32⟩
  | .hbm, ⟨19, _⟩ => ⟨S_, .f32⟩
  | .hbm, ⟨20, _⟩ => ⟨S16640x1, .f32⟩
  | .hbm, ⟨21, _⟩ => ⟨S16640x1, .f32⟩
  | .hbm, ⟨22, _⟩ => ⟨S16640x2048, .f32⟩
  | .hbm, ⟨23, _⟩ => ⟨S16640x2048, .f32⟩
  | .hbm, ⟨24, _⟩ => ⟨S16640x2048, .f32⟩
  | .hbm, ⟨25, _⟩ => ⟨S_, .f32⟩
  | .hbm, ⟨26, _⟩ => ⟨S16640, .f32⟩
  | .hbm, ⟨27, _⟩ => ⟨S16640x1, .f32⟩
  | .hbm, ⟨28, _⟩ => ⟨S_, .f32⟩
  | .hbm, ⟨29, _⟩ => ⟨S16640x1, .f32⟩
  | .hbm, ⟨30, _⟩ => ⟨S16640x1, .f32⟩
  | .hbm, ⟨31, _⟩ => ⟨S16640x2048, .f32⟩
  | .hbm, ⟨32, _⟩ => ⟨S16640x2048, .f32⟩
  | .hbm, ⟨33, _⟩ => ⟨S_, .f32⟩
  | .hbm, ⟨34, _⟩ => ⟨S16640x1, .f32⟩
  | .hbm, ⟨35, _⟩ => ⟨S16640x1, .f32⟩
  | .hbm, ⟨36, _⟩ => ⟨S16640x1, .f32⟩
  | .hbm, ⟨37, _⟩ => ⟨S16640x2048, .f32⟩
  | .hbm, ⟨38, _⟩ => ⟨S16640x2048, .f32⟩
  | .hbm, ⟨39, _⟩ => ⟨S1x2048, .f32⟩
  | .hbm, ⟨40, _⟩ => ⟨S16640x2048, .f32⟩
  | .hbm, ⟨41, _⟩ => ⟨S16640x2048, .f32⟩
  | .hbm, ⟨42, _⟩ => ⟨S1x2048, .f32⟩
  | .hbm, ⟨43, _⟩ => ⟨S16640x2048, .f32⟩
  | .hbm, ⟨44, _⟩ => ⟨S16640x2048, .f32⟩
  | .hbm, ⟨45, _⟩ => ⟨S16640x2048, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel8.lean ====
abbrev S16640x2048 : Shape := ⟨2, ![16640, 2048]⟩
abbrev S16640x4096 : Shape := ⟨2, ![16640, 4096]⟩
abbrev S256x256 : Shape := ⟨2, ![256, 256]⟩
abbrev S1280x256 : Shape := ⟨2, ![1280, 256]⟩
abbrev S16640x256 : Shape := ⟨2, ![16640, 256]⟩
abbrev S2560x128 : Shape := ⟨2, ![2560, 128]⟩
abbrev S256x128 : Shape := ⟨2, ![256, 128]⟩
abbrev S256x1 : Shape := ⟨2, ![256, 1]⟩
abbrev S1x256x128 : Shape := ⟨3, ![1, 256, 128]⟩
abbrev S1 : Shape := ⟨1, ![1]⟩
abbrev S1x1x1 : Shape := ⟨3, ![1, 1, 1]⟩

abbrev nBuf : Space → Nat
  | .hbm => 4
  | .vmem => 11
  | .smem => 0
  | _ => 0

abbrev bufTy : (tb : Table) → Fin (tcTables nBuf tb) → BufTy
  | .hbm, ⟨0, _⟩ => ⟨S16640x2048, .bf16⟩
  | .hbm, ⟨1, _⟩ => ⟨S16640x4096, .bf16⟩
  | .hbm, ⟨2, _⟩ => ⟨S256x256, .bf16⟩
  | .hbm, ⟨3, _⟩ => ⟨S16640x2048, .bf16⟩
  | .local _ .vmem, ⟨0, _⟩ => ⟨S1280x256, .bf16⟩
  | .local _ .vmem, ⟨1, _⟩ => ⟨S1280x256, .bf16⟩
  | .local _ .vmem, ⟨2, _⟩ => ⟨S16640x256, .bf16⟩
  | .local _ .vmem, ⟨3, _⟩ => ⟨S16640x256, .bf16⟩
  | .local _ .vmem, ⟨4, _⟩ => ⟨S16640x256, .bf16⟩
  | .local _ .vmem, ⟨5, _⟩ => ⟨S16640x256, .bf16⟩
  | .local _ .vmem, ⟨6, _⟩ => ⟨S256x256, .bf16⟩
  | .local _ .vmem, ⟨7, _⟩ => ⟨S1280x256, .bf16⟩
  | .local _ .vmem, ⟨8, _⟩ => ⟨S1280x256, .bf16⟩
  | .local _ .vmem, ⟨9, _⟩ => ⟨S1280x256, .f32⟩
  | .local _ .vmem, ⟨10, _⟩ => ⟨S2560x128, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 13], ![false, false]⟩

def k0_mult1 (i : grid0.Coords) : BitVec 32 :=
  let arg1 : BitVec 32 := BitVec.ofNat 32 (i 1).val
  let c5_i32 : BitVec 32 := 5#32
  let v0 : BitVec 32 := Scalar.muli arg1 c5_i32
  let c0_i32 : BitVec 32 := 0#32
  let v3 : BitVec 32 := Scalar.addi v0 c0_i32
  let c256_i32 : BitVec 32 := 256#32
  let v4 : BitVec 32 := Scalar.muli v3 c256_i32
  v4
def k0_off1 (i : grid0.Coords) (c0_i32 : BitVec 32) : Fin 2 → Nat :=
  let arg1 : BitVec 32 := BitVec.ofNat 32 (i 1).val
  let c5_i32 : BitVec 32 := 5#32
  let v0 : BitVec 32 := Scalar.muli arg1 c5_i32
  let v3 : BitVec 32 := Scalar.addi v0 c0_i32
  let c256_i32 : BitVec 32 := 256#32
  let v4 : BitVec 32 := Scalar.muli v3 c256_i32
  let v5 : BitVec 32 := v4
  let v6 : Index := Scalar.indexCast v5
  let c0_3 : Index := 0#32
  ![v6.toNat, 0]
def k0_mult2 (i : grid0.Coords) : BitVec 32 :=
  let arg1 : BitVec 32 := BitVec.ofNat 32 (i 1).val
  let c5_i32 : BitVec 32 := 5#32
  let v0 : BitVec 32 := Scalar.muli arg1 c5_i32
  let c0_i32_4 : BitVec 32 := 0#32
  let v8 : BitVec 32 := Scalar.addi v0 c0_i32_4
  let c256_i32_5 : BitVec 32 := 256#32
  let v9 : BitVec 32 := Scalar.muli v8 c256_i32_5
  v9
def k0_mult3 (i : grid0.Coords) : BitVec 32 :=
  let arg1 : BitVec 32 := BitVec.ofNat 32 (i 1).val
  let c5_i32 : BitVec 32 := 5#32
  let v0 : BitVec 32 := Scalar.muli arg1 c5_i32
  let c0_i32_14 : BitVec 32 := 0#32
  let v40 : BitVec 32 := Scalar.addi v0 c0_i32_14
  let c1_i32 : BitVec 32 := 1#32
  let v41 : BitVec 32 := Scalar.subi v40 c1_i32
  let c0_i32_15 : BitVec 32 := 0#32
  let v42 : BitVec 32 := Scalar.maxsi v41 c0_i32_15
  let c256_i32_16 : BitVec 32 := 256#32
  let v43 : BitVec 32 := Scalar.muli v42 c256_i32_16
  v43
def k0_off2 (i : grid0.Coords) (c0_i32_14 : BitVec 32) : Fin 2 → Nat :=
  let arg1 : BitVec 32 := BitVec.ofNat 32 (i 1).val
  let c5_i32 : BitVec 32 := 5#32
  let v0 : BitVec 32 := Scalar.muli arg1 c5_i32
  let v40 : BitVec 32 := Scalar.addi v0 c0_i32_14
  let c1_i32 : BitVec 32 := 1#32
  let v41 : BitVec 32 := Scalar.subi v40 c1_i32
  let c0_i32_15 : BitVec 32 := 0#32
  let v42 : BitVec 32 := Scalar.maxsi v41 c0_i32_15
  let c256_i32_16 : BitVec 32 := 256#32
  let v43 : BitVec 32 := Scalar.muli v42 c256_i32_16
  let v44 : BitVec 32 := v43
  let v45 : Index := Scalar.indexCast v44
  let c0_17 : Index := 0#32
  ![v45.toNat, 0]
def k0_mult4 (i : grid0.Coords) : BitVec 32 :=
  let arg1 : BitVec 32 := BitVec.ofNat 32 (i 1).val
  let c5_i32 : BitVec 32 := 5#32
  let v0 : BitVec 32 := Scalar.muli arg1 c5_i32
  let c0_i32_14 : BitVec 32 := 0#32
  let v40 : BitVec 32 := Scalar.addi v0 c0_i32_14
  let c1_i32 : BitVec 32 := 1#32
  let v41 : BitVec 32 := Scalar.subi v40 c1_i32
  let c0_i32_15 : BitVec 32 := 0#32
  let v42 : BitVec 32 := Scalar.maxsi v41 c0_i32_15
  let c256_i32_18 : BitVec 32 := 256#32
  let v47 : BitVec 32 := Scalar.muli v42 c256_i32_18
  v47
def k0_mult5 (i : grid0.Coords) : BitVec 32 :=
  let arg1 : BitVec 32 := BitVec.ofNat 32 (i 1).val
  let c5_i32 : BitVec 32 := 5#32
  let v0 : BitVec 32 := Scalar.muli arg1 c5_i32
  let c1_i32_33 : BitVec 32 := 1#32
  let v86 : BitVec 32 := Scalar.addi v0 c1_i32_33
  let c256_i32_34 : BitVec 32 := 256#32
  let v87 : BitVec 32 := Scalar.muli v86 c256_i32_34
  v87
def k0_mult6 (i : grid0.Coords) : BitVec 32 :=
  let arg1 : BitVec 32 := BitVec.ofNat 32 (i 1).val
  let c5_i32 : BitVec 32 := 5#32
  let v0 : BitVec 32 := Scalar.muli arg1 c5_i32
  let c1_i32_36 : BitVec 32 := 1#32
  let v91 : BitVec 32 := Scalar.addi v0 c1_i32_36
  let c256_i32_37 : BitVec 32 := 256#32
  let v92 : BitVec 32 := Scalar.muli v91 c256_i32_37
  v92
def k0_mult7 (i : grid0.Coords) : BitVec 32 :=
  let arg1 : BitVec 32 := BitVec.ofNat 32 (i 1).val
  let c5_i32 : BitVec 32 := 5#32
  let v0 : BitVec 32 := Scalar.muli arg1 c5_i32
  let c1_i32_47 : BitVec 32 := 1#32
  let v123 : BitVec 32 := Scalar.addi v0 c1_i32_47
  let c1_i32_48 : BitVec 32 := 1#32
  let v124 : BitVec 32 := Scalar.subi v123 c1_i32_48
  let c0_i32_49 : BitVec 32 := 0#32
  let v125 : BitVec 32 := Scalar.maxsi v124 c0_i32_49
  let c256_i32_50 : BitVec 32 := 256#32
  let v126 : BitVec 32 := Scalar.muli v125 c256_i32_50
  v126
def k0_mult8 (i : grid0.Coords) : BitVec 32 :=
  let arg1 : BitVec 32 := BitVec.ofNat 32 (i 1).val
  let c5_i32 : BitVec 32 := 5#32
  let v0 : BitVec 32 := Scalar.muli arg1 c5_i32
  let c1_i32_47 : BitVec 32 := 1#32
  let v123 : BitVec 32 := Scalar.addi v0 c1_i32_47
  let c1_i32_48 : BitVec 32 := 1#32
  let v124 : BitVec 32 := Scalar.subi v123 c1_i32_48
  let c0_i32_49 : BitVec 32 := 0#32
  let v125 : BitVec 32 := Scalar.maxsi v124 c0_i32_49
  let c256_i32_52 : BitVec 32 := 256#32
  let v130 : BitVec 32 := Scalar.muli v125 c256_i32_52
  v130
def k0_mult9 (i : grid0.Coords) : BitVec 32 :=
  let arg1 : BitVec 32 := BitVec.ofNat 32 (i 1).val
  let c5_i32 : BitVec 32 := 5#32
  let v0 : BitVec 32 := Scalar.muli arg1 c5_i32
  let c2_i32 : BitVec 32 := 2#32
  let v165 : BitVec 32 := Scalar.addi v0 c2_i32
  let c256_i32_65 : BitVec 32 := 256#32
  let v166 : BitVec 32 := Scalar.muli v165 c256_i32_65
  v166
def k0_mult10 (i : grid0.Coords) : BitVec 32 :=
  let arg1 : BitVec 32 := BitVec.ofNat 32 (i 1).val
  let c5_i32 : BitVec 32 := 5#32
  let v0 : BitVec 32 := Scalar.muli arg1 c5_i32
  let c2_i32_67 : BitVec 32 := 2#32
  let v170 : BitVec 32 := Scalar.addi v0 c2_i32_67
  let c256_i32_68 : BitVec 32 := 256#32
  let v171 : BitVec 32 := Scalar.muli v170 c256_i32_68
  v171
def k0_mult11 (i : grid0.Coords) : BitVec 32 :=
  let arg1 : BitVec 32 := BitVec.ofNat 32 (i 1).val
  let c5_i32 : BitVec 32 := 5#32
  let v0 : BitVec 32 := Scalar.muli arg1 c5_i32
  let c2_i32_78 : BitVec 32 := 2#32
  let v202 : BitVec 32 := Scalar.addi v0 c2_i32_78
  let c1_i32_79 : BitVec 32 := 1#32
  let v203 : BitVec 32 := Scalar.subi v202 c1_i32_79
  let c0_i32_80 : BitVec 32 := 0#32
  let v204 : BitVec 32 := Scalar.maxsi v203 c0_i32_80
  let c256_i32_81 : BitVec 32 := 256#32
  let v205 : BitVec 32 := Scalar.muli v204 c256_i32_81
  v205
def k0_mult12 (i : grid0.Coords) : BitVec 32 :=
  let arg1 : BitVec 32 := BitVec.ofNat 32 (i 1).val
  let c5_i32 : BitVec 32 := 5#32
  let v0 : BitVec 32 := Scalar.muli arg1 c5_i32
  let c2_i32_78 : BitVec 32 := 2#32
  let v202 : BitVec 32 := Scalar.addi v0 c2_i32_78
  let c1_i32_79 : BitVec 32 := 1#32
  let v203 : BitVec 32 := Scalar.subi v202 c1_i32_79
  let c0_i32_80 : BitVec 32 := 0#32
  let v204 : BitVec 32 := Scalar.maxsi v203 c0_i32_80
  let c256_i32_83 : BitVec 32 := 256#32
  let v209 : BitVec 32 := Scalar.muli v204 c256_i32_83
  v209
def k0_mult13 (i : grid0.Coords) : BitVec 32 :=
  let arg1 : BitVec 32 := BitVec.ofNat 32 (i 1).val
  let c5_i32 : BitVec 32 := 5#32
  let v0 : BitVec 32 := Scalar.muli arg1 c5_i32
  let c3_i32 : BitVec 32 := 3#32
  let v244 : BitVec 32 := Scalar.addi v0 c3_i32
  let c256_i32_96 : BitVec 32 := 256#32
  let v245 : BitVec 32 := Scalar.muli v244 c256_i32_96
  v245
def k0_mult14 (i : grid0.Coords) : BitVec 32 :=
  let arg1 : BitVec 32 := BitVec.ofNat 32 (i 1).val
  let c5_i32 : BitVec 32 := 5#32
  let v0 : BitVec 32 := Scalar.muli arg1 c5_i32
  let c3_i32_98 : BitVec 32 := 3#32
  let v249 : BitVec 32 := Scalar.addi v0 c3_i32_98
  let c256_i32_99 : BitVec 32 := 256#32
  let v250 : BitVec 32 := Scalar.muli v249 c256_i32_99
  v250
def k0_mult15 (i : grid0.Coords) : BitVec 32 :=
  let arg1 : BitVec 32 := BitVec.ofNat 32 (i 1).val
  let c5_i32 : BitVec 32 := 5#32
  let v0 : BitVec 32 := Scalar.muli arg1 c5_i32
  let c3_i32_109 : BitVec 32 := 3#32
  let v281 : BitVec 32 := Scalar.addi v0 c3_i32_109
  let c1_i32_110 : BitVec 32 := 1#32
  let v282 : BitVec 32 := Scalar.subi v281 c1_i32_110
  let c0_i32_111 : BitVec 32 := 0#32
  let v283 : BitVec 32 := Scalar.maxsi v282 c0_i32_111
  let c256_i32_112 : BitVec 32 := 256#32
  let v284 : BitVec 32 := Scalar.muli v283 c256_i32_112
  v284
def k0_mult16 (i : grid0.Coords) : BitVec 32 :=
  let arg1 : BitVec 32 := BitVec.ofNat 32 (i 1).val
  let c5_i32 : BitVec 32 := 5#32
  let v0 : BitVec 32 := Scalar.muli arg1 c5_i32
  let c3_i32_109 : BitVec 32 := 3#32
  let v281 : BitVec 32 := Scalar.addi v0 c3_i32_109
  let c1_i32_110 : BitVec 32 := 1#32
  let v282 : BitVec 32 := Scalar.subi v281 c1_i32_110
  let c0_i32_111 : BitVec 32 := 0#32
  let v283 : BitVec 32 := Scalar.maxsi v282 c0_i32_111
  let c256_i32_114 : BitVec 32 := 256#32
  let v288 : BitVec 32 := Scalar.muli v283 c256_i32_114
  v288
def k0_mult17 (i : grid0.Coords) : BitVec 32 :=
  let arg1 : BitVec 32 := BitVec.ofNat 32 (i 1).val
  let c5_i32 : BitVec 32 := 5#32
  let v0 : BitVec 32 := Scalar.muli arg1 c5_i32
  let c4_i32 : BitVec 32 := 4#32
  let v323 : BitVec 32 := Scalar.addi v0 c4_i32
  let c256_i32_127 : BitVec 32 := 256#32
  let v324 : BitVec 32 := Scalar.muli v323 c256_i32_127
  v324
def k0_mult18 (i : grid0.Coords) : BitVec 32 :=
  let arg1 : BitVec 32 := BitVec.ofNat 32 (i 1).val
  let c5_i32 : BitVec 32 := 5#32
  let v0 : BitVec 32 := Scalar.muli arg1 c5_i32
  let c4_i32_129 : BitVec 32 := 4#32
  let v328 : BitVec 32 := Scalar.addi v0 c4_i32_129
  let c256_i32_130 : BitVec 32 := 256#32
  let v329 : BitVec 32 := Scalar.muli v328 c256_i32_130
  v329
def k0_mult19 (i : grid0.Coords) : BitVec 32 :=
  let arg1 : BitVec 32 := BitVec.ofNat 32 (i 1).val
  let c5_i32 : BitVec 32 := 5#32
  let v0 : BitVec 32 := Scalar.muli arg1 c5_i32
  let c4_i32_140 : BitVec 32 := 4#32
  let v360 : BitVec 32 := Scalar.addi v0 c4_i32_140
  let c1_i32_141 : BitVec 32 := 1#32
  let v361 : BitVec 32 := Scalar.subi v360 c1_i32_141
  let c0_i32_142 : BitVec 32 := 0#32
  let v362 : BitVec 32 := Scalar.maxsi v361 c0_i32_142
  let c256_i32_143 : BitVec 32 := 256#32
  let v363 : BitVec 32 := Scalar.muli v362 c256_i32_143
  v363
def k0_mult20 (i : grid0.Coords) : BitVec 32 :=
  let arg1 : BitVec 32 := BitVec.ofNat 32 (i 1).val
  let c5_i32 : BitVec 32 := 5#32
  let v0 : BitVec 32 := Scalar.muli arg1 c5_i32
  let c4_i32_140 : BitVec 32 := 4#32
  let v360 : BitVec 32 := Scalar.addi v0 c4_i32_140
  let c1_i32_141 : BitVec 32 := 1#32
  let v361 : BitVec 32 := Scalar.subi v360 c1_i32_141
  let c0_i32_142 : BitVec 32 := 0#32
  let v362 : BitVec 32 := Scalar.maxsi v361 c0_i32_142
  let c256_i32_145 : BitVec 32 := 256#32
  let v367 : BitVec 32 := Scalar.muli v362 c256_i32_145
  v367
def k0_mult21 (i : grid0.Coords) : BitVec 32 :=
  let arg1 : BitVec 32 := BitVec.ofNat 32 (i 1).val
  let c5_i32 : BitVec 32 := 5#32
  let v0 : BitVec 32 := Scalar.muli arg1 c5_i32
  let c0_i32_158 : BitVec 32 := 0#32
  let v402 : BitVec 32 := Scalar.addi v0 c0_i32_158
  let c256_i32_159 : BitVec 32 := 256#32
  let v403 : BitVec 32 := Scalar.muli v402 c256_i32_159
  v403
def k0_off3 (i : grid0.Coords) (c0_i32_158 : BitVec 32) : Fin 2 → Nat :=
  let arg1 : BitVec 32 := BitVec.ofNat 32 (i 1).val
  let c5_i32 : BitVec 32 := 5#32
  let v0 : BitVec 32 := Scalar.muli arg1 c5_i32
  let v402 : BitVec 32 := Scalar.addi v0 c0_i32_158
  let c256_i32_159 : BitVec 32 := 256#32
  let v403 : BitVec 32 := Scalar.muli v402 c256_i32_159
  let v404 : BitVec 32 := v403
  let v405 : Index := Scalar.indexCast v404
  let c128_160 : Index := 128#32
  ![v405.toNat, 128]
def k0_mult22 (i : grid0.Coords) : BitVec 32 :=
  let arg1 : BitVec 32 := BitVec.ofNat 32 (i 1).val
  let c5_i32 : BitVec 32 := 5#32
  let v0 : BitVec 32 := Scalar.muli arg1 c5_i32
  let c0_i32_161 : BitVec 32 := 0#32
  let v407 : BitVec 32 := Scalar.addi v0 c0_i32_161
  let c256_i32_162 : BitVec 32 := 256#32
  let v408 : BitVec 32 := Scalar.muli v407 c256_i32_162
  v408
def k0_mult23 (i : grid0.Coords) : BitVec 32 :=
  let arg1 : BitVec 32 := BitVec.ofNat 32 (i 1).val
  let c5_i32 : BitVec 32 := 5#32
  let v0 : BitVec 32 := Scalar.muli arg1 c5_i32
  let c0_i32_172 : BitVec 32 := 0#32
  let v439 : BitVec 32 := Scalar.addi v0 c0_i32_172
  let c1_i32_173 : BitVec 32 := 1#32
  let v440 : BitVec 32 := Scalar.subi v439 c1_i32_173
  let c0_i32_174 : BitVec 32 := 0#32
  let v441 : BitVec 32 := Scalar.maxsi v440 c0_i32_174
  let c256_i32_175 : BitVec 32 := 256#32
  let v442 : BitVec 32 := Scalar.muli v441 c256_i32_175
  v442
def k0_off4 (i : grid0.Coords) (c0_i32_172 : BitVec 32) : Fin 2 → Nat :=
  let arg1 : BitVec 32 := BitVec.ofNat 32 (i 1).val
  let c5_i32 : BitVec 32 := 5#32
  let v0 : BitVec 32 := Scalar.muli arg1 c5_i32
  let v439 : BitVec 32 := Scalar.addi v0 c0_i32_172
  let c1_i32_173 : BitVec 32 := 1#32
  let v440 : BitVec 32 := Scalar.subi v439 c1_i32_173
  let c0_i32_174 : BitVec 32 := 0#32
  let v441 : BitVec 32 := Scalar.maxsi v440 c0_i32_174
  let c256_i32_175 : BitVec 32 := 256#32
  let v442 : BitVec 32 := Scalar.muli v441 c256_i32_175
  let v443 : BitVec 32 := v442
  let v444 : Index := Scalar.indexCast v443
  let c128_176 : Index := 128#32
  ![v444.toNat, 128]
def k0_mult24 (i : grid0.Coords) : BitVec 32 :=
  let arg1 : BitVec 32 := BitVec.ofNat 32 (i 1).val
  let c5_i32 : BitVec 32 := 5#32
  let v0 : BitVec 32 := Scalar.muli arg1 c5_i32
  let c0_i32_172 : BitVec 32 := 0#32
  let v439 : BitVec 32 := Scalar.addi v0 c0_i32_172
  let c1_i32_173 : BitVec 32 := 1#32
  let v440 : BitVec 32 := Scalar.subi v439 c1_i32_173
  let c0_i32_174 : BitVec 32 := 0#32
  let v441 : BitVec 32 := Scalar.maxsi v440 c0_i32_174
  let c256_i32_177 : BitVec 32 := 256#32
  let v446 : BitVec 32 := Scalar.muli v441 c256_i32_177
  v446
def k0_mult25 (i : grid0.Coords) : BitVec 32 :=
  let arg1 : BitVec 32 := BitVec.ofNat 32 (i 1).val
  let c5_i32 : BitVec 32 := 5#32
  let v0 : BitVec 32 := Scalar.muli arg1 c5_i32
  let c1_i32_192 : BitVec 32 := 1#32
  let v485 : BitVec 32 := Scalar.addi v0 c1_i32_192
  let c256_i32_193 : BitVec 32 := 256#32
  let v486 : BitVec 32 := Scalar.muli v485 c256_i32_193
  v486
def k0_mult26 (i : grid0.Coords) : BitVec 32 :=
  let arg1 : BitVec 32 := BitVec.ofNat 32 (i 1).val
  let c5_i32 : BitVec 32 := 5#32
  let v0 : BitVec 32 := Scalar.muli arg1 c5_i32
  let c1_i32_195 : BitVec 32 := 1#32
  let v490 : BitVec 32 := Scalar.addi v0 c1_i32_195
  let c256_i32_196 : BitVec 32 := 256#32
  let v491 : BitVec 32 := Scalar.muli v490 c256_i32_196
  v491
def k0_mult27 (i : grid0.Coords) : BitVec 32 :=
  let arg1 : BitVec 32 := BitVec.ofNat 32 (i 1).val
  let c5_i32 : BitVec 32 := 5#32
  let v0 : BitVec 32 := Scalar.muli arg1 c5_i32
  let c1_i32_206 : BitVec 32 := 1#32
  let v522 : BitVec 32 := Scalar.addi v0 c1_i32_206
  let c1_i32_207 : BitVec 32 := 1#32
  let v523 : BitVec 32 := Scalar.subi v522 c1_i32_207
  let c0_i32_208 : BitVec 32 := 0#32
  let v524 : BitVec 32 := Scalar.maxsi v523 c0_i32_208
  let c256_i32_209 : BitVec 32 := 256#32
  let v525 : BitVec 32 := Scalar.muli v524 c256_i32_209
  v525
def k0_mult28 (i : grid0.Coords) : BitVec 32 :=
  let arg1 : BitVec 32 := BitVec.ofNat 32 (i 1).val
  let c5_i32 : BitVec 32 := 5#32
  let v0 : BitVec 32 := Scalar.muli arg1 c5_i32
  let c1_i32_206 : BitVec 32 := 1#32
  let v522 : BitVec 32 := Scalar.addi v0 c1_i32_206
  let c1_i32_207 : BitVec 32 := 1#32
  let v523 : BitVec 32 := Scalar.subi v522 c1_i32_207
  let c0_i32_208 : BitVec 32 := 0#32
  let v524 : BitVec 32 := Scalar.maxsi v523 c0_i32_208
  let c256_i32_211 : BitVec 32 := 256#32
  let v529 : BitVec 32 := Scalar.muli v524 c256_i32_211
  v529
def k0_mult29 (i : grid0.Coords) : BitVec 32 :=
  let arg1 : BitVec 32 := BitVec.ofNat 32 (i 1).val
  let c5_i32 : BitVec 32 := 5#32
  let v0 : BitVec 32 := Scalar.muli arg1 c5_i32
  let c2_i32_224 : BitVec 32 := 2#32
  let v564 : BitVec 32 := Scalar.addi v0 c2_i32_224
  let c256_i32_225 : BitVec 32 := 256#32
  let v565 : BitVec 32 := Scalar.muli v564 c256_i32_225
  v565
def k0_mult30 (i : grid0.Coords) : BitVec 32 :=
  let arg1 : BitVec 32 := BitVec.ofNat 32 (i 1).val
  let c5_i32 : BitVec 32 := 5#32
  let v0 : BitVec 32 := Scalar.muli arg1 c5_i32
  let c2_i32_227 : BitVec 32 := 2#32
  let v569 : BitVec 32 := Scalar.addi v0 c2_i32_227
  let c256_i32_228 : BitVec 32 := 256#32
  let v570 : BitVec 32 := Scalar.muli v569 c256_i32_228
  v570
def k0_mult31 (i : grid0.Coords) : BitVec 32 :=
  let arg1 : BitVec 32 := BitVec.ofNat 32 (i 1).val
  let c5_i32 : BitVec 32 := 5#32
  let v0 : BitVec 32 := Scalar.muli arg1 c5_i32
  let c2_i32_238 : BitVec 32 := 2#32
  let v601 : BitVec 32 := Scalar.addi v0 c2_i32_238
  let c1_i32_239 : BitVec 32 := 1#32
  let v602 : BitVec 32 := Scalar.subi v601 c1_i32_239
  let c0_i32_240 : BitVec 32 := 0#32
  let v603 : BitVec 32 := Scalar.maxsi v602 c0_i32_240
  let c256_i32_241 : BitVec 32 := 256#32
  let v604 : BitVec 32 := Scalar.muli v603 c256_i32_241
  v604
def k0_mult32 (i : grid0.Coords) : BitVec 32 :=
  let arg1 : BitVec 32 := BitVec.ofNat 32 (i 1).val
  let c5_i32 : BitVec 32 := 5#32
  let v0 : BitVec 32 := Scalar.muli arg1 c5_i32
  let c2_i32_238 : BitVec 32 := 2#32
  let v601 : BitVec 32 := Scalar.addi v0 c2_i32_238
  let c1_i32_239 : BitVec 32 := 1#32
  let v602 : BitVec 32 := Scalar.subi v601 c1_i32_239
  let c0_i32_240 : BitVec 32 := 0#32
  let v603 : BitVec 32 := Scalar.maxsi v602 c0_i32_240
  let c256_i32_243 : BitVec 32 := 256#32
  let v608 : BitVec 32 := Scalar.muli v603 c256_i32_243
  v608
def k0_mult33 (i : grid0.Coords) : BitVec 32 :=
  let arg1 : BitVec 32 := BitVec.ofNat 32 (i 1).val
  let c5_i32 : BitVec 32 := 5#32
  let v0 : BitVec 32 := Scalar.muli arg1 c5_i32
  let c3_i32_256 : BitVec 32 := 3#32
  let v643 : BitVec 32 := Scalar.addi v0 c3_i32_256
  let c256_i32_257 : BitVec 32 := 256#32
  let v644 : BitVec 32 := Scalar.muli v643 c256_i32_257
  v644
def k0_mult34 (i : grid0.Coords) : BitVec 32 :=
  let arg1 : BitVec 32 := BitVec.ofNat 32 (i 1).val
  let c5_i32 : BitVec 32 := 5#32
  let v0 : BitVec 32 := Scalar.muli arg1 c5_i32
  let c3_i32_259 : BitVec 32 := 3#32
  let v648 : BitVec 32 := Scalar.addi v0 c3_i32_259
  let c256_i32_260 : BitVec 32 := 256#32
  let v649 : BitVec 32 := Scalar.muli v648 c256_i32_260
  v649
def k0_mult35 (i : grid0.Coords) : BitVec 32 :=
  let arg1 : BitVec 32 := BitVec.ofNat 32 (i 1).val
  let c5_i32 : BitVec 32 := 5#32
  let v0 : BitVec 32 := Scalar.muli arg1 c5_i32
  let c3_i32_270 : BitVec 32 := 3#32
  let v680 : BitVec 32 := Scalar.addi v0 c3_i32_270
  let c1_i32_271 : BitVec 32 := 1#32
  let v681 : BitVec 32 := Scalar.subi v680 c1_i32_271
  let c0_i32_272 : BitVec 32 := 0#32
  let v682 : BitVec 32 := Scalar.maxsi v681 c0_i32_272
  let c256_i32_273 : BitVec 32 := 256#32
  let v683 : BitVec 32 := Scalar.muli v682 c256_i32_273
  v683
def k0_mult36 (i : grid0.Coords) : BitVec 32 :=
  let arg1 : BitVec 32 := BitVec.ofNat 32 (i 1).val
  let c5_i32 : BitVec 32 := 5#32
  let v0 : BitVec 32 := Scalar.muli arg1 c5_i32
  let c3_i32_270 : BitVec 32 := 3#32
  let v680 : BitVec 32 := Scalar.addi v0 c3_i32_270
  let c1_i32_271 : BitVec 32 := 1#32
  let v681 : BitVec 32 := Scalar.subi v680 c1_i32_271
  let c0_i32_272 : BitVec 32 := 0#32
  let v682 : BitVec 32 := Scalar.maxsi v681 c0_i32_272
  let c256_i32_275 : BitVec 32 := 256#32
  let v687 : BitVec 32 := Scalar.muli v682 c256_i32_275
  v687
def k0_mult37 (i : grid0.Coords) : BitVec 32 :=
  let arg1 : BitVec 32 := BitVec.ofNat 32 (i 1).val
  let c5_i32 : BitVec 32 := 5#32
  let v0 : BitVec 32 := Scalar.muli arg1 c5_i32
  let c4_i32_288 : BitVec 32 := 4#32
  let v722 : BitVec 32 := Scalar.addi v0 c4_i32_288
  let c256_i32_289 : BitVec 32 := 256#32
  let v723 : BitVec 32 := Scalar.muli v722 c256_i32_289
  v723
def k0_mult38 (i : grid0.Coords) : BitVec 32 :=
  let arg1 : BitVec 32 := BitVec.ofNat 32 (i 1).val
  let c5_i32 : BitVec 32 := 5#32
  let v0 : BitVec 32 := Scalar.muli arg1 c5_i32
  let c4_i32_291 : BitVec 32 := 4#32
  let v727 : BitVec 32 := Scalar.addi v0 c4_i32_291
  let c256_i32_292 : BitVec 32 := 256#32
  let v728 : BitVec 32 := Scalar.muli v727 c256_i32_292
  v728
def k0_mult39 (i : grid0.Coords) : BitVec 32 :=
  let arg1 : BitVec 32 := BitVec.ofNat 32 (i 1).val
  let c5_i32 : BitVec 32 := 5#32
  let v0 : BitVec 32 := Scalar.muli arg1 c5_i32
  let c4_i32_302 : BitVec 32 := 4#32
  let v759 : BitVec 32 := Scalar.addi v0 c4_i32_302
  let c1_i32_303 : BitVec 32 := 1#32
  let v760 : BitVec 32 := Scalar.subi v759 c1_i32_303
  let c0_i32_304 : BitVec 32 := 0#32
  let v761 : BitVec 32 := Scalar.maxsi v760 c0_i32_304
  let c256_i32_305 : BitVec 32 := 256#32
  let v762 : BitVec 32 := Scalar.muli v761 c256_i32_305
  v762
def k0_mult40 (i : grid0.Coords) : BitVec 32 :=
  let arg1 : BitVec 32 := BitVec.ofNat 32 (i 1).val
  let c5_i32 : BitVec 32 := 5#32
  let v0 : BitVec 32 := Scalar.muli arg1 c5_i32
  let c4_i32_302 : BitVec 32 := 4#32
  let v759 : BitVec 32 := Scalar.addi v0 c4_i32_302
  let c1_i32_303 : BitVec 32 := 1#32
  let v760 : BitVec 32 := Scalar.subi v759 c1_i32_303
  let c0_i32_304 : BitVec 32 := 0#32
  let v761 : BitVec 32 := Scalar.maxsi v760 c0_i32_304
  let c256_i32_307 : BitVec 32 := 256#32
  let v766 : BitVec 32 := Scalar.muli v761 c256_i32_307
  v766
def k0_mult41 (arg9 : BitVec 32) : BitVec 32 :=
  let c256_i32_374 : BitVec 32 := 256#32
  let v884 : BitVec 32 := Scalar.muli arg9 c256_i32_374
  v884

def k0_off5 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c0_375 : Index := 0#32
  ![v886.toNat, 0]
def k0_mult42 (arg9 : BitVec 32) : BitVec 32 :=
  let c256_i32_376 : BitVec 32 := 256#32
  let v888 : BitVec 32 := Scalar.muli arg9 c256_i32_376
  v888

def k0_chk1 (arg9 : BitVec 32) : Prop :=
  (256 ∣ (k0_mult41 arg9).toNat) ∧
  (∀ a, (k0_off5 arg9) a + S256x128.size a ≤ S16640x256.size a) ∧
  (256 ∣ (k0_mult42 arg9).toNat)
theorem k0_mult41_dvd : ∀ (arg9 : BitVec 32) (k0_hw1 : k0_chk1 arg9), 256 ∣ (k0_mult41 arg9).toNat := fun arg9 k0_hw1 => k0_hw1.1
theorem k0_off5_inb : ∀ (arg9 : BitVec 32) (k0_hw1 : k0_chk1 arg9), ∀ a, (k0_off5 arg9) a + S256x128.size a ≤ S16640x256.size a := fun arg9 k0_hw1 => k0_hw1.2.1
theorem k0_mult42_dvd : ∀ (arg9 : BitVec 32) (k0_hw1 : k0_chk1 arg9), 256 ∣ (k0_mult42 arg9).toNat := fun arg9 k0_hw1 => k0_hw1.2.2

def k0_mult43 (arg9 : BitVec 32) : BitVec 32 :=
  let c256_i32_374 : BitVec 32 := 256#32
  let v884 : BitVec 32 := Scalar.muli arg9 c256_i32_374
  v884

def k0_off6 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c0_375 : Index := 0#32
  ![v886.toNat, 0]
def k0_mult44 (arg9 : BitVec 32) : BitVec 32 :=
  let c256_i32_376 : BitVec 32 := 256#32
  let v888 : BitVec 32 := Scalar.muli arg9 c256_i32_376
  v888

def k0_chk2 (arg9 : BitVec 32) : Prop :=
  (256 ∣ (k0_mult43 arg9).toNat) ∧
  (∀ a, (k0_off6 arg9) a + S256x128.size a ≤ S16640x256.size a) ∧
  (256 ∣ (k0_mult44 arg9).toNat)
theorem k0_mult43_dvd : ∀ (arg9 : BitVec 32) (k0_hw2 : k0_chk2 arg9), 256 ∣ (k0_mult43 arg9).toNat := fun arg9 k0_hw2 => k0_hw2.1
theorem k0_off6_inb : ∀ (arg9 : BitVec 32) (k0_hw2 : k0_chk2 arg9), ∀ a, (k0_off6 arg9) a + S256x128.size a ≤ S16640x256.size a := fun arg9 k0_hw2 => k0_hw2.2.1
theorem k0_mult44_dvd : ∀ (arg9 : BitVec 32) (k0_hw2 : k0_chk2 arg9), 256 ∣ (k0_mult44 arg9).toNat := fun arg9 k0_hw2 => k0_hw2.2.2

def k0_mult45 (arg9 : BitVec 32) : BitVec 32 :=
  let c256_i32_374 : BitVec 32 := 256#32
  let v884 : BitVec 32 := Scalar.muli arg9 c256_i32_374
  v884

def k0_off7 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c0_375 : Index := 0#32
  ![v886.toNat, 0]
def k0_mult46 (arg9 : BitVec 32) : BitVec 32 :=
  let c256_i32_376 : BitVec 32 := 256#32
  let v888 : BitVec 32 := Scalar.muli arg9 c256_i32_376
  v888

def k0_chk3 (arg9 : BitVec 32) : Prop :=
  (256 ∣ (k0_mult45 arg9).toNat) ∧
  (∀ a, (k0_off7 arg9) a + S256x128.size a ≤ S16640x256.size a) ∧
  (256 ∣ (k0_mult46 arg9).toNat)
theorem k0_mult45_dvd : ∀ (arg9 : BitVec 32) (k0_hw3 : k0_chk3 arg9), 256 ∣ (k0_mult45 arg9).toNat := fun arg9 k0_hw3 => k0_hw3.1
theorem k0_off7_inb : ∀ (arg9 : BitVec 32) (k0_hw3 : k0_chk3 arg9), ∀ a, (k0_off7 arg9) a + S256x128.size a ≤ S16640x256.size a := fun arg9 k0_hw3 => k0_hw3.2.1
theorem k0_mult46_dvd : ∀ (arg9 : BitVec 32) (k0_hw3 : k0_chk3 arg9), 256 ∣ (k0_mult46 arg9).toNat := fun arg9 k0_hw3 => k0_hw3.2.2

def k0_mult47 (arg9 : BitVec 32) : BitVec 32 :=
  let c256_i32_374 : BitVec 32 := 256#32
  let v884 : BitVec 32 := Scalar.muli arg9 c256_i32_374
  v884

def k0_off8 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c0_375 : Index := 0#32
  ![v886.toNat, 0]
def k0_mult48 (arg9 : BitVec 32) : BitVec 32 :=
  let c256_i32_376 : BitVec 32 := 256#32
  let v888 : BitVec 32 := Scalar.muli arg9 c256_i32_376
  v888

def k0_chk4 (arg9 : BitVec 32) : Prop :=
  (256 ∣ (k0_mult47 arg9).toNat) ∧
  (∀ a, (k0_off8 arg9) a + S256x128.size a ≤ S16640x256.size a) ∧
  (256 ∣ (k0_mult48 arg9).toNat)
theorem k0_mult47_dvd : ∀ (arg9 : BitVec 32) (k0_hw4 : k0_chk4 arg9), 256 ∣ (k0_mult47 arg9).toNat := fun arg9 k0_hw4 => k0_hw4.1
theorem k0_off8_inb : ∀ (arg9 : BitVec 32) (k0_hw4 : k0_chk4 arg9), ∀ a, (k0_off8 arg9) a + S256x128.size a ≤ S16640x256.size a := fun arg9 k0_hw4 => k0_hw4.2.1
theorem k0_mult48_dvd : ∀ (arg9 : BitVec 32) (k0_hw4 : k0_chk4 arg9), 256 ∣ (k0_mult48 arg9).toNat := fun arg9 k0_hw4 => k0_hw4.2.2

def k0_mult49 (arg9 : BitVec 32) : BitVec 32 :=
  let c256_i32_374 : BitVec 32 := 256#32
  let v884 : BitVec 32 := Scalar.muli arg9 c256_i32_374
  v884

def k0_off9 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c0_375 : Index := 0#32
  ![v886.toNat, 0]
def k0_mult50 (arg9 : BitVec 32) : BitVec 32 :=
  let c256_i32_376 : BitVec 32 := 256#32
  let v888 : BitVec 32 := Scalar.muli arg9 c256_i32_376
  v888

def k0_chk5 (arg9 : BitVec 32) : Prop :=
  (256 ∣ (k0_mult49 arg9).toNat) ∧
  (∀ a, (k0_off9 arg9) a + S256x128.size a ≤ S16640x256.size a) ∧
  (256 ∣ (k0_mult50 arg9).toNat)
theorem k0_mult49_dvd : ∀ (arg9 : BitVec 32) (k0_hw5 : k0_chk5 arg9), 256 ∣ (k0_mult49 arg9).toNat := fun arg9 k0_hw5 => k0_hw5.1
theorem k0_off9_inb : ∀ (arg9 : BitVec 32) (k0_hw5 : k0_chk5 arg9), ∀ a, (k0_off9 arg9) a + S256x128.size a ≤ S16640x256.size a := fun arg9 k0_hw5 => k0_hw5.2.1
theorem k0_mult50_dvd : ∀ (arg9 : BitVec 32) (k0_hw5 : k0_chk5 arg9), 256 ∣ (k0_mult50 arg9).toNat := fun arg9 k0_hw5 => k0_hw5.2.2

def k0_mult51 (arg9 : BitVec 32) : BitVec 32 :=
  let c256_i32_374 : BitVec 32 := 256#32
  let v884 : BitVec 32 := Scalar.muli arg9 c256_i32_374
  v884

def k0_off10 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c128_375 : Index := 128#32
  ![v886.toNat, 128]
def k0_mult52 (arg9 : BitVec 32) : BitVec 32 :=
  let c256_i32_376 : BitVec 32 := 256#32
  let v888 : BitVec 32 := Scalar.muli arg9 c256_i32_376
  v888

def k0_chk6 (arg9 : BitVec 32) : Prop :=
  (256 ∣ (k0_mult51 arg9).toNat) ∧
  (∀ a, (k0_off10 arg9) a + S256x128.size a ≤ S16640x256.size a) ∧
  (256 ∣ (k0_mult52 arg9).toNat)
theorem k0_mult51_dvd : ∀ (arg9 : BitVec 32) (k0_hw6 : k0_chk6 arg9), 256 ∣ (k0_mult51 arg9).toNat := fun arg9 k0_hw6 => k0_hw6.1
theorem k0_off10_inb : ∀ (arg9 : BitVec 32) (k0_hw6 : k0_chk6 arg9), ∀ a, (k0_off10 arg9) a + S256x128.size a ≤ S16640x256.size a := fun arg9 k0_hw6 => k0_hw6.2.1
theorem k0_mult52_dvd : ∀ (arg9 : BitVec 32) (k0_hw6 : k0_chk6 arg9), 256 ∣ (k0_mult52 arg9).toNat := fun arg9 k0_hw6 => k0_hw6.2.2

def k0_mult53 (arg9 : BitVec 32) : BitVec 32 :=
  let c256_i32_374 : BitVec 32 := 256#32
  let v884 : BitVec 32 := Scalar.muli arg9 c256_i32_374
  v884

def k0_off11 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c128_375 : Index := 128#32
  ![v886.toNat, 128]
def k0_mult54 (arg9 : BitVec 32) : BitVec 32 :=
  let c256_i32_376 : BitVec 32 := 256#32
  let v888 : BitVec 32 := Scalar.muli arg9 c256_i32_376
  v888

def k0_chk7 (arg9 : BitVec 32) : Prop :=
  (256 ∣ (k0_mult53 arg9).toNat) ∧
  (∀ a, (k0_off11 arg9) a + S256x128.size a ≤ S16640x256.size a) ∧
  (256 ∣ (k0_mult54 arg9).toNat)
theorem k0_mult53_dvd : ∀ (arg9 : BitVec 32) (k0_hw7 : k0_chk7 arg9), 256 ∣ (k0_mult53 arg9).toNat := fun arg9 k0_hw7 => k0_hw7.1
theorem k0_off11_inb : ∀ (arg9 : BitVec 32) (k0_hw7 : k0_chk7 arg9), ∀ a, (k0_off11 arg9) a + S256x128.size a ≤ S16640x256.size a := fun arg9 k0_hw7 => k0_hw7.2.1
theorem k0_mult54_dvd : ∀ (arg9 : BitVec 32) (k0_hw7 : k0_chk7 arg9), 256 ∣ (k0_mult54 arg9).toNat := fun arg9 k0_hw7 => k0_hw7.2.2

def k0_mult55 (arg9 : BitVec 32) : BitVec 32 :=
  let c256_i32_374 : BitVec 32 := 256#32
  let v884 : BitVec 32 := Scalar.muli arg9 c256_i32_374
  v884

def k0_off12 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c128_375 : Index := 128#32
  ![v886.toNat, 128]
def k0_mult56 (arg9 : BitVec 32) : BitVec 32 :=
  let c256_i32_376 : BitVec 32 := 256#32
  let v888 : BitVec 32 := Scalar.muli arg9 c256_i32_376
  v888

def k0_chk8 (arg9 : BitVec 32) : Prop :=
  (256 ∣ (k0_mult55 arg9).toNat) ∧
  (∀ a, (k0_off12 arg9) a + S256x128.size a ≤ S16640x256.size a) ∧
  (256 ∣ (k0_mult56 arg9).toNat)
theorem k0_mult55_dvd : ∀ (arg9 : BitVec 32) (k0_hw8 : k0_chk8 arg9), 256 ∣ (k0_mult55 arg9).toNat := fun arg9 k0_hw8 => k0_hw8.1
theorem k0_off12_inb : ∀ (arg9 : BitVec 32) (k0_hw8 : k0_chk8 arg9), ∀ a, (k0_off12 arg9) a + S256x128.size a ≤ S16640x256.size a := fun arg9 k0_hw8 => k0_hw8.2.1
theorem k0_mult56_dvd : ∀ (arg9 : BitVec 32) (k0_hw8 : k0_chk8 arg9), 256 ∣ (k0_mult56 arg9).toNat := fun arg9 k0_hw8 => k0_hw8.2.2

def k0_mult57 (arg9 : BitVec 32) : BitVec 32 :=
  let c256_i32_374 : BitVec 32 := 256#32
  let v884 : BitVec 32 := Scalar.muli arg9 c256_i32_374
  v884

def k0_off13 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c128_375 : Index := 128#32
  ![v886.toNat, 128]
def k0_mult58 (arg9 : BitVec 32) : BitVec 32 :=
  let c256_i32_376 : BitVec 32 := 256#32
  let v888 : BitVec 32 := Scalar.muli arg9 c256_i32_376
  v888

def k0_chk9 (arg9 : BitVec 32) : Prop :=
  (256 ∣ (k0_mult57 arg9).toNat) ∧
  (∀ a, (k0_off13 arg9) a + S256x128.size a ≤ S16640x256.size a) ∧
  (256 ∣ (k0_mult58 arg9).toNat)
theorem k0_mult57_dvd : ∀ (arg9 : BitVec 32) (k0_hw9 : k0_chk9 arg9), 256 ∣ (k0_mult57 arg9).toNat := fun arg9 k0_hw9 => k0_hw9.1
theorem k0_off13_inb : ∀ (arg9 : BitVec 32) (k0_hw9 : k0_chk9 arg9), ∀ a, (k0_off13 arg9) a + S256x128.size a ≤ S16640x256.size a := fun arg9 k0_hw9 => k0_hw9.2.1
theorem k0_mult58_dvd : ∀ (arg9 : BitVec 32) (k0_hw9 : k0_chk9 arg9), 256 ∣ (k0_mult58 arg9).toNat := fun arg9 k0_hw9 => k0_hw9.2.2

def k0_mult59 (arg9 : BitVec 32) : BitVec 32 :=
  let c256_i32_374 : BitVec 32 := 256#32
  let v884 : BitVec 32 := Scalar.muli arg9 c256_i32_374
  v884

def k0_off14 (arg9 : BitVec 32) : Fin 2 → Nat :=
  let c256_i32_374 : BitVec 32 := 256#32
  let v884 : BitVec 32 := Scalar.muli arg9 c256_i32_374
  let v885 : BitVec 32 := v884
  let v886 : Index := Scalar.indexCast v885
  let c128_375 : Index := 128#32
  ![v886.toNat, 128]
def k0_mult60 (arg9 : BitVec 32) : BitVec 32 :=
  let c256_i32_376 : BitVec 32 := 256#32
  let v888 : BitVec 32 := Scalar.muli arg9 c256_i32_376
  v888

def k0_chk10 (arg9 : BitVec 32) : Prop :=
  (256 ∣ (k0_mult59 arg9).toNat) ∧
  (∀ a, (k0_off14 arg9) a + S256x128.size a ≤ S16640x256.size a) ∧
  (256 ∣ (k0_mult60 arg9).toNat)
theorem k0_mult59_dvd : ∀ (arg9 : BitVec 32) (k0_hw10 : k0_chk10 arg9), 256 ∣ (k0_mult59 arg9).toNat := fun arg9 k0_hw10 => k0_hw10.1
theorem k0_off14_inb : ∀ (arg9 : BitVec 32) (k0_hw10 : k0_chk10 arg9), ∀ a, (k0_off14 arg9) a + S256x128.size a ≤ S16640x256.size a := fun arg9 k0_hw10 => k0_hw10.2.1
theorem k0_mult60_dvd : ∀ (arg9 : BitVec 32) (k0_hw10 : k0_chk10 arg9), 256 ∣ (k0_mult60 arg9).toNat := fun arg9 k0_hw10 => k0_hw10.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1280x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1280x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel8Ideal.lean ====
variable {F : FTy → Type} [FloatOps F] [Named F]
def κ : String → Option EReal := fun
  | "neg_inf" => some ⊥
  | _ => none
-- ==== Reference8Ideal.lean ====
abbrev S16640x2048 : Shape := ⟨2, ![16640, 2048]⟩
abbrev S16640x4096 : Shape := ⟨2, ![16640, 4096]⟩
abbrev S1x16640x16x128 : Shape := ⟨4, ![1, 16640, 16, 128]⟩
abbrev S1x16640x2x16x128 : Shape := ⟨5, ![1, 16640, 2, 16, 128]⟩
abbrev S16640 : Shape := ⟨1, ![16640]⟩
abbrev S1x16640x1x16x128 : Shape := ⟨5, ![1, 16640, 1, 16, 128]⟩
abbrev S1x16x16640x16640 : Shape := ⟨4, ![1, 16, 16640, 16640]⟩
abbrev S1x16640 : Shape := ⟨2, ![1, 16640]⟩
abbrev S16640x1 : Shape := ⟨2, ![16640, 1]⟩
abbrev S16640x16640 : Shape := ⟨2, ![16640, 16640]⟩
abbrev S1x1x16640x16640 : Shape := ⟨4, ![1, 1, 16640, 16640]⟩
abbrev S_ : Shape := ⟨0, ![]⟩
abbrev S1x16x128x16640 : Shape := ⟨4, ![1, 16, 128, 16640]⟩

abbrev nBuf : Space → Nat
  | .hbm => 72
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S16640x4096, .bf16⟩
  | .hbm, ⟨2, _⟩ => ⟨S16640x2048, .f32⟩
  | .hbm, ⟨3, _⟩ => ⟨S1x16640x16x128, .f32⟩
  | .hbm, ⟨4, _⟩ => ⟨S16640x4096, .f32⟩
  | .hbm, ⟨5, _⟩ => ⟨S1x16640x2x16x128, .f32⟩
  | .hbm, ⟨6, _⟩ => ⟨S16640, .i32⟩
  | .hbm, ⟨7, _⟩ => ⟨S1x16640x1x16x128, .f32⟩
  | .hbm, ⟨8, _⟩ => ⟨S1x16640x16x128, .f32⟩
  | .hbm, ⟨9, _⟩ => ⟨S1x16640x1x16x128, .f32⟩
  | .hbm, ⟨10, _⟩ => ⟨S1x16640x16x128, .f32⟩
  | .hbm, ⟨11, _⟩ => ⟨S1x16x16640x16640, .f32⟩
  | .hbm, ⟨12, _⟩ => ⟨S16640, .i32⟩
  | .hbm, ⟨13, _⟩ => ⟨S1x16640, .i32⟩
  | .hbm, ⟨14, _⟩ => ⟨S16640x1, .i32⟩
  | .hbm, ⟨15, _⟩ => ⟨S16640x16640, .i32⟩
  | .hbm, ⟨16, _⟩ => ⟨S16640x16640, .i32⟩
  | .hbm, ⟨17, _⟩ => ⟨S16640x16640, .i1⟩
  | .hbm, ⟨18, _⟩ => ⟨S1x1x16640x16640, .i1⟩
  | .hbm, ⟨19, _⟩ => ⟨S1x16x16640x16640, .f32⟩
  | .hbm, ⟨20, _⟩ => ⟨S1x16x16640x16640, .f32⟩
  | .hbm, ⟨21, _⟩ => ⟨S_, .f32⟩
  | .hbm, ⟨22, _⟩ => ⟨S1x16x16640x16640, .f32⟩
  | .hbm, ⟨23, _⟩ => ⟨S1x16x16640x16640, .f32⟩
  | .hbm, ⟨24, _⟩ => ⟨S1x16x16640x16640, .f32⟩
  | .hbm, ⟨25, _⟩ => ⟨S1x16x16640x16640, .f32⟩
  | .hbm, ⟨26, _⟩ => ⟨S1x16x16640x16640, .i1⟩
  | .hbm, ⟨27, _⟩ => ⟨S1x16x16640x16640, .f32⟩
  | .hbm, ⟨28, _⟩ => ⟨S1x16x16640x16640, .f32⟩
  | .hbm, ⟨29, _⟩ => ⟨S1x16x16640x16640, .f32⟩
  | .hbm, ⟨30, _⟩ => ⟨S1x16x16640x16640, .f32⟩
  | .hbm, ⟨31, _⟩ => ⟨S1x16x16640x16640, .f32⟩
  | .hbm, ⟨32, _⟩ => ⟨S1x16x16640x16640, .f32⟩
  | .hbm, ⟨33, _⟩ => ⟨S1x16x16640x16640, .f32⟩
  | .hbm, ⟨34, _⟩ => ⟨S1x16x16640x16640, .f32⟩
  | .hbm, ⟨35, _⟩ => ⟨S1x16x16640x16640, .f32⟩
  | .hbm, ⟨36, _⟩ => ⟨S_, .f32⟩
  | .hbm, ⟨37, _⟩ => ⟨S_, .f32⟩
  | .hbm, ⟨38, _⟩ => ⟨S1x16x16640x16640, .i1⟩
  | .hbm, ⟨39, _⟩ => ⟨S1x16x16640x16640, .f32⟩
  | .hbm, ⟨40, _⟩ => ⟨S1x16x16640x16640, .f32⟩
  | .hbm, ⟨41, _⟩ => ⟨S_, .f32⟩
  | .hbm, ⟨42, _⟩ => ⟨S_, .f32⟩
  | .hbm, ⟨43, _⟩ => ⟨S1x16x16640x16640, .f32⟩
  | .hbm, ⟨44, _⟩ => ⟨S1x16x16640x16640, .f32⟩
  | .hbm, ⟨45, _⟩ => ⟨S1x16x16640x16640, .f32⟩
  | .hbm, ⟨46, _⟩ => ⟨S_, .f32⟩
  | .hbm, ⟨47, _⟩ => ⟨S1x16x16640x16640, .f32⟩
  | .hbm, ⟨48, _⟩ => ⟨S1x16x16640x16640, .f32⟩
  | .hbm, ⟨49, _⟩ => ⟨S1x16x16640x16640, .f32⟩
  | .hbm, ⟨50, _⟩ => ⟨S1x16x16640x16640, .f32⟩
  | .hbm, ⟨51, _⟩ => ⟨S1x16x16640x16640, .i1⟩
  | .hbm, ⟨52, _⟩ => ⟨S1x16x16640x16640, .f32⟩
  | .hbm, ⟨53, _⟩ => ⟨S1x16x16640x16640, .f32⟩
  | .hbm, ⟨54, _⟩ => ⟨S1x16x16640x16640, .f32⟩
  | .hbm, ⟨55, _⟩ => ⟨S1x16x16640x16640, .f32⟩
  | .hbm, ⟨56, _⟩ => ⟨S1x16x16640x16640, .f32⟩
  | .hbm, ⟨57, _⟩ => ⟨S1x16x16640x16640, .f32⟩
  | .hbm, ⟨58, _⟩ => ⟨S1x16x16640x16640, .f32⟩
  | .hbm, ⟨59, _⟩ => ⟨S1x16x16640x16640, .f32⟩
  | .hbm, ⟨60, _⟩ => ⟨S1x16x16640x16640, .f32⟩
  | .hbm, ⟨61, _⟩ => ⟨S1x16x16640x16640, .f32⟩
  | .hbm, ⟨62, _⟩ => ⟨S1x16x16640x16640, .f32⟩
  | .hbm, ⟨63, _⟩ => ⟨S_, .f32⟩
  | .hbm, ⟨64, _⟩ => ⟨S_, .f32⟩
  | .hbm, ⟨65, _⟩ => ⟨S1x16x16640x16640, .i1⟩
  | .hbm, ⟨66, _⟩ => ⟨S1x16x16640x16640, .f32⟩
  | .hbm, ⟨67, _⟩ => ⟨S1x16x16640x16640, .f32⟩
  | .hbm, ⟨68, _⟩ => ⟨S1x16x128x16640, .f32⟩
  | .hbm, ⟨69, _⟩ => ⟨S1x16640x16x128, .f32⟩
  | .hbm, ⟨70, _⟩ => ⟨S16640x2048, .f32⟩
  | .hbm, ⟨71, _⟩ => ⟨S16640x2048, .bf16⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_call2_cst : Ref sig .tc := ⟨.hbm, 41, rfl⟩
abbrev main_call2_v0 : Ref sig .tc := ⟨.hbm, 42, rfl⟩
abbrev main_v20 : Ref sig .tc := ⟨.hbm, 43, rfl⟩
abbrev main_v21 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Proof.MixRow.lean ====
/- One row of the output projection with its layer norm, over the extended reals:
   what the body's stored pieces and the reference's result are at an index. -/
module

public import proofs.«01_k».proof.Proof.Gen.KernelIdeal.Skeleton
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.Layer

/-- The layer norm of one row `y` of 2048 numbers with gain `g` and shift `b`, read at position `j`. -/
def lnRow (y g b : Fin 2048 → EReal) (j : Fin 2048) : EReal :=
  (y j - Ideal.div (∑ k, y k) (Ideal.ofBits .f32 0x45000000#32))
    * Ideal.rsqrt (Ideal.div (∑ l, (y l - Ideal.div (∑ k, y k) (Ideal.ofBits .f32 0x45000000#32))
        * (y l - Ideal.div (∑ k, y k) (Ideal.ofBits .f32 0x45000000#32))) (Ideal.ofBits .f32 0x45000000#32)
      + Ideal.ofBits .f32 0x3727C5AC#32)
    * g j + b j

/-- A stored piece of the body: the layer norm of the row that the residual and the projection add up to. -/
theorem pay_at (v0 : Vec Ideal Cert.KernelIdeal.S128x2048 .bf16) (v1 : Vec Ideal Cert.KernelIdeal.S2048x2048 .bf16)
    (v4 : Vec Ideal Cert.KernelIdeal.S128x2048 .f32) (v8 v10 : Vec Ideal Cert.KernelIdeal.S1x2048 .f32)
    (i : Fin 128) (j : Fin 2048) :
    Cert.KernelIdeal.Gen.k0_pay3 (F := Ideal) v0 v1 v4 v8 v10 (ix2 i j)
      = lnRow (fun l => Ideal.ofBits .f32 0x3FB504F3#32 * v4 (ix2 i l) + ∑ k : Fin 2048, v0 (ix2 i k) * v1 (ix2 k l))
          (fun l => v8 (ix2 0 l)) (fun l => v10 (ix2 0 l)) j := by
  pointwise [Cert.KernelIdeal.Gen.k0_pay3, lnRow]

/-- The reference's result at an index. -/
theorem ref_at (x0 : FVec Ideal Cert.ReferenceIdeal.S16640x2048 .bf16) (x1 : FVec Ideal Cert.ReferenceIdeal.S1x2048x2048 .f32)
    (x2 : FVec Ideal Cert.ReferenceIdeal.S16640x2048 .f32) (x3 x4 : FVec Ideal Cert.ReferenceIdeal.S2x3x2048 .f32)
    (i : Fin 16384) (j : Fin 2048) :
    Cert.ReferenceIdeal.Read.val_main_v36 (F := Ideal) x0 x1 x2 x3 x4 (ix2 i j)
      = lnRow (fun l => Ideal.ofBits .f32 0x3FB504F3#32 * x2 (ix2 ⟨16 + i.val, by omega⟩ l)
            + ∑ k : Fin 2048, x0 (ix2 ⟨16 + i.val, by omega⟩ k) * x1 (ix3 0 k l))
          (fun l => x3 (ix3 1 1 l)) (fun l => x4 (ix3 1 1 l)) j := by
  open Cert.ReferenceIdeal.Read in
  pointwise [lnRow, val_main_v36, val_main_v35, val_main_v34, val_main_v33, val_main_v32, val_main_v31, val_main_v30, val_main_v29, val_main_v28, val_main_v27, val_main_v26, val_main_v25, val_main_cst_4, val_main_v24, val_main_v23, val_main_v22, val_main_v21, val_main_cst_3, val_main_v20, val_main_v19, val_main_cst_2, val_main_v18, val_main_v17, val_main_v16, val_main_v15, val_main_v14, val_main_cst_1, val_main_v13, val_main_v12, val_main_cst_0, val_main_v11, val_main_v10, val_main_v9, val_main_v8, val_main_v7, val_main_v6, val_main_v5, val_main_v4, val_main_v3, val_main_cst, val_main_v2, val_main_v1, val_main_v0]

end Cert.Layer

end
-- ==== Proof.MixValue.lean ====
/- The windows that start at row 16: what the call's two result arrays hold after the run. -/
module

public import proofs.«01_k».proof.Proof.MixRow
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Mix

open Cert.KernelIdeal Cert.KernelIdeal.Gen Cert.Layer

variable (m : (ℓ : Loc nD τ sig) → Buf (Elt Ideal) ℓ)

/-- Where the windows of a grid point lie. The two element-indexed windows begin at row `512 t + 16`. -/
theorem idx : ∀ t : Fin cfg0.N, win0_0.index t = ![t.val * 512 + 16, 0] ∧ win0_1.index t = ![0, 0]
    ∧ win0_2.index t = ![t.val * 512 + 16, 0] ∧ win0_3.index t = ![0, 0] ∧ win0_4.index t = ![0, 0]
    ∧ win0_5.index t = ![t.val, 0] ∧ win0_6.index t = ![t.val, 0] :=
  (by decide +kernel : ∀ t : Fin grid0.N, _)

/-- Row `r` of the first result, from the call's arguments. -/
def out (x0 : FVec Ideal S16640x2048 .bf16) (x1 : FVec Ideal S1x2048x2048 .f32) (x2 : FVec Ideal S16640x2048 .f32)
    (x3 x4 : FVec Ideal S2x3x2048 .f32) (i : S16384x2048.Idx) : EReal :=
  lnRow (fun l => Ideal.ofBits .f32 0x3FB504F3#32 * x2 (ix2 ⟨16 + (i 0).val, by have := (i 0).isLt; change (i 0).val < 16384 at this; omega⟩ l)
        + ∑ k : Fin 2048, x0 (ix2 ⟨16 + (i 0).val, by have := (i 0).isLt; change (i 0).val < 16384 at this; omega⟩ k) * x1 (ix3 0 k l))
      (fun l => x3 (ix3 1 1 l)) (fun l => x4 (ix3 1 1 l)) (i 1)

/-- An element of the block of the first element-indexed window lies at the block's first row plus its own. -/
theorem iblk0_at (c : Dev nD) (t : Fin cfg0.N) (p : Fin 512) (q : Fin 2048) (r : Fin 16640) (hr : r.val = t.val * 512 + 16 + p.val) :
    (iblk m c 0 t : FVec Ideal S512x2048 .bf16) (ix2 p q) = m ((c : Thread nD τ).loc main_arg0) (ix2 r q) := by
  have h0 := Pipeline.Window.rect_emb_val_off win0_0 t (ix2 p q) 0
  have h1 := Pipeline.Window.rect_emb_val_off win0_0 t (ix2 p q) 1
  rw [(idx t).1] at h0 h1
  refine congrArg (m ((c : Thread nD τ).loc main_arg0)) (funext fun a => ?_)
  fin_cases a
  · exact Fin.ext (h0.trans hr.symm)
  · exact Fin.ext (h1.trans (Nat.zero_add _))

/-- The same for the residual's window. -/
theorem iblk2_at (c : Dev nD) (t : Fin cfg0.N) (p : Fin 512) (q : Fin 2048) (r : Fin 16640) (hr : r.val = t.val * 512 + 16 + p.val) :
    (iblk m c 2 t : FVec Ideal S512x2048 .f32) (ix2 p q) = m ((c : Thread nD τ).loc main_arg2) (ix2 r q) := by
  have h0 := Pipeline.Window.rect_emb_val_off win0_2 t (ix2 p q) 0
  have h1 := Pipeline.Window.rect_emb_val_off win0_2 t (ix2 p q) 1
  rw [(idx t).2.2.1] at h0 h1
  refine congrArg (m ((c : Thread nD τ).loc main_arg2)) (funext fun a => ?_)
  fin_cases a
  · exact Fin.ext (h0.trans hr.symm)
  · exact Fin.ext (h1.trans (Nat.zero_add _))

/-- A row of a block, normalised, is that row of the result. -/
theorem core (c : Dev nD) (t : Fin cfg0.N) (p : Fin 512) (q : Fin 2048) (i : S16384x2048.Idx)
    (h0 : (i 0).val = t.val * 512 + p.val) (h1 : (i 1).val = q.val) (x0 : FVec Ideal S512x2048 .bf16)
    (e0 : x0 = iblk m c 0 t) (x1 : FVec Ideal S2048x2048 .bf16) (e1 : x1 = iblk m c 1 t)
    (x2 : FVec Ideal S512x2048 .f32) (e2 : x2 = iblk m c 2 t) (x3 : FVec Ideal S1x2048 .f32) (e3 : x3 = iblk m c 3 t)
    (x4 : FVec Ideal S1x2048 .f32) (e4 : x4 = iblk m c 4 t) :
   lnRow (fun l => Ideal.ofBits .f32 0x3FB504F3#32 * x2 (ix2 p l) + ∑ k : Fin 2048, x0 (ix2 p k) * x1 (ix2 k l))
      (fun l => x3 (ix2 0 l)) (fun l => x4 (ix2 0 l)) q
   = out (m ((c : Thread nD τ).loc main_arg0)) (m ((c : Thread nD τ).loc main_arg1)) (m ((c : Thread nD τ).loc main_arg2))
      (m ((c : Thread nD τ).loc main_arg3)) (m ((c : Thread nD τ).loc main_arg4)) i := by
  subst e0 e1 e2 e3 e4
  unfold out
  have hj : (i 1 : Fin 2048) = q := Fin.ext h1
  rw [hj]
  have hr : 16 + (i 0).val = t.val * 512 + 16 + p.val := by omega
  have hlt : 16 + (i 0).val < 16640 := by have := (i 0).isLt; change (i 0).val < 16384 at this; omega
  congr 1
  · funext l
    rw [iblk2_at m c t p l ⟨16 + (i 0).val, hlt⟩ hr]
    congr 1
    refine Finset.sum_congr rfl fun k _ => ?_
    rw [iblk0_at m c t p k ⟨16 + (i 0).val, hlt⟩ hr]
    congr 1
    blk_point [iblk, V, idx t]
  · funext l
    blk_point [iblk, V, idx t]
  · funext l
    blk_point [iblk, V, idx t]

/-- One tile of 128 rows, beginning `o` rows into the block, normalised and read at one element. -/
theorem piece (c : Dev nD) (t : Fin cfg0.N) (o : ℕ) (inb : ∀ a, (![o, 0] : Fin 2 → ℕ) a + S128x2048.size a ≤ S512x2048.size a)
    (p : Fin 512) (y : S128x2048.Idx) (hp : p.val = o + (y 0).val)
    (i : S16384x2048.Idx) (h0 : (i 0).val = t.val * 512 + p.val) (h1 : (i 1).val = (y 1).val) :
   k0_pay3 (F := Ideal) (View.ld (iblk m c 0 t) (Rect.unit (s := S512x2048) ![o, 0] S128x2048.size inb)) (View.ld (iblk m c 1 t) r0_1)
      (View.ld (iblk m c 2 t) (Rect.unit (s := S512x2048) ![o, 0] S128x2048.size inb))
      (View.ld (iblk m c 3 t) r0_2) (View.ld (iblk m c 4 t) r0_2) y
   = out (m ((c : Thread nD τ).loc main_arg0)) (m ((c : Thread nD τ).loc main_arg1)) (m ((c : Thread nD τ).loc main_arg2))
      (m ((c : Thread nD τ).loc main_arg3)) (m ((c : Thread nD τ).loc main_arg4)) i := by
  have hy : y = ix2 (y 0) (y 1) := by blk_ext []
  rw [hy]
  refine (pay_at _ _ _ _ _ (y 0) (y 1)).trans ?_
  have hc := core m c t p (y 1) i h0 h1 _ rfl _ rfl _ rfl _ rfl _ rfl
  refine Eq.trans ?_ hc
  have hld : ∀ l : Fin 2048, ∀ a, ((ix2 p l : S512x2048.Idx) a : ℕ) = (![o, 0] : Fin 2 → ℕ) a + (ix2 (y 0) l : S128x2048.Idx) a := by
    intro l a
    fin_cases a
    · exact hp
    · exact (Nat.zero_add _).symm
  refine congrFun (congr (congr (congrArg lnRow ?_) ?_) ?_) _
  · funext l
    refine congr (congrArg _ (congrArg _ ?_)) (Finset.sum_congr rfl fun k _ => ?_)
    · exact View.ld_unit_apply_of _ _ _ inb _ _ (hld l)
    · refine congr (congrArg _ ?_) ?_
      · exact View.ld_unit_apply_of _ _ _ inb _ _ (hld k)
      · exact congrFun (View.ld_unit_lit _ _ (fun a => by fin_cases a <;> rfl)) _
  · funext l
    exact congrFun (View.ld_unit_lit _ _ (fun a => by fin_cases a <;> rfl)) _
  · funext l
    exact congrFun (View.ld_unit_lit _ _ (fun a => by fin_cases a <;> rfl)) _

/-- The first result array after the run, from the arguments. -/
theorem final5 (c : Dev nD) : (dats m 0 c).arrAt 5 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  unfold out0_5
  canon_tiles x h
  · refine piece m c t 384 _ (y 0) x h0 _ ?_ ?_
    · blk_simp [idx t]
    · blk_simp [idx t]
      try omega
  · refine piece m c t 256 _ (y 0) x h0 _ ?_ ?_
    · blk_simp [idx t]
    · blk_simp [idx t]
      try omega
  · refine piece m c t 128 _ (y 0) x h0 _ ?_ ?_
    · blk_simp [idx t]
    · blk_simp [idx t]
      try omega
  · refine piece m c t 0 _ (y 0) x (h0.trans (Nat.zero_add _).symm) _ ?_ ?_
    · blk_simp [idx t]
    · blk_simp [idx t]
      try omega

/-- The second result array, the same values rounded to bf16, after the run, from the arguments. -/
theorem final6 (c : Dev nD) : (dats m 0 c).arrAt 6 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  blk_simp
  rw [after0_6]
  unfold out0_6
  canon_tiles x h
  · refine piece m c t 384 _ (y 0) x h0 _ ?_ ?_
    · blk_simp [idx t]
    · blk_simp [idx t]
      try omega
  · refine piece m c t 256 _ (y 0) x h0 _ ?_ ?_
    · blk_simp [idx t]
    · blk_simp [idx t]
      try omega
  · refine piece m c t 128 _ (y 0) x h0 _ ?_ ?_
    · blk_simp [idx t]
    · blk_simp [idx t]
      try omega
  · refine piece m c t 0 _ (y 0) x (h0.trans (Nat.zero_add _).symm) _ ?_ ?_
    · blk_simp [idx t]
    · blk_simp [idx t]
      try omega

end Cert.Layer.Mix

end
-- ==== Proof.Mix.lean ====
/- The claims about the projection, residual and layer norm whose windows start at row 16. -/
module

public import proofs.«01_k».proof.Defs
public import proofs.«01_k».proof.Proof.MixValue
public import proofs.«01_k».proof.Proof.Gen.KernelIdeal.Value
public import proofs.«01_k».proof.Proof.Gen.ReferenceIdeal.Run
public import proofs.«01_k».proof.Proof.Gen.ReferenceIdeal.Read
public import Idealize.ShloMosaic.Lib.Claim

@[expose] public section

set_option maxRecDepth 16384

noncomputable section

open Idealize.ShloMosaic Idealize.ShloMosaic.TcCoe Idealize.SL.Sem

namespace Cert.Layer.Mix

/-- The reference's first result is what the kernel's arrays hold. -/
theorem ref36 (x0 : FVec Ideal Cert.KernelIdeal.S16640x2048 .bf16) (x1 : FVec Ideal Cert.KernelIdeal.S1x2048x2048 .f32)
    (x2 : FVec Ideal Cert.KernelIdeal.S16640x2048 .f32) (x3 x4 : FVec Ideal Cert.KernelIdeal.S2x3x2048 .f32) :
    Cert.ReferenceIdeal.Read.val_main_v36 (F := Ideal) x0 x1 x2 x3 x4 = out x0 x1 x2 x3 x4 := by
  funext i
  have hi : i = ix2 (i 0) (i 1) := by blk_ext []
  rw [hi]
  exact ref_at x0 x1 x2 x3 x4 (i 0) (i 1)

/-- Rounding to bf16 changes no real number, so the second result is the first. -/
theorem ref37 (x0 : FVec Ideal Cert.KernelIdeal.S16640x2048 .bf16) (x1 : FVec Ideal Cert.KernelIdeal.S1x2048x2048 .f32)
    (x2 : FVec Ideal Cert.KernelIdeal.S16640x2048 .f32) (x3 x4 : FVec Ideal Cert.KernelIdeal.S2x3x2048 .f32) :
    Cert.ReferenceIdeal.Read.val_main_v37 (F := Ideal) x0 x1 x2 x3 x4 = out x0 x1 x2 x3 x4 :=
  ref36 x0 x1 x2 x3 x4

/-- The reference runs and leaves its arguments unchanged. -/
theorem frame_ref : @Cert.quiescent_ReferenceIdeal Cert.ReferenceIdeal.Gen.facts := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Kernel and reference give the same real numbers from the same arguments. -/
theorem algebraic : @Cert.algebraic_KernelIdeal_ReferenceIdeal Cert.KernelIdeal.Gen.facts Cert.ReferenceIdeal.Gen.facts := by
  pair_intro
  · run_from Cert.KernelIdeal.Gen.run_main m g
  · run_from Cert.ReferenceIdeal.Value.run m' g'
    · obtain ⟨h0, h1, h2, h3, h4⟩ := hagree c
      rw [Cert.ReferenceIdeal.Read.val_main_v36_eq, h0, h1, h2, h3, h4]
      exact (ref36 _ _ _ _ _).trans (final5 m c).symm
    · obtain ⟨h0, h1, h2, h3, h4⟩ := hagree c
      rw [Cert.ReferenceIdeal.Read.val_main_v37_eq, h0, h1, h2, h3, h4]
      exact (ref37 _ _ _ _ _).trans (final6 m c).symm

end Cert.Layer.Mix

end
-- ==== Proof.FfnRow.lean ====
/- The feed-forward network of a row: what the kernel's pieces and the reference compute at an index. -/
module

public import proofs.«01_k».proof.Proof.MixRow
public import proofs.«01_k».proof.Proof.Gen.Kernel2Ideal.Skeleton
public import proofs.«01_k».proof.Proof.Gen.Reference2Ideal.Read
public import Idealize.ShloMosaic.Lib.Pipeline.ValueKit

@[expose] public section

set_option maxRecDepth 16384

noncomputable section

open Idealize.ShloMosaic Idealize.ShloMosaic.TcCoe Idealize.SL.Sem

namespace Cert.Layer.Ffn

open Cert.Kernel2Ideal Cert.Kernel2Ideal.Gen

/-- A hidden unit: its gate's SiLU times its up value. -/
def hid (g u : EReal) : EReal := g * Ideal.logistic g * u

/-- The accumulator starts at zero. -/
theorem zero_at (j : S512x2048.Idx) : k0_pay2 (F := Ideal) j = 0 := by
  pointwise [k0_pay2]

/-- The copy of the block that the products read is the block. -/
theorem copy_at (v : Vec Ideal S512x2048 .f32) (j : S512x2048.Idx) : k0_pay1 (F := Ideal) v j = v j := by
  pointwise [k0_pay1]

/-- A grid point adds the products of its hidden units with the down projection. -/
theorem step_at (v3 : Vec Ideal S512x2048 .bf16) (v4 v7 : Vec Ideal S1x1x2048x512 .bf16) (v14 : Vec Ideal S512x2048 .f32)
    (v15 : Vec Ideal S1x1x512x2048 .bf16) (j : S512x2048.Idx) :
    k0_pay3 (F := Ideal) v3 v4 v7 v14 v15 j
      = v14 j + ∑ h : Fin 512, hid (∑ k : Fin 2048, v3 (ix2 (j 0) k) * v4 (ix4 0 0 k h)) (∑ k : Fin 2048, v3 (ix2 (j 0) k) * v7 (ix4 0 0 k h))
          * v15 (ix4 0 0 h (j 1)) := by
  pointwise [k0_pay3, hid]

/-- The last point of a row block stores the layer norm of the residual plus half the accumulator. -/
theorem out_at (v25 v28 : Vec Ideal S512x2048 .f32) (v32 v34 : Vec Ideal S1x2048 .f32) (i : Fin 512) (j : Fin 2048) :
    k0_pay4 (F := Ideal) v25 v28 v32 v34 (ix2 i j)
      = lnRow (fun l => Ideal.ofBits .f32 0x3FB504F3#32 * v25 (ix2 i l) + Ideal.ofBits .f32 0x3F000000#32 * v28 (ix2 i l))
          (fun l => v32 (ix2 0 l)) (fun l => v34 (ix2 0 l)) j := by
  pointwise [k0_pay4, lnRow]

/-- The reference's result at an index. -/
theorem ref_at (x0 : FVec Ideal Cert.Reference2Ideal.S16384x2048 .f32) (x1 : FVec Ideal Cert.Reference2Ideal.S2x2x2048x11264 .f32)
    (x2 : FVec Ideal Cert.Reference2Ideal.S2x2x5632x2048 .f32) (x3 x4 : FVec Ideal Cert.Reference2Ideal.S2x3x2048 .f32)
    (i : Fin 16384) (j : Fin 2048) :
    Cert.Reference2Ideal.Read.val_main_v42 (F := Ideal) x0 x1 x2 x3 x4 (ix2 i j)
      = lnRow (fun l => Ideal.ofBits .f32 0x3FB504F3#32 * x0 (ix2 i l) + Ideal.ofBits .f32 0x3F000000#32 *
            ∑ h : Fin 5632, hid (∑ k : Fin 2048, x0 (ix2 i k) * x1 (ix4 1 1 k ⟨h.val, by omega⟩)) (∑ k : Fin 2048, x0 (ix2 i k) * x1 (ix4 1 1 k ⟨5632 + h.val, by omega⟩))
              * x2 (ix4 1 1 h l))
          (fun l => x3 (ix3 1 2 l)) (fun l => x4 (ix3 1 2 l)) j := by
  open Cert.Reference2Ideal.Read in
  pointwise [lnRow, hid, val_main_v43, val_main_v42, val_main_v41, val_main_v40, val_main_v39, val_main_v38, val_main_v37, val_main_v36, val_main_v35, val_main_v34, val_main_v33, val_main_v32, val_main_cst_5, val_main_v31, val_main_v30, val_main_v29, val_main_v28, val_main_cst_4, val_main_v27, val_main_v26, val_main_cst_3, val_main_v25, val_main_v24, val_main_v23, val_main_v22, val_main_v21, val_main_cst_2, val_main_v20, val_main_v19, val_main_cst_1, val_main_v18, val_main_v17, val_main_v16, val_main_v15, val_main_v14, val_main_v13, val_main_v12, val_main_cst_0, val_main_v11, val_main_v10, val_main_v9, val_main_call0_v5, val_main_call0_v4, val_main_call0_cst_0, val_main_call0_v3, val_main_call0_v2, val_main_call0_cst, val_main_call0_v1, val_main_call0_v0, val_main_v8, val_main_v7, val_main_v6, val_main_v5, val_main_v4, val_main_v3, val_main_v2, val_main_v1, val_main_v0, val_main_cst]
  have hs : ∀ g : EReal, Ideal.div 1 (1 + Ideal.exp (-g)) = Ideal.logistic g := fun _ => rfl
  simp only [hs]

end Cert.Layer.Ffn

end
-- ==== Proof.FfnValue.lean ====
/- The feed-forward network over its grid: what the call's two result arrays hold after the run. -/
module

public import proofs.«01_k».proof.Proof.FfnRow
public import proofs.«01_k».proof.Proof.Gen.Kernel2Ideal.Frame
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Layer.Ffn

open Cert.Kernel2Ideal Cert.Kernel2Ideal.Gen

variable (m : (ℓ : Loc nD τ sig) → Buf (Elt Ideal) ℓ)

/-- Where the windows of a grid point lie: row block `t / 11`, hidden tile `t % 11`. -/
theorem idx : ∀ t : Fin cfg0.N, win0_0.index t = ![t.val / 11, 0] ∧ win0_1.index t = ![1, 1, 0, t.val % 11]
    ∧ win0_2.index t = ![1, 1, 0, t.val % 11 + 11] ∧ win0_3.index t = ![1, 1, t.val % 11, 0] ∧ win0_4.index t = ![0, 0]
    ∧ win0_5.index t = ![0, 0] ∧ win0_6.index t = ![t.val / 11, 0] ∧ win0_7.index t = ![t.val / 11, 0] :=
  (by decide +kernel : ∀ t : Fin grid0.N, _)

/-- The copied rows at the first point of a row block. -/
theorem copy_reset (c : Dev nD) (t : Fin cfg0.N) (h : t.val % 11 = 0) :
    (outsAt0 m c t.val t.isLt).2.2.1 = k0_pay1 (F := Ideal) (iblk m c 0 t) := by
  rw [outsAt0_A m c t h (by omega)]
  frame_out

/-- The other points leave the copied rows as they are. -/
theorem copy_step (c : Dev nD) (t : Fin cfg0.N) (h : ¬t.val % 11 = 0) :
    (outsAt0 m c t.val t.isLt).2.2.1 = (outsAt0 m c (t.val - 1) (Nat.lt_of_le_of_lt (Nat.sub_le _ _) t.isLt)).2.2.1 := by
  by_cases h1 : t.val % 11 = 10
  · rw [outsAt0_C m c t h h1]
    rfl
  · rw [outsAt0_B m c t h h1]
    rfl

/-- The points of one row block have the same rows. -/
theorem rows_eq (c : Dev nD) (t t' : Fin cfg0.N) (h : t.val / 11 = t'.val / 11) (p : Fin 512) (q : Fin 2048) :
    (iblk m c 0 t : FVec Ideal S512x2048 .f32) (ix2 p q) = (iblk m c 0 t' : FVec Ideal S512x2048 .f32) (ix2 p q) := by
  blk_point [iblk, V, idx t, idx t']

/-- After every point the scratch holds the rows of the point's own block. -/
theorem copy (c : Dev nD) : ∀ (n : ℕ) (h : n < cfg0.N) (p : Fin 512) (q : Fin 2048),
    ((outsAt0 m c n h).2.2.1 : FVec Ideal S512x2048 .bf16) (ix2 p q) = (iblk m c 0 ⟨n, h⟩ : FVec Ideal S512x2048 .f32) (ix2 p q) := by
  intro n
  induction n with
  | zero =>
    intro h p q
    rw [copy_reset m c ⟨0, h⟩ rfl]
    exact copy_at _ _
  | succ n ih =>
    intro h p q
    by_cases h0 : (n + 1) % 11 = 0
    · rw [copy_reset m c ⟨n + 1, h⟩ h0]
      exact copy_at _ _
    · rw [copy_step m c ⟨n + 1, h⟩ h0]
      exact (ih _ p q).trans (rows_eq m c ⟨n, _⟩ ⟨n + 1, h⟩ (show n / 11 = (n + 1) / 11 by omega) p q)

/-- The last step of a row block: the first result's block comes from the accumulator of that step. -/
theorem last (c : Dev nD) (t : Fin cfg0.N) (h : t.val % 11 = 10) :
    (outsAt0 m c t.val t.isLt).1 = k0_pay4 (F := Ideal) (iblk m c 0 t) (outsAt0 m c t.val t.isLt).2.2.2 (iblk m c 4 t) (iblk m c 5 t) := by
  rw [outsAt0_C m c t (by omega) h]
  frame_out

/-- The last step of a row block: the second result's block comes from the accumulator of that step. -/
theorem last' (c : Dev nD) (t : Fin cfg0.N) (h : t.val % 11 = 10) :
    (outsAt0 m c t.val t.isLt).2.1 = k0_pay5 (F := Ideal) (iblk m c 0 t) (outsAt0 m c t.val t.isLt).2.2.2 (iblk m c 4 t) (iblk m c 5 t) := by
  rw [outsAt0_C m c t (by omega) h]
  frame_out

/-- The first step of a row block starts the accumulator from zero. -/
theorem acc_reset (c : Dev nD) (t : Fin cfg0.N) (h : t.val % 11 = 0) :
    (outsAt0 m c t.val t.isLt).2.2.2 = k0_pay3 (F := Ideal) (k0_pay1 (iblk m c 0 t)) (iblk m c 1 t) (iblk m c 2 t) (k0_pay2 (F := Ideal)) (iblk m c 3 t) := by
  rw [outsAt0_A m c t h (by omega)]
  frame_out

/-- Every other step adds to the accumulator of the step before. -/
theorem acc_step (c : Dev nD) (t : Fin cfg0.N) (h : ¬t.val % 11 = 0) :
    (outsAt0 m c t.val t.isLt).2.2.2 = k0_pay3 (F := Ideal) (outsAt0 m c (t.val - 1) (Nat.lt_of_le_of_lt (Nat.sub_le _ _) t.isLt)).2.2.1
      (iblk m c 1 t) (iblk m c 2 t) (outsAt0 m c (t.val - 1) (Nat.lt_of_le_of_lt (Nat.sub_le _ _) t.isLt)).2.2.2 (iblk m c 3 t) := by
  by_cases h1 : t.val % 11 = 10
  · rw [outsAt0_C m c t h h1]
    frame_out
    rw [read_unread_whole, read_unread_whole]
  · rw [outsAt0_B m c t h h1]
    frame_out
    rw [read_unread_whole, read_unread_whole]

/-- The part that one tile of hidden units adds, from the blocks of a grid point. -/
def part (x0 : S512x2048.Idx → EReal) (x1 x2 : S1x1x2048x512.Idx → EReal) (x3 : S1x1x512x2048.Idx → EReal) (j : S512x2048.Idx) : EReal :=
  ∑ h : Fin 512, hid (∑ k : Fin 2048, x0 (ix2 (j 0) k) * x1 (ix4 0 0 k h)) (∑ k : Fin 2048, x0 (ix2 (j 0) k) * x2 (ix4 0 0 k h)) * x3 (ix4 0 0 h (j 1))

/-- The first step at an element: zero and the step's part of the sum. -/
theorem reset_at (c : Dev nD) (t : Fin cfg0.N) (h : t.val % 11 = 0) (j : S512x2048.Idx) :
    ((outsAt0 m c t.val t.isLt).2.2.2 : FVec Ideal S512x2048 .f32) j = 0 + part (iblk m c 0 t) (iblk m c 1 t) (iblk m c 2 t) (iblk m c 3 t) j := by
  rw [acc_reset m c t h, show k0_pay1 (F := Ideal) (iblk m c 0 t) = iblk m c 0 t from funext fun j => copy_at _ j]
  refine (step_at _ _ _ _ _ j).trans ?_
  rw [zero_at j]
  exact congrArg (fun x : EReal => 0 + x) (by unfold part; exact rfl)

/-- Every other step at an element: what was there and the step's part of the sum. -/
theorem step_part (c : Dev nD) (t : Fin cfg0.N) (h : ¬t.val % 11 = 0) (j : S512x2048.Idx) :
    ((outsAt0 m c t.val t.isLt).2.2.2 : FVec Ideal S512x2048 .f32) j
      = ((outsAt0 m c (t.val - 1) (Nat.lt_of_le_of_lt (Nat.sub_le _ _) t.isLt)).2.2.2 : FVec Ideal S512x2048 .f32) j
        + part (iblk m c 0 t) (iblk m c 1 t) (iblk m c 2 t) (iblk m c 3 t) j := by
  have e : ((outsAt0 m c (t.val - 1) (Nat.lt_of_le_of_lt (Nat.sub_le _ _) t.isLt)).2.2.1 : S512x2048.Idx → EReal) = iblk m c 0 t := by
    rw [← copy_step m c t h]
    funext i
    have hi : i = ix2 (i 0) (i 1) := by blk_ext []
    rw [hi]
    exact copy m c t.val t.isLt (i 0) (i 1)
  rw [acc_step m c t h]
  refine (step_at _ _ _ _ _ j).trans ?_
  refine congrArg (fun x : EReal => _ + x) ?_
  rw [← e]
  unfold part
  exact rfl

/-- The sum over the hidden units of a row and an output column, from the call's arguments. -/
def total (x0 : S16384x2048.Idx → EReal) (x1 : S2x2x2048x11264.Idx → EReal) (x2 : S2x2x5632x2048.Idx → EReal) (r : Fin 16384) (q : Fin 2048) : EReal :=
  ∑ h : Fin 5632, hid (∑ k : Fin 2048, x0 (ix2 r k) * x1 (ix4 1 1 k ⟨h.val, by omega⟩))
    (∑ k : Fin 2048, x0 (ix2 r k) * x1 (ix4 1 1 k ⟨5632 + h.val, by omega⟩)) * x2 (ix4 1 1 h q)

/-- The result, from the call's arguments. -/
def out (x0 : FVec Ideal S16384x2048 .f32) (x1 : FVec Ideal S2x2x2048x11264 .f32) (x2 : FVec Ideal S2x2x5632x2048 .f32)
    (x3 x4 : FVec Ideal S2x3x2048 .f32) (i : S16384x2048.Idx) : EReal :=
  lnRow (fun l => Ideal.ofBits .f32 0x3FB504F3#32 * x0 (ix2 (i 0) l) + Ideal.ofBits .f32 0x3F000000#32 * total x0 x1 x2 (i 0) l)
    (fun l => x3 (ix3 1 2 l)) (fun l => x4 (ix3 1 2 l)) (i 1)

/-- At the last point of a row block the accumulator holds the whole sum over the hidden units. -/
theorem acc_last (c : Dev nD) (t : Fin cfg0.N) (h : t.val % 11 = 10) (p : Fin 512) (q : Fin 2048) (r : Fin 16384)
    (hr : r.val = t.val / 11 * 512 + p.val) :
    ((outsAt0 m c t.val t.isLt).2.2.2 : FVec Ideal S512x2048 .f32) (ix2 p q)
      = total (m ((c : Thread nD τ).loc main_arg0)) (m ((c : Thread nD τ).loc main_arg1)) (m ((c : Thread nD τ).loc main_arg2)) r q := by
  rw [Pipeline.eq_sum_fin_of_reset_step_apply_of_flush (fun n h => ((outsAt0 m c n h).2.2.2 : FVec Ideal S512x2048 .f32)) 11 (fun _ => 0)
    (fun t => part (iblk m c 0 t) (iblk m c 1 t) (iblk m c 2 t) (iblk m c 3 t))
    (fun t h j => reset_at m c t h j) (fun t h j => step_part m c t h j) t h _, zero_add]
  unfold part total
  refine Fin.sum_mul_add_congr fun s k hl => ?_
  blk_point [iblk, V, idx ⟨_, Pipeline.run_point_lt_of_flush t h s⟩]

/-- What the last point of a row block stores is the result at those rows. -/
theorem point (c : Dev nD) (t : Fin cfg0.N) (h : t.val % 11 = 10) (y : S512x2048.Idx) (i : S16384x2048.Idx)
    (h0 : (i 0).val = t.val / 11 * 512 + (y 0).val) (h1 : (i 1).val = (y 1).val) :
    k0_pay4 (F := Ideal) (iblk m c 0 t) (outsAt0 m c t.val t.isLt).2.2.2 (iblk m c 4 t) (iblk m c 5 t) y
    = out (m ((c : Thread nD τ).loc main_arg0)) (m ((c : Thread nD τ).loc main_arg1)) (m ((c : Thread nD τ).loc main_arg2))
      (m ((c : Thread nD τ).loc main_arg3)) (m ((c : Thread nD τ).loc main_arg4)) i := by
  have hy : y = ix2 (y 0) (y 1) := by blk_ext []
  rw [hy]
  refine (out_at _ _ _ _ (y 0) (y 1)).trans ?_
  unfold out
  have hj : (i 1 : Fin 2048) = y 1 := Fin.ext h1
  rw [hj]
  refine congrFun (congr (congr (congrArg lnRow ?_) ?_) ?_) _
  · funext l
    rw [acc_last m c t h (y 0) l (i 0) h0]
    refine congrArg (fun x : EReal => Ideal.ofBits .f32 0x3FB504F3#32 * x + _) ?_
    blk_point [iblk, V, idx t]
  · funext l
    blk_point [iblk, V, idx t]
  · funext l
    blk_point [iblk, V, idx t]

/-- The first result array after the run, from the arguments. -/
theorem final6 (c : Dev nD) : (dats m 0 c).arrAt 6 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  have h : t.val % 11 = 10 := (flush0_6 t).mp hf
  blk_simp
  rw [after0_6, last m c t h]
  refine point m c t h y _ ?_ ?_
  · blk_simp [idx t]
  · blk_simp [idx t]

/-- The second result array, the same values rounded to bf16, after the run, from the arguments. -/
theorem final7 (c : Dev nD) : (dats m 0 c).arrAt 7 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t hf y => ?_
  have h : t.val % 11 = 10 := (flush0_7 t).mp hf
  blk_simp
  rw [after0_7, last' m c t h]
  refine point m c t h y _ ?_ ?_
  · blk_simp [idx t]
  · blk_simp [idx t]

end Cert.Layer.Ffn

end
-- ==== Proof.Ffn.lean ====
/- The claims about the feed-forward network, its residual and layer norm. -/
module

public import proofs.«01_k».proof.Defs
public import proofs.«01_k».proof.Proof.FfnValue
public import proofs.«01_k».proof.Proof.Gen.Kernel2Ideal.Value
public import proofs.«01_k».proof.Proof.Gen.Reference2Ideal.Run
public import proofs.«01_k».proof.Proof.Gen.Reference2Ideal.Read
public import Idealize.ShloMosaic.Lib.Claim

@[expose] public section

set_option maxRecDepth 16384

noncomputable section

open Idealize.ShloMosaic Idealize.ShloMosaic.TcCoe Idealize.SL.Sem

namespace Cert.Layer.Ffn

/-- The reference's first result is what the kernel's arrays hold. -/
theorem ref42 (x0 : FVec Ideal Cert.Kernel2Ideal.S16384x2048 .f32) (x1 : FVec Ideal Cert.Kernel2Ideal.S2x2x2048x11264 .f32)
    (x2 : FVec Ideal Cert.Kernel2Ideal.S2x2x5632x2048 .f32) (x3 x4 : FVec Ideal Cert.Kernel2Ideal.S2x3x2048 .f32) :
    Cert.Reference2Ideal.Read.val_main_v42 (F := Ideal) x0 x1 x2 x3 x4 = out x0 x1 x2 x3 x4 := by
  funext i
  have hi : i = ix2 (i 0) (i 1) := by blk_ext []
  rw [hi]
  exact ref_at x0 x1 x2 x3 x4 (i 0) (i 1)

/-- Rounding to bf16 changes no real number, so the second result is the first. -/
theorem ref43 (x0 : FVec Ideal Cert.Kernel2Ideal.S16384x2048 .f32) (x1 : FVec Ideal Cert.Kernel2Ideal.S2x2x2048x11264 .f32)
    (x2 : FVec Ideal Cert.Kernel2Ideal.S2x2x5632x2048 .f32) (x3 x4 : FVec Ideal Cert.Kernel2Ideal.S2x3x2048 .f32) :
    Cert.Reference2Ideal.Read.val_main_v43 (F := Ideal) x0 x1 x2 x3 x4 = out x0 x1 x2 x3 x4 :=
  ref42 x0 x1 x2 x3 x4

/-- The reference runs and leaves its arguments unchanged. -/
theorem frame_ref : @Cert.quiescent_Reference2Ideal Cert.Reference2Ideal.Gen.facts := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- Kernel and reference give the same real numbers from the same arguments. -/
theorem algebraic : @Cert.algebraic_Kernel2Ideal_Reference2Ideal Cert.Kernel2Ideal.Gen.facts Cert.Reference2Ideal.Gen.facts := by
  pair_intro
  · run_from Cert.Kernel2Ideal.Gen.run_main m g
  · run_from Cert.Reference2Ideal.Value.run m' g'
    · obtain ⟨h0, h1, h2, h3, h4⟩ := hagree c
      rw [Cert.Reference2Ideal.Read.val_main_v42_eq, h0, h1, h2, h3, h4]
      exact (ref42 _ _ _ _ _).trans (final6 m c).symm
    · obtain ⟨h0, h1, h2, h3, h4⟩ := hagree c
      rw [Cert.Reference2Ideal.Read.val_main_v43_eq, h0, h1, h2, h3, h4]
      exact (ref43 _ _ _ _ _).trans (final7 m c).symm

end Cert.Layer.Ffn

end
-- ==== Proof.ProjIn.lean ====
/- The projection that gives the gated linear attention its queries, keys, values and output gate. -/
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.ProjIn

open Cert.Kernel3Ideal Cert.Kernel3Ideal.Gen

variable (m : (ℓ : Loc nD τ sig) → Buf (Elt Ideal) ℓ)

/-- Where the windows of a grid point lie. -/
theorem idx : ∀ t : Fin cfg0.N, win0_0.index t = ![t.val % 26, 0] ∧ win0_1.index t = ![0, t.val / 26] ∧ win0_2.index t = ![t.val % 26, t.val / 26] :=
  (by decide +kernel : ∀ t : Fin grid0.N, _)

/-- The product of a row with a column. -/
def dotRow (x w : Fin 2048 → EReal) : EReal := ∑ k, x k * w k

/-- A stored tile of the body at an index. -/
theorem pay_at (v0 : Vec Ideal S640x2048 .bf16) (v1 : Vec Ideal S2048x2048 .bf16) (j : S640x2048.Idx) :
    k0_pay1 (F := Ideal) v0 v1 j = dotRow (fun k => v0 (ix2 (j 0) k)) (fun k => v1 (ix2 k (j 1))) := by
  pointwise [k0_pay1, dotRow]

/-- The call's result, from its arguments. -/
def out (x0 : FVec Ideal S16640x2048 .bf16) (x1 : FVec Ideal S1x2048x6160 .f32) (i : S16640x6144.Idx) : EReal :=
  dotRow (fun k => x0 (ix2 (i 0) k)) (fun k => x1 (ix3 0 k ⟨(i 1).val, by have := (i 1).isLt; change (i 1).val < 6144 at this; omega⟩))

/-- The reference's result at an index. -/
theorem ref_at (x0 : FVec Ideal S16640x2048 .bf16) (x1 : FVec Ideal S1x2048x6160 .f32) (i : Fin 16640) (j : Fin 6144) :
    Cert.Reference3Ideal.Read.val_main_v4 (F := Ideal) x0 x1 (ix2 i j) = out x0 x1 (ix2 i j) := by
  open Cert.Reference3Ideal.Read in
  pointwise [out, dotRow, val_main_v4, val_main_v3, val_main_v2, val_main_v1, val_main_v0]

/-- The reference's result is what the kernel's array holds. -/
theorem ref_eq (x0 : FVec Ideal S16640x2048 .bf16) (x1 : FVec Ideal S1x2048x6160 .f32) :
    Cert.Reference3Ideal.Read.val_main_v4 (F := Ideal) x0 x1 = out x0 x1 := by
  funext i
  have hi : i = ix2 (i 0) (i 1) := by blk_ext []
  rw [hi]
  exact ref_at x0 x1 (i 0) (i 1)

/-- What the host operations put in the weights. -/
theorem weights (c : Dev nD) : (V m c main_v1 : FVec Ideal S2048x6160 .bf16)
    = truncf (F := Ideal) .bf16 (shapeCast S2048x6160 (m ((c : Thread nD τ).loc main_arg1) : FVec Ideal S1x2048x6160 .f32) shapeCasts_S1x2048x6160_S2048x6160) bitsLt_bf16_f32 := by
  unfold V
  after_results <;> rfl

/-- The same at an index. -/
theorem weights_at (x1 : FVec Ideal S1x2048x6160 .f32) (k : Fin 2048) (q : Fin 6160) :
    truncf (F := Ideal) .bf16 (shapeCast S2048x6160 x1 shapeCasts_S1x2048x6160_S2048x6160) bitsLt_bf16_f32 (ix2 k q) = x1 (ix3 0 k q) := by
  pointwise []

/-- The weight window's block at a grid point, from the weights. -/
theorem block_at (c : Dev nD) (t : Fin cfg0.N) (k q : Fin 2048) (r : Fin 6160) (hr : r.val = t.val / 26 * 2048 + q.val) :
    (X0_1 m c t : FVec Ideal S2048x2048 .bf16) (ix2 k q) = (m ((c : Thread nD τ).loc main_arg1) : FVec Ideal S1x2048x6160 .f32) (ix3 0 k r) := by
  unfold X0_1 Pipeline.Window.fill
  rw [dif_pos (moved0_1 t (ix2 k q))]
  unfold iblk
  have h0 := Pipeline.Window.rect_emb_val_off win0_1 t (fun a => ⟨((ix2 k q : S2048x2048.Idx) a).val, (win0_1.moved_iff _ _).mp (moved0_1 t (ix2 k q)) a⟩) 0
  have h1 := Pipeline.Window.rect_emb_val_off win0_1 t (fun a => ⟨((ix2 k q : S2048x2048.Idx) a).val, (win0_1.moved_iff _ _).mp (moved0_1 t (ix2 k q)) a⟩) 1
  rw [(idx t).2.1] at h0 h1
  have hw : ∀ (i : Fin 2048) (j : Fin 6160), (V m c main_v1 : FVec Ideal S2048x6160 .bf16) (ix2 i j)
      = (m ((c : Thread nD τ).loc main_arg1) : FVec Ideal S1x2048x6160 .f32) (ix3 0 i j) := by
    intro i j
    rw [weights]
    exact weights_at _ i j
  have hi : ∀ i : S2048x6160.Idx, (V m c main_v1 : FVec Ideal S2048x6160 .bf16) i = (V m c main_v1 : FVec Ideal S2048x6160 .bf16) (ix2 (i 0) (i 1)) :=
    fun i => congrArg (V m c main_v1 : FVec Ideal S2048x6160 .bf16) (by blk_ext [])
  refine ((hi _).trans (hw _ _)).trans (congrArg (m ((c : Thread nD τ).loc main_arg1)) (funext fun a => ?_))
  fin_cases a
  · rfl
  · exact Fin.ext (h0.trans (Nat.zero_add _))
  · exact Fin.ext (h1.trans hr.symm)

/-- The result array after the run, from the arguments. -/
theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  generalize hX : X0_1 m c t = X
  unfold out0_A_2
  frame_out
  rw [pay_at]
  unfold out
  refine congr (congrArg dotRow (funext fun k => ?_)) (funext fun k => ?_)
  · blk_point [iblk, V, idx t]
  · rw [← hX]
    refine block_at m c t k _ _ ?_
    blk_simp [idx t]

/-- The reference runs and leaves its arguments unchanged. -/
theorem frame_ref : @Cert.quiescent_Reference3Ideal Cert.Reference3Ideal.Gen.facts := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- Kernel and reference give the same real numbers from the same arguments. -/
theorem algebraic : @Cert.algebraic_Kernel3Ideal_Reference3Ideal Cert.Kernel3Ideal.Gen.facts Cert.Reference3Ideal.Gen.facts := by
  pair_intro
  · run_from Cert.Kernel3Ideal.Gen.run_main m g
  · run_from Cert.Reference3Ideal.Value.run m' g'
    · obtain ⟨h0, h1⟩ := hagree c
      rw [Cert.Reference3Ideal.Read.val_main_v4_eq]
      exact (ref_eq _ _).trans (final m c).symm

end Cert.Layer.ProjIn

end
-- ==== Proof.ProjGate.lean ====
/- The projection that gives the low-rank forget gate, in 128 lanes of which 16 are used. -/
module

public import proofs.«01_k».proof.Defs
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.ProjGate

open Cert.Kernel4Ideal Cert.Kernel4Ideal.Gen

variable (m : (ℓ : Loc nD τ sig) → Buf (Elt Ideal) ℓ)

/-- Where the windows of a grid point lie. -/
theorem idx : ∀ t : Fin cfg0.N, win0_0.index t = ![t.val, 0] ∧ win0_1.index t = ![0, 0] ∧ win0_2.index t = ![t.val, 0] :=
  (by decide +kernel : ∀ t : Fin grid0.N, _)

/-- The number zero, from an integer. -/
theorem zero_eq (φ : FTy) : (FloatOps.sitofp φ 0#32 : Ideal φ) = (0 : EReal) := by
  change (((0#32 : BitVec 32).toInt : ℝ) : EReal) = 0
  simp

/-- The product of a row with a column. -/
def dotRow (x w : Fin 2048 → EReal) : EReal := ∑ k, x k * w k

/-- A stored tile of the body at an index. -/
theorem pay_at (v0 : Vec Ideal S640x2048 .bf16) (v1 : Vec Ideal S2048x128 .bf16) (j : S640x128.Idx) :
    k0_pay1 (F := Ideal) v0 v1 j = dotRow (fun k => v0 (ix2 (j 0) k)) (fun k => v1 (ix2 k (j 1))) := by
  pointwise [k0_pay1, dotRow]

/-- The call's result, from its arguments. -/
def out (x0 : FVec Ideal S16640x2048 .bf16) (x1 : FVec Ideal S1x2048x6160 .f32) (i : S16640x128.Idx) : EReal :=
  if h : (i 1).val < 16 then dotRow (fun k => x0 (ix2 (i 0) k)) (fun k => x1 (ix3 0 k ⟨6144 + (i 1).val, by omega⟩)) else 0

/-- The reference's result at an index. -/
theorem ref_at (x0 : FVec Ideal S16640x2048 .bf16) (x1 : FVec Ideal S1x2048x6160 .f32) (i : Fin 16640) (j : Fin 128) :
    Cert.Reference4Ideal.Read.val_main_v4 (F := Ideal) x0 x1 (ix2 i j) = out x0 x1 (ix2 i j) := by
  open Cert.Reference4Ideal.Read in
  pointwise [out, dotRow, val_main_v4, val_main_call0_v0, val_main_c, val_main_v3, val_main_v2, val_main_v1, val_main_v0]
  rw [zero_eq]

/-- The reference's result is what the kernel's array holds. -/
theorem ref_eq (x0 : FVec Ideal S16640x2048 .bf16) (x1 : FVec Ideal S1x2048x6160 .f32) :
    Cert.Reference4Ideal.Read.val_main_v4 (F := Ideal) x0 x1 = out x0 x1 := by
  funext i
  have hi : i = ix2 (i 0) (i 1) := by blk_ext []
  rw [hi]
  exact ref_at x0 x1 (i 0) (i 1)

/-- What the host operations put in the weights of the 128 lanes: the 16 gate columns and zeros. -/
theorem weights (c : Dev nD) : (V m c main_v3 : FVec Ideal S2048x128 .bf16)
    = pad S2048x128 ![0, 0] ![0, 112] ![0, 0] (extractStridedSlice S2048x16 ![0, 6144] (truncf (F := Ideal) .bf16 (shapeCast S2048x6160 (m ((c : Thread nD τ).loc main_arg1) : FVec Ideal S1x2048x6160 .f32) shapeCasts_S1x2048x6160_S2048x6160) bitsLt_bf16_f32) slices_S2048x6160_S2048x16_0_6144)
        (sitofp (F := Ideal) .bf16 (constantI S_ 32 0#32)) pads_S2048x16_S2048x128_000_01120 h_S_ := by
  unfold V
  simp only [List.flatten_cons, List.flatten_nil, List.append_nil, List.cons_append, List.nil_append, hostOps0, hostOps0_1, StableHlo.TRef.binary, StableHlo.TRef.unary, StableHlo.TRef.toBuf, StableHlo.TRef.ofBuf, cast_eq]
  after_results <;> rfl

/-- The padded gate columns at an index. -/
theorem padded_at (x1 : FVec Ideal S1x2048x6160 .f32) (k : Fin 2048) (q : Fin 128) :
    pad S2048x128 ![0, 0] ![0, 112] ![0, 0] (extractStridedSlice S2048x16 ![0, 6144] (truncf (F := Ideal) .bf16 (shapeCast S2048x6160 x1 shapeCasts_S1x2048x6160_S2048x6160) bitsLt_bf16_f32) slices_S2048x6160_S2048x16_0_6144)
        (sitofp (F := Ideal) .bf16 (constantI S_ 32 0#32)) pads_S2048x16_S2048x128_000_01120 h_S_ (ix2 k q)
    = if h : q.val < 16 then x1 (ix3 0 k ⟨6144 + q.val, by omega⟩) else (0 : EReal) := by
  pointwise []
  rw [zero_eq]

/-- The same at an index. -/
theorem weights_at (c : Dev nD) (k : Fin 2048) (q : Fin 128) : (V m c main_v3 : FVec Ideal S2048x128 .bf16) (ix2 k q)
    = if h : q.val < 16 then (m ((c : Thread nD τ).loc main_arg1) : FVec Ideal S1x2048x6160 .f32) (ix3 0 k ⟨6144 + q.val, by omega⟩) else (0 : EReal) := by
  rw [weights]
  exact padded_at _ k q

/-- The gate weights' block is the whole array. -/
theorem block_at (c : Dev nD) (t : Fin cfg0.N) (k : Fin 2048) (q : Fin 128) :
    (iblk m c 1 t : FVec Ideal S2048x128 .bf16) (ix2 k q) = (V m c main_v3 : FVec Ideal S2048x128 .bf16) (ix2 k q) := by
  have h0 := Pipeline.Window.rect_emb_val_off win0_1 t (ix2 k q) 0
  have h1 := Pipeline.Window.rect_emb_val_off win0_1 t (ix2 k q) 1
  rw [(idx t).2.1] at h0 h1
  refine congrArg (V m c main_v3) (funext fun a => ?_)
  fin_cases a
  · exact Fin.ext (h0.trans (Nat.zero_add _))
  · exact Fin.ext (h1.trans (Nat.zero_add _))

/-- A row of products with the lanes' weights: a gate column, or zero. -/
theorem dot_at (c : Dev nD) (t : Fin cfg0.N) (x : Fin 2048 → EReal) (q : Fin 128) :
    dotRow x (fun k => (iblk m c 1 t : FVec Ideal S2048x128 .bf16) (ix2 k q))
      = if h : q.val < 16 then dotRow x (fun k => (m ((c : Thread nD τ).loc main_arg1) : FVec Ideal S1x2048x6160 .f32) (ix3 0 k ⟨6144 + q.val, by omega⟩)) else 0 := by
  split
  · rename_i h
    refine congrArg (dotRow x) (funext fun k => ?_)
    rw [block_at, weights_at, dif_pos h]
  · rename_i h
    refine Finset.sum_eq_zero fun k _ => ?_
    have hk : (iblk m c 1 t : FVec Ideal S2048x128 .bf16) (ix2 k q) = (0 : EReal) := by rw [block_at, weights_at, dif_neg h]
    exact (congrArg (x k * ·) hk).trans (mul_zero (x k))

/-- The result array after the run, from the arguments. -/
theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  refine (dot_at m c t _ (y 1)).trans ?_
  unfold out
  refine dite_congr (propext ?_) (fun h => ?_) (fun _ => rfl)
  · blk_simp [idx t]
  · refine congr (congrArg dotRow (funext fun k => ?_)) (funext fun k => ?_)
    · blk_point [iblk, V, idx t]
    · refine congrArg (m ((c : Thread nD τ).loc main_arg1)) ?_
      blk_ext [idx t]

/-- The reference runs and leaves its arguments unchanged. -/
theorem frame_ref : @Cert.quiescent_Reference4Ideal Cert.Reference4Ideal.Gen.facts := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Kernel and reference give the same real numbers from the same arguments. -/
theorem algebraic : @Cert.algebraic_Kernel4Ideal_Reference4Ideal Cert.Kernel4Ideal.Gen.facts Cert.Reference4Ideal.Gen.facts := by
  pair_intro
  · run_from Cert.Kernel4Ideal.Gen.run_main m g
    exact V_main_arg1 m c
  · run_from Cert.Reference4Ideal.Value.run m' g'
    · obtain ⟨h0, h1⟩ := hagree c
      rw [Cert.Reference4Ideal.Read.val_main_v4_eq]
      exact (ref_eq _ _).trans (final m c).symm

end Cert.Layer.ProjGate

end
-- ==== Proof.ProjQ.lean ====
/- The projection that gives the stick-breaking attention its scaled queries. -/
module

public import proofs.«01_k».proof.Defs
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.ProjQ

open Cert.Kernel5Ideal Cert.Kernel5Ideal.Gen

variable (m : (ℓ : Loc nD τ sig) → Buf (Elt Ideal) ℓ)

/-- Where the windows of a grid point lie. -/
theorem idx : ∀ t : Fin cfg0.N, win0_0.index t = ![t.val, 0] ∧ win0_1.index t = ![0, 0] ∧ win0_2.index t = ![t.val, 0] :=
  (by decide +kernel : ∀ t : Fin grid0.N, _)

/-- A stored tile of the body at an index. -/
theorem pay_at (v0 : Vec Ideal S640x2048 .bf16) (v1 : Vec Ideal S2048x2048 .bf16) (j : S640x2048.Idx) :
    k0_pay1 (F := Ideal) v0 v1 j = (∑ k : Fin 2048, v0 (ix2 (j 0) k) * v1 (ix2 k (j 1))) * Ideal.ofBits .f32 0x3DB504F3#32 := by
  pointwise [k0_pay1]

/-- The call's result, from its arguments. -/
def out (x0 : FVec Ideal S16640x2048 .bf16) (x1 : FVec Ideal S1x2048x2048 .f32) (i : S16640x2048.Idx) : EReal :=
  (∑ k : Fin 2048, x0 (ix2 (i 0) k) * x1 (ix3 0 k (i 1))) * Ideal.ofBits .f32 0x3DB504F3#32

/-- The reference's result at an index. -/
theorem ref_at (x0 : FVec Ideal S16640x2048 .bf16) (x1 : FVec Ideal S1x2048x2048 .f32) (i : Fin 16640) (j : Fin 2048) :
    Cert.Reference5Ideal.Read.val_main_v5 (F := Ideal) x0 x1 (ix2 i j) = out x0 x1 (ix2 i j) := by
  open Cert.Reference5Ideal.Read in
  pointwise [out, val_main_v5, val_main_v4, val_main_v3, val_main_cst, val_main_v2, val_main_v1, val_main_v0]

/-- The reference's result is what the kernel's array holds. -/
theorem ref_eq (x0 : FVec Ideal S16640x2048 .bf16) (x1 : FVec Ideal S1x2048x2048 .f32) :
    Cert.Reference5Ideal.Read.val_main_v5 (F := Ideal) x0 x1 = out x0 x1 := by
  funext i
  have hi : i = ix2 (i 0) (i 1) := by blk_ext []
  rw [hi]
  exact ref_at x0 x1 (i 0) (i 1)

/-- The result array after the run, from the arguments. -/
theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  blk_point [iblk, V, out, idx t]

/-- The reference runs and leaves its arguments unchanged. -/
theorem frame_ref : @Cert.quiescent_Reference5Ideal Cert.Reference5Ideal.Gen.facts := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- Kernel and reference give the same real numbers from the same arguments. -/
theorem algebraic : @Cert.algebraic_Kernel5Ideal_Reference5Ideal Cert.Kernel5Ideal.Gen.facts Cert.Reference5Ideal.Gen.facts := by
  pair_intro
  · run_from Cert.Kernel5Ideal.Gen.run_main m g
  · run_from Cert.Reference5Ideal.Value.run m' g'
    · obtain ⟨h0, h1⟩ := hagree c
      rw [Cert.Reference5Ideal.Read.val_main_v5_eq]
      exact (ref_eq _ _).trans (final m c).symm

end Cert.Layer.ProjQ

end
-- ==== Proof.ProjKV.lean ====
/- The projection that gives the shared keys and values. -/
module

public import proofs.«01_k».proof.Defs
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.ProjKV

open Cert.Kernel6Ideal Cert.Kernel6Ideal.Gen

variable (m : (ℓ : Loc nD τ sig) → Buf (Elt Ideal) ℓ)

/-- Where the windows of a grid point lie. -/
theorem idx : ∀ t : Fin cfg0.N, win0_0.index t = ![t.val % 26, 0] ∧ win0_1.index t = ![0, t.val / 26] ∧ win0_2.index t = ![t.val % 26, t.val / 26] :=
  (by decide +kernel : ∀ t : Fin grid0.N, _)

/-- A stored tile of the body at an index. -/
theorem pay_at (v0 : Vec Ideal S640x2048 .bf16) (v1 : Vec Ideal S2048x2048 .bf16) (j : S640x2048.Idx) :
    k0_pay1 (F := Ideal) v0 v1 j = ∑ k : Fin 2048, v0 (ix2 (j 0) k) * v1 (ix2 k (j 1)) := by
  pointwise [k0_pay1]

/-- The call's result, from its arguments. -/
def out (x0 : FVec Ideal S16640x2048 .bf16) (x1 : FVec Ideal S2048x4096 .f32) (i : S16640x4096.Idx) : EReal :=
  ∑ k : Fin 2048, x0 (ix2 (i 0) k) * x1 (ix2 k (i 1))

/-- The reference's result at an index. -/
theorem ref_at (x0 : FVec Ideal S16640x2048 .bf16) (x1 : FVec Ideal S2048x4096 .f32) (i : Fin 16640) (j : Fin 4096) :
    Cert.Reference6Ideal.Read.val_main_v2 (F := Ideal) x0 x1 (ix2 i j) = out x0 x1 (ix2 i j) := by
  open Cert.Reference6Ideal.Read in
  pointwise [out, val_main_v2, val_main_v1, val_main_v0]

/-- The reference's result is what the kernel's array holds. -/
theorem ref_eq (x0 : FVec Ideal S16640x2048 .bf16) (x1 : FVec Ideal S2048x4096 .f32) :
    Cert.Reference6Ideal.Read.val_main_v2 (F := Ideal) x0 x1 = out x0 x1 := by
  funext i
  have hi : i = ix2 (i 0) (i 1) := by blk_ext []
  rw [hi]
  exact ref_at x0 x1 (i 0) (i 1)

/-- The result array after the run, from the arguments. -/
theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [pay_at]
  blk_point [iblk, V, out, idx t]

/-- The reference runs and leaves its arguments unchanged. -/
theorem frame_ref : @Cert.quiescent_Reference6Ideal Cert.Reference6Ideal.Gen.facts := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- Kernel and reference give the same real numbers from the same arguments. -/
theorem algebraic : @Cert.algebraic_Kernel6Ideal_Reference6Ideal Cert.Kernel6Ideal.Gen.facts Cert.Reference6Ideal.Gen.facts := by
  pair_intro
  · run_from Cert.Kernel6Ideal.Gen.run_main m g
  · run_from Cert.Reference6Ideal.Value.run m' g'
    · obtain ⟨h0, h1⟩ := hagree c
      rw [Cert.Reference6Ideal.Read.val_main_v2_eq]
      exact (ref_eq _ _).trans (final m c).symm

end Cert.Layer.ProjKV

end
-- ==== Proof.MixFirst.lean ====
/- The first output projection with its residual and layer norm: the kernel's arrays, the reference and the claims. -/
module

public import proofs.«01_k».proof.Defs
public import proofs.«01_k».proof.Proof.MixRow
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.MixFirst

open Cert.Kernel7Ideal Cert.Kernel7Ideal.Gen Cert.Layer

variable (m : (ℓ : Loc nD τ sig) → Buf (Elt Ideal) ℓ)

/-- Where the windows of a grid point lie. -/
theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] :=
  (by decide +kernel : ∀ t : Fin grid0.N, _)

/-- A stored piece of the body: the layer norm of the row that the residual and the projection add up to. -/
theorem pay_at (v0 : Vec Ideal S160x2048 .bf16) (v1 : Vec Ideal S2048x2048 .bf16)
    (v4 : Vec Ideal S160x2048 .f32) (v8 v10 : Vec Ideal S1x2048 .f32)
    (i : Fin 160) (j : Fin 2048) :
    k0_pay3 (F := Ideal) v0 v1 v4 v8 v10 (ix2 i j)
      = lnRow (fun l => Ideal.ofBits .f32 0x3FB504F3#32 * v4 (ix2 i l) + ∑ k : Fin 2048, v0 (ix2 i k) * v1 (ix2 k l))
          (fun l => v8 (ix2 0 l)) (fun l => v10 (ix2 0 l)) j := by
  pointwise [k0_pay3, lnRow]

/-- Row `r` of the first result, from the call's arguments. -/
def out (x0 : FVec Ideal S16640x2048 .bf16) (x1 : FVec Ideal S1x2048x2048 .f32) (x2 : FVec Ideal S16640x2048 .f32)
    (x3 x4 : FVec Ideal S2x3x2048 .f32) (i : S16640x2048.Idx) : EReal :=
  lnRow (fun l => Ideal.ofBits .f32 0x3FB504F3#32 * x2 (ix2 (i 0) l) + ∑ k : Fin 2048, x0 (ix2 (i 0) k) * x1 (ix3 0 k l))
      (fun l => x3 (ix3 0 1 l)) (fun l => x4 (ix3 0 1 l)) (i 1)

/-- The reference's result at an index. -/
theorem ref_at (x0 : FVec Ideal S16640x2048 .bf16) (x1 : FVec Ideal S1x2048x2048 .f32) (x2 : FVec Ideal S16640x2048 .f32)
    (x3 x4 : FVec Ideal S2x3x2048 .f32) (i : Fin 16640) (j : Fin 2048) :
    Cert.Reference7Ideal.Read.val_main_v33 (F := Ideal) x0 x1 x2 x3 x4 (ix2 i j) = out x0 x1 x2 x3 x4 (ix2 i j) := by
  open Cert.Reference7Ideal.Read in
  pointwise [out, lnRow, val_main_v33, val_main_v32, val_main_v31, val_main_v30, val_main_v29, val_main_v28, val_main_v27, val_main_v26, val_main_v25, val_main_v24, val_main_v23, val_main_cst_4, val_main_v22, val_main_v21, val_main_v20, val_main_v19, val_main_cst_3, val_main_v18, val_main_v17, val_main_cst_2, val_main_v16, val_main_v15, val_main_v14, val_main_v13, val_main_v12, val_main_cst_1, val_main_v11, val_main_v10, val_main_cst_0, val_main_v9, val_main_v8, val_main_v7, val_main_v6, val_main_v5, val_main_v4, val_main_v3, val_main_cst, val_main_v2, val_main_v1, val_main_v0]

/-- A row of a block, normalised, is that row of the result. -/
theorem core (c : Dev nD) (t : Fin cfg0.N) (p : Fin 640) (q : Fin 2048) (i : S16640x2048.Idx)
    (h0 : (i 0).val = t.val * 640 + p.val) (h1 : (i 1).val = q.val) (x0 : FVec Ideal S640x2048 .bf16)
    (e0 : x0 = iblk m c 0 t) (x1 : FVec Ideal S2048x2048 .bf16) (e1 : x1 = iblk m c 1 t)
    (x2 : FVec Ideal S640x2048 .f32) (e2 : x2 = iblk m c 2 t) (x3 : FVec Ideal S1x2048 .f32) (e3 : x3 = iblk m c 3 t)
    (x4 : FVec Ideal S1x2048 .f32) (e4 : x4 = iblk m c 4 t) :
   lnRow (fun l => Ideal.ofBits .f32 0x3FB504F3#32 * x2 (ix2 p l) + ∑ k : Fin 2048, x0 (ix2 p k) * x1 (ix2 k l))
      (fun l => x3 (ix2 0 l)) (fun l => x4 (ix2 0 l)) q
   = out (m ((c : Thread nD τ).loc main_arg0)) (m ((c : Thread nD τ).loc main_arg1)) (m ((c : Thread nD τ).loc main_arg2))
      (m ((c : Thread nD τ).loc main_arg3)) (m ((c : Thread nD τ).loc main_arg4)) i := by
  subst e0 e1 e2 e3 e4
  unfold out
  have hj : (i 1 : Fin 2048) = q := Fin.ext h1
  rw [hj]
  have h0' : (i 0).val = t.val * 640 + p.val := h0
  congr 1
  · funext l
    blk_point [iblk, V, idx t]
  · funext l
    blk_point [iblk, V, idx t]
  · funext l
    blk_point [iblk, V, idx t]

/-- One tile of 160 rows, beginning `o` rows into the block, normalised and read at one element. -/
theorem piece (c : Dev nD) (t : Fin cfg0.N) (o : ℕ) (inb : ∀ a, (![o, 0] : Fin 2 → ℕ) a + S160x2048.size a ≤ S640x2048.size a)
    (p : Fin 640) (y : S160x2048.Idx) (hp : p.val = o + (y 0).val)
    (i : S16640x2048.Idx) (h0 : (i 0).val = t.val * 640 + p.val) (h1 : (i 1).val = (y 1).val) :
   k0_pay3 (F := Ideal) (View.ld (iblk m c 0 t) (Rect.unit (s := S640x2048) ![o, 0] S160x2048.size inb)) (View.ld (iblk m c 1 t) r0_1)
      (View.ld (iblk m c 2 t) (Rect.unit (s := S640x2048) ![o, 0] S160x2048.size inb))
      (View.ld (iblk m c 3 t) r0_2) (View.ld (iblk m c 4 t) r0_2) y
   = out (m ((c : Thread nD τ).loc main_arg0)) (m ((c : Thread nD τ).loc main_arg1)) (m ((c : Thread nD τ).loc main_arg2))
      (m ((c : Thread nD τ).loc main_arg3)) (m ((c : Thread nD τ).loc main_arg4)) i := by
  have hy : y = ix2 (y 0) (y 1) := by blk_ext []
  rw [hy]
  refine (pay_at _ _ _ _ _ (y 0) (y 1)).trans ?_
  have hc := core m c t p (y 1) i h0 h1 _ rfl _ rfl _ rfl _ rfl _ rfl
  refine Eq.trans ?_ hc
  have hld : ∀ l : Fin 2048, ∀ a, ((ix2 p l : S640x2048.Idx) a : ℕ) = (![o, 0] : Fin 2 → ℕ) a + (ix2 (y 0) l : S160x2048.Idx) a := by
    intro l a
    fin_cases a
    · exact hp
    · exact (Nat.zero_add _).symm
  refine congrFun (congr (congr (congrArg lnRow ?_) ?_) ?_) _
  · funext l
    refine congr (congrArg _ (congrArg _ ?_)) (Finset.sum_congr rfl fun k _ => ?_)
    · exact View.ld_unit_apply_of _ _ _ inb _ _ (hld l)
    · refine congr (congrArg _ ?_) ?_
      · exact View.ld_unit_apply_of _ _ _ inb _ _ (hld k)
      · exact congrFun (View.ld_unit_lit _ _ (fun a => by fin_cases a <;> rfl)) _
  · funext l
    exact congrFun (View.ld_unit_lit _ _ (fun a => by fin_cases a <;> rfl)) _
  · funext l
    exact congrFun (View.ld_unit_lit _ _ (fun a => by fin_cases a <;> rfl)) _

/-- The first result array after the run, from the arguments. -/
theorem final5 (c : Dev nD) : (dats m 0 c).arrAt 5 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  unfold out0_5
  canon_tiles x h
  · refine piece m c t 480 _ (y 0) x h0 _ ?_ ?_
    · blk_simp [idx t]
    · blk_simp [idx t]
      try omega
  · refine piece m c t 320 _ (y 0) x h0 _ ?_ ?_
    · blk_simp [idx t]
    · blk_simp [idx t]
      try omega
  · refine piece m c t 160 _ (y 0) x h0 _ ?_ ?_
    · blk_simp [idx t]
    · blk_simp [idx t]
      try omega
  · refine piece m c t 0 _ (y 0) x (h0.trans (Nat.zero_add _).symm) _ ?_ ?_
    · blk_simp [idx t]
    · blk_simp [idx t]
      try omega

/-- The second result array, the same values rounded to bf16, after the run, from the arguments. -/
theorem final6 (c : Dev nD) : (dats m 0 c).arrAt 6 (cfgs 0).N
    = out (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  blk_simp
  rw [after0_6]
  unfold out0_6
  canon_tiles x h
  · refine piece m c t 480 _ (y 0) x h0 _ ?_ ?_
    · blk_simp [idx t]
    · blk_simp [idx t]
      try omega
  · refine piece m c t 320 _ (y 0) x h0 _ ?_ ?_
    · blk_simp [idx t]
    · blk_simp [idx t]
      try omega
  · refine piece m c t 160 _ (y 0) x h0 _ ?_ ?_
    · blk_simp [idx t]
    · blk_simp [idx t]
      try omega
  · refine piece m c t 0 _ (y 0) x (h0.trans (Nat.zero_add _).symm) _ ?_ ?_
    · blk_simp [idx t]
    · blk_simp [idx t]
      try omega

/-- The reference's first result is what the kernel's arrays hold. -/
theorem ref33 (x0 : FVec Ideal Cert.Kernel7Ideal.S16640x2048 .bf16) (x1 : FVec Ideal Cert.Kernel7Ideal.S1x2048x2048 .f32)
    (x2 : FVec Ideal Cert.Kernel7Ideal.S16640x2048 .f32) (x3 x4 : FVec Ideal Cert.Kernel7Ideal.S2x3x2048 .f32) :
    Cert.Reference7Ideal.Read.val_main_v33 (F := Ideal) x0 x1 x2 x3 x4 = out x0 x1 x2 x3 x4 := by
  funext i
  have hi : i = ix2 (i 0) (i 1) := by blk_ext []
  rw [hi]
  exact ref_at x0 x1 x2 x3 x4 (i 0) (i 1)

/-- Rounding to bf16 changes no real number, so the second result is the first. -/
theorem ref34 (x0 : FVec Ideal Cert.Kernel7Ideal.S16640x2048 .bf16) (x1 : FVec Ideal Cert.Kernel7Ideal.S1x2048x2048 .f32)
    (x2 : FVec Ideal Cert.Kernel7Ideal.S16640x2048 .f32) (x3 x4 : FVec Ideal Cert.Kernel7Ideal.S2x3x2048 .f32) :
    Cert.Reference7Ideal.Read.val_main_v34 (F := Ideal) x0 x1 x2 x3 x4 = out x0 x1 x2 x3 x4 :=
  ref33 x0 x1 x2 x3 x4

/-- The reference runs and leaves its arguments unchanged. -/
theorem frame_ref : @Cert.quiescent_Reference7Ideal Cert.Reference7Ideal.Gen.facts := fun m ρ _ =>
  (θ_run Cert.Reference7Ideal.defs _ _).mono
    (fun r h => ⟨fun c => (h c).2.2, Idealize.ShloMosaic.sem_eq_zero_of_no_sems (by decide) r.2⟩)
    (Cert.Reference7Ideal.Value.run (F := Ideal) m ρ)

/-- Kernel and reference give the same real numbers from the same arguments. -/
theorem algebraic : @Cert.algebraic_Kernel7Ideal_Reference7Ideal Cert.Kernel7Ideal.Gen.facts Cert.Reference7Ideal.Gen.facts := by
  pair_intro
  · run_from Cert.Kernel7Ideal.Gen.run_main m g
  · run_from Cert.Reference7Ideal.Value.run m' g'
    · obtain ⟨h0, h1, h2, h3, h4⟩ := hagree c
      rw [Cert.Reference7Ideal.Read.val_main_v33_eq, h0, h1, h2, h3, h4]
      exact (ref33 _ _ _ _ _).trans (final5 m c).symm
    · obtain ⟨h0, h1, h2, h3, h4⟩ := hagree c
      rw [Cert.Reference7Ideal.Read.val_main_v34_eq, h0, h1, h2, h3, h4]
      exact (ref34 _ _ _ _ _).trans (final6 m c).symm

end Cert.Layer.MixFirst

end
-- ==== Proof.SbTable.lean ====
/- The attention's table of minus ones and zeros, read at an index. -/
module

public import proofs.«01_k».proof.Kernel8Ideal
public import Idealize.ShloMosaic.Lib.Pointwise
public import Idealize.ShloMosaic.Lib.IdealHost

@[expose] public section

set_option maxRecDepth 16384

noncomputable section

open Idealize.ShloMosaic

namespace Cert.Layer.SbTable

open Cert.Kernel8Ideal

/-- The table's word at a column and a row: minus one on and below the diagonal, minus zero above it. -/
def w (col row : ℕ) : BitVec 16 := if col ≤ row then 0xBF80#16 else 0x8000#16

/-- Moving both by half a row changes nothing. -/
theorem w_shift (i c : ℕ) (h1 : i % 256 = 128 + i % 128) (h2 : i / 256 = 128 + c) : w (i % 256) (i / 256) = w (i % 128) c := by
  unfold w
  rw [h1, h2]
  simp only [Nat.add_le_add_iff_left]

/-- The first half of a late row lies below the diagonal. -/
theorem w_low (i : ℕ) (h1 : i % 256 = i % 128) (h2 : 128 ≤ i / 256) : w (i % 256) (i / 256) = w (i % 128) 127 := by
  unfold w
  rw [if_pos (by omega), if_pos (by omega)]

/-- The second half of an early row lies above the diagonal. -/
theorem w_high (i : ℕ) (h1 : i % 256 = 128 + i % 128) (h2 : i / 256 < 128) : w (i % 256) (i / 256) = 0x8000#16 := by
  unfold w
  rw [if_neg (by omega)]

/-- A half row's words: up to column `c` minus one, then minus zero. -/
def Leaf (f : ℕ → BitVec 16) (c : ℕ) : Prop := ∀ i, f i = w (i % 128) c

/-- A half row that is read at the last seven bits holds at every index what it holds at its columns. -/
theorem leaf_of {f : ℕ → BitVec 16} {c : ℕ} (hf : ∀ i, f (i % 128) = f i) (h : ∀ x : Fin 128, f x.val = w x.val c) : Leaf f c :=
  fun i => (hf i).symm.trans (h ⟨i % 128, Nat.mod_lt _ (by decide)⟩)

/-- A quarter of the table, from half row `128 k`, at its half row `q`. -/
def At (f : ℕ → BitVec 16) (k q : ℕ) : Prop := ∀ i, i / 128 % 128 = q → i / 16384 = k → f i = w (i % 256) (i / 256)

section
variable {i k q : ℕ} {x : BitVec 16} (h : i / 128 % 128 = q) (h0 : i / 16384 = k)
include h h0

/-- The first half of an early row. -/
theorem early {c : ℕ} (hx : x = w (i % 128) c) (hc : 2 * c = 128 * k + q) : x = w (i % 256) (i / 256) := by
  rw [hx, show i % 256 = i % 128 by omega, show i / 256 = c by omega]

/-- The second half of an early row. -/
theorem high (hx : x = 0x8000#16) (hc : (128 * k + q) % 2 = 1) (hn : 128 * k + q < 256) : x = w (i % 256) (i / 256) := by
  rw [hx, w_high i (by omega) (by omega)]

/-- The first half of a late row. -/
theorem low (hx : x = w (i % 128) 127) (hc : (128 * k + q) % 2 = 0) (hn : 256 ≤ 128 * k + q) : x = w (i % 256) (i / 256) := by
  rw [hx, w_low i (by omega) (by omega)]

/-- The second half of a late row. -/
theorem late {c : ℕ} (hx : x = w (i % 128) c) (hc : 2 * c + 257 = 128 * k + q) : x = w (i % 256) (i / 256) := by
  rw [hx, w_shift i c (by omega) (by omega)]

end

/-! ### The first halves of the first 128 rows: row `c` is `l_c` -/

theorem l_0 : Leaf lit0t0_0 0 := leaf_of (fun i => by unfold lit0t0_0; rw [Nat.mod_mod]) (by unfold w; decide +kernel)

theorem l_1 : Leaf lit0t0_2 1 := leaf_of (fun i => by unfold lit0t0_2; rw [Nat.mod_mod]) (by unfold w; decide +kernel)

theorem l_2 : Leaf lit0t0_4 2 := leaf_of (fun i => by unfold lit0t0_4; rw [Nat.mod_mod]) (by unfold w; decide +kernel)

theorem l_3 : Leaf lit0t0_6 3 := leaf_of (fun i => by unfold lit0t0_6; rw [Nat.mod_mod]) (by unfold w; decide +kernel)

theorem l_4 : Leaf lit0t0_8 4 := leaf_of (fun i => by unfold lit0t0_8; rw [Nat.mod_mod]) (by unfold w; decide +kernel)

theorem l_5 : Leaf lit0t0_10 5 := leaf_of (fun i => by unfold lit0t0_10; rw [Nat.mod_mod]) (by unfold w; decide +kernel)

theorem l_6 : Leaf lit0t0_12 6 := leaf_of (fun i => by unfold lit0t0_12; rw [Nat.mod_mod]) (by unfold w; decide +kernel)

theorem l_7 : Leaf lit0t0_14 7 := leaf_of (fun i => by unfold lit0t0_14; rw [Nat.mod_mod]) (by unfold w; decide +kernel)

theorem l_8 : Leaf lit0t0_16 8 := leaf_of (fun i => by unfold lit0t0_16; rw [Nat.mod_mod]) (by unfold w; decide +kernel)

theorem l_9 : Leaf lit0t0_18 9 := leaf_of (fun i => by unfold lit0t0_18; rw [Nat.mod_mod]) (by unfold w; decide +kernel)

theorem l_10 : Leaf lit0t0_20 10 := leaf_of (fun i => by unfold lit0t0_20; rw [Nat.mod_mod]) (by unfold w; decide +kernel)

theorem l_11 : Leaf lit0t0_22 11 := leaf_of (fun i => by unfold lit0t0_22; rw [Nat.mod_mod]) (by unfold w; decide +kernel)

theorem l_12 : Leaf lit0t0_24 12 := leaf_of (fun i => by unfold lit0t0_24; rw [Nat.mod_mod]) (by unfold w; decide +kernel)

theorem l_13 : Leaf lit0t0_26 13 := leaf_of (fun i => by unfold lit0t0_26; rw [Nat.mod_mod]) (by unfold w; decide +kernel)

theorem l_14 : Leaf lit0t0_28 14 := leaf_of (fun i => by unfold lit0t0_28; rw [Nat.mod_mod]) (by unfold w; decide +kernel)

theorem l_15 : Leaf lit0t0_30 15 := leaf_of (fun i => by unfold lit0t0_30; rw [Nat.mod_mod]) (by unfold w; decide +kernel)

theorem l_16 : Leaf lit0t0_32 16 := leaf_of (fun i => by unfold lit0t0_32; rw [Nat.mod_mod]) (by unfold w; decide +kernel)

theorem l_17 : Leaf lit0t0_34 17 := leaf_of (fun i => by unfold lit0t0_34; rw [Nat.mod_mod]) (by unfold w; decide +kernel)

theorem l_18 : Leaf lit0t0_36 18 := leaf_of (fun i => by unfold lit0t0_36; rw [Nat.mod_mod]) (by unfold w; decide +kernel)

theorem l_19 : Leaf lit0t0_38 19 := leaf_of (fun i => by unfold lit0t0_38; rw [Nat.mod_mod]) (by unfold w; decide +kernel)

theorem l_20 : Leaf lit0t0_40 20 := leaf_of (fun i => by unfold lit0t0_40; rw [Nat.mod_mod]) (by unfold w; decide +kernel)

theorem l_21 : Leaf lit0t0_42 21 := leaf_of (fun i => by unfold lit0t0_42; rw [Nat.mod_mod]) (by unfold w; decide +kernel)

theorem l_22 : Leaf lit0t0_44 22 := leaf_of (fun i => by unfold lit0t0_44; rw [Nat.mod_mod]) (by unfold w; decide +kernel)

theorem l_23 : Leaf lit0t0_46 23 := leaf_of (fun i => by unfold lit0t0_46; rw [Nat.mod_mod]) (by unfold w; decide +kernel)

theorem l_24 : Leaf lit0t0_48 24 := leaf_of (fun i => by unfold lit0t0_48; rw [Nat.mod_mod]) (by unfold w; decide +kernel)

theorem l_25 : Leaf lit0t0_50 25 := leaf_of (fun i => by unfold lit0t0_50; rw [Nat.mod_mod]) (by unfold w; decide +kernel)

theorem l_26 : Leaf lit0t0_52 26 := leaf_of (fun i => by unfold lit0t0_52; rw [Nat.mod_mod]) (by unfold w; decide +kernel)

theorem l_27 : Leaf lit0t0_54 27 := leaf_of (fun i => by unfold lit0t0_54; rw [Nat.mod_mod]) (by unfold w; decide +kernel)

theorem l_28 : Leaf lit0t0_56 28 := leaf_of (fun i => by unfold lit0t0_56; rw [Nat.mod_mod]) (by unfold w; decide +kernel)

theorem l_29 : Leaf lit0t0_58 29 := leaf_of (fun i => by unfold lit0t0_58; rw [Nat.mod_mod]) (by unfold w; decide +kernel)

theorem l_30 : Leaf lit0t0_60 30 := leaf_of (fun i => by unfold lit0t0_60; rw [Nat.mod_mod]) (by unfold w; decide +kernel)

theorem l_31 : Leaf lit0t0_62 31 := leaf_of (fun i => by unfold lit0t0_62; rw [Nat.mod_mod]) (by unfold w; decide +kernel)

theorem l_32 : Leaf lit0t0_64 32 := leaf_of (fun i => by unfold lit0t0_64; rw [Nat.mod_mod]) (by unfold w; decide +kernel)

theorem l_33 : Leaf lit0t0_66 33 := leaf_of (fun i => by unfold lit0t0_66; rw [Nat.mod_mod]) (by unfold w; decide +kernel)

theorem l_34 : Leaf lit0t0_68 34 := leaf_of (fun i => by unfold lit0t0_68; rw [Nat.mod_mod]) (by unfold w; decide +kernel)

theorem l_35 : Leaf lit0t0_70 35 := leaf_of (fun i => by unfold lit0t0_70; rw [Nat.mod_mod]) (by unfold w; decide +kernel)

theorem l_36 : Leaf lit0t0_72 36 := leaf_of (fun i => by unfold lit0t0_72; rw [Nat.mod_mod]) (by unfold w; decide +kernel)

theorem l_37 : Leaf lit0t0_74 37 := leaf_of (fun i => by unfold lit0t0_74; rw [Nat.mod_mod]) (by unfold w; decide +kernel)

theorem l_38 : Leaf lit0t0_76 38 := leaf_of (fun i => by unfold lit0t0_76; rw [Nat.mod_mod]) (by unfold w; decide +kernel)

theorem l_39 : Leaf lit0t0_78 39 := leaf_of (fun i => by unfold lit0t0_78; rw [Nat.mod_mod]) (by unfold w; decide +kernel)

theorem l_40 : Leaf lit0t0_80 40 := leaf_of (fun i => by unfold lit0t0_80; rw [Nat.mod_mod]) (by unfold w; decide +kernel)

theorem l_41 : Leaf lit0t0_82 41 := leaf_of (fun i => by unfold lit0t0_82; rw [Nat.mod_mod]) (by unfold w; decide +kernel)

theorem l_42 : Leaf lit0t0_84 42 := leaf_of (fun i => by unfold lit0t0_84; rw [Nat.mod_mod]) (by unfold w; decide +kernel)

theorem l_43 : Leaf lit0t0_86 43 := leaf_of (fun i => by unfold lit0t0_86; rw [Nat.mod_mod]) (by unfold w; decide +kernel)

theorem l_44 : Leaf lit0t0_88 44 := leaf_of (fun i => by unfold lit0t0_88; rw [Nat.mod_mod]) (by unfold w; decide +kernel)

theorem l_45 : Leaf lit0t0_90 45 := leaf_of (fun i => by unfold lit0t0_90; rw [Nat.mod_mod]) (by unfold w; decide +kernel)

theorem l_46 : Leaf lit0t0_92 46 := leaf_of (fun i => by unfold lit0t0_92; rw [Nat.mod_mod]) (by unfold w; decide +kernel)

theorem l_47 : Leaf lit0t0_94 47 := leaf_of (fun i => by unfold lit0t0_94; rw [Nat.mod_mod]) (by unfold w; decide +kernel)

theorem l_48 : Leaf lit0t0_96 48 := leaf_of (fun i => by unfold lit0t0_96; rw [Nat.mod_mod]) (by unfold w; decide +kernel)

theorem l_49 : Leaf lit0t0_98 49 := leaf_of (fun i => by unfold lit0t0_98; rw [Nat.mod_mod]) (by unfold w; decide +kernel)

theorem l_50 : Leaf lit0t0_100 50 := leaf_of (fun i => by unfold lit0t0_100; rw [Nat.mod_mod]) (by unfold w; decide +kernel)

theorem l_51 : Leaf lit0t0_102 51 := leaf_of (fun i => by unfold lit0t0_102; rw [Nat.mod_mod]) (by unfold w; decide +kernel)

theorem l_52 : Leaf lit0t0_104 52 := leaf_of (fun i => by unfold lit0t0_104; rw [Nat.mod_mod]) (by unfold w; decide +kernel)

theorem l_53 : Leaf lit0t0_106 53 := leaf_of (fun i => by unfold lit0t0_106; rw [Nat.mod_mod]) (by unfold w; decide +kernel)

theorem l_54 : Leaf lit0t0_108 54 := leaf_of (fun i => by unfold lit0t0_108; rw [Nat.mod_mod]) (by unfold w; decide +kernel)

theorem l_55 : Leaf lit0t0_110 55 := leaf_of (fun i => by unfold lit0t0_110; rw [Nat.mod_mod]) (by unfold w; decide +kernel)

theorem l_56 : Leaf lit0t0_112 56 := leaf_of (fun i => by unfold lit0t0_112; rw [Nat.mod_mod]) (by unfold w; decide +kernel)

theorem l_57 : Leaf lit0t0_114 57 := leaf_of (fun i => by unfold lit0t0_114; rw [Nat.mod_mod]) (by unfold w; decide +kernel)

theorem l_58 : Leaf lit0t0_116 58 := leaf_of (fun i => by unfold lit0t0_116; rw [Nat.mod_mod]) (by unfold w; decide +kernel)

theorem l_59 : Leaf lit0t0_118 59 := leaf_of (fun i => by unfold lit0t0_118; rw [Nat.mod_mod]) (by unfold w; decide +kernel)

theorem l_60 : Leaf lit0t0_120 60 := leaf_of (fun i => by unfold lit0t0_120; rw [Nat.mod_mod]) (by unfold w; decide +kernel)

theorem l_61 : Leaf lit0t0_122 61 := leaf_of (fun i => by unfold lit0t0_122; rw [Nat.mod_mod]) (by unfold w; decide +kernel)

theorem l_62 : Leaf lit0t0_124 62 := leaf_of (fun i => by unfold lit0t0_124; rw [Nat.mod_mod]) (by unfold w; decide +kernel)

theorem l_63 : Leaf lit0t0_126 63 := leaf_of (fun i => by unfold lit0t0_126; rw [Nat.mod_mod]) (by unfold w; decide +kernel)

theorem l_64 : Leaf lit0t0_128 64 := leaf_of (fun i => by unfold lit0t0_128; rw [Nat.mod_mod]) (by unfold w; decide +kernel)

theorem l_65 : Leaf lit0t0_130 65 := leaf_of (fun i => by unfold lit0t0_130; rw [Nat.mod_mod]) (by unfold w; decide +kernel)

theorem l_66 : Leaf lit0t0_132 66 := leaf_of (fun i => by unfold lit0t0_132; rw [Nat.mod_mod]) (by unfold w; decide +kernel)

theorem l_67 : Leaf lit0t0_134 67 := leaf_of (fun i => by unfold lit0t0_134; rw [Nat.mod_mod]) (by unfold w; decide +kernel)

theorem l_68 : Leaf lit0t0_136 68 := leaf_of (fun i => by unfold lit0t0_136; rw [Nat.mod_mod]) (by unfold w; decide +kernel)

theorem l_69 : Leaf lit0t0_138 69 := leaf_of (fun i => by unfold lit0t0_138; rw [Nat.mod_mod]) (by unfold w; decide +kernel)

theorem l_70 : Leaf lit0t0_140 70 := leaf_of (fun i => by unfold lit0t0_140; rw [Nat.mod_mod]) (by unfold w; decide +kernel)

theorem l_71 : Leaf lit0t0_142 71 := leaf_of (fun i => by unfold lit0t0_142; rw [Nat.mod_mod]) (by unfold w; decide +kernel)

theorem l_72 : Leaf lit0t0_144 72 := leaf_of (fun i => by unfold lit0t0_144; rw [Nat.mod_mod]) (by unfold w; decide +kernel)

theorem l_73 : Leaf lit0t0_146 73 := leaf_of (fun i => by unfold lit0t0_146; rw [Nat.mod_mod]) (by unfold w; decide +kernel)

theorem l_74 : Leaf lit0t0_148 74 := leaf_of (fun i => by unfold lit0t0_148; rw [Nat.mod_mod]) (by unfold w; decide +kernel)

theorem l_75 : Leaf lit0t0_150 75 := leaf_of (fun i => by unfold lit0t0_150; rw [Nat.mod_mod]) (by unfold w; decide +kernel)

theorem l_76 : Leaf lit0t0_152 76 := leaf_of (fun i => by unfold lit0t0_152; rw [Nat.mod_mod]) (by unfold w; decide +kernel)

theorem l_77 : Leaf lit0t0_154 77 := leaf_of (fun i => by unfold lit0t0_154; rw [Nat.mod_mod]) (by unfold w; decide +kernel)

theorem l_78 : Leaf lit0t0_156 78 := leaf_of (fun i => by unfold lit0t0_156; rw [Nat.mod_mod]) (by unfold w; decide +kernel)

theorem l_79 : Leaf lit0t0_158 79 := leaf_of (fun i => by unfold lit0t0_158; rw [Nat.mod_mod]) (by unfold w; decide +kernel)

theorem l_80 : Leaf lit0t0_160 80 := leaf_of (fun i => by unfold lit0t0_160; rw [Nat.mod_mod]) (by unfold w; decide +kernel)

theorem l_81 : Leaf lit0t0_162 81 := leaf_of (fun i => by unfold lit0t0_162; rw [Nat.mod_mod]) (by unfold w; decide +kernel)

theorem l_82 : Leaf lit0t0_164 82 := leaf_of (fun i => by unfold lit0t0_164; rw [Nat.mod_mod]) (by unfold w; decide +kernel)

theorem l_83 : Leaf lit0t0_166 83 := leaf_of (fun i => by unfold lit0t0_166; rw [Nat.mod_mod]) (by unfold w; decide +kernel)

theorem l_84 : Leaf lit0t0_168 84 := leaf_of (fun i => by unfold lit0t0_168; rw [Nat.mod_mod]) (by unfold w; decide +kernel)

theorem l_85 : Leaf lit0t0_170 85 := leaf_of (fun i => by unfold lit0t0_170; rw [Nat.mod_mod]) (by unfold w; decide +kernel)

theorem l_86 : Leaf lit0t0_172 86 := leaf_of (fun i => by unfold lit0t0_172; rw [Nat.mod_mod]) (by unfold w; decide +kernel)

theorem l_87 : Leaf lit0t0_174 87 := leaf_of (fun i => by unfold lit0t0_174; rw [Nat.mod_mod]) (by unfold w; decide +kernel)

theorem l_88 : Leaf lit0t0_176 88 := leaf_of (fun i => by unfold lit0t0_176; rw [Nat.mod_mod]) (by unfold w; decide +kernel)

theorem l_89 : Leaf lit0t0_178 89 := leaf_of (fun i => by unfold lit0t0_178; rw [Nat.mod_mod]) (by unfold w; decide +kernel)

theorem l_90 : Leaf lit0t0_180 90 := leaf_of (fun i => by unfold lit0t0_180; rw [Nat.mod_mod]) (by unfold w; decide +kernel)

theorem l_91 : Leaf lit0t0_182 91 := leaf_of (fun i => by unfold lit0t0_182; rw [Nat.mod_mod]) (by unfold w; decide +kernel)

theorem l_92 : Leaf lit0t0_184 92 := leaf_of (fun i => by unfold lit0t0_184; rw [Nat.mod_mod]) (by unfold w; decide +kernel)

theorem l_93 : Leaf lit0t0_186 93 := leaf_of (fun i => by unfold lit0t0_186; rw [Nat.mod_mod]) (by unfold w; decide +kernel)

theorem l_94 : Leaf lit0t0_188 94 := leaf_of (fun i => by unfold lit0t0_188; rw [Nat.mod_mod]) (by unfold w; decide +kernel)

theorem l_95 : Leaf lit0t0_190 95 := leaf_of (fun i => by unfold lit0t0_190; rw [Nat.mod_mod]) (by unfold w; decide +kernel)

theorem l_96 : Leaf lit0t0_192 96 := leaf_of (fun i => by unfold lit0t0_192; rw [Nat.mod_mod]) (by unfold w; decide +kernel)

theorem l_97 : Leaf lit0t0_194 97 := leaf_of (fun i => by unfold lit0t0_194; rw [Nat.mod_mod]) (by unfold w; decide +kernel)

theorem l_98 : Leaf lit0t0_196 98 := leaf_of (fun i => by unfold lit0t0_196; rw [Nat.mod_mod]) (by unfold w; decide +kernel)

theorem l_99 : Leaf lit0t0_198 99 := leaf_of (fun i => by unfold lit0t0_198; rw [Nat.mod_mod]) (by unfold w; decide +kernel)

theorem l_100 : Leaf lit0t0_200 100 := leaf_of (fun i => by unfold lit0t0_200; rw [Nat.mod_mod]) (by unfold w; decide +kernel)

theorem l_101 : Leaf lit0t0_202 101 := leaf_of (fun i => by unfold lit0t0_202; rw [Nat.mod_mod]) (by unfold w; decide +kernel)

theorem l_102 : Leaf lit0t0_204 102 := leaf_of (fun i => by unfold lit0t0_204; rw [Nat.mod_mod]) (by unfold w; decide +kernel)

theorem l_103 : Leaf lit0t0_206 103 := leaf_of (fun i => by unfold lit0t0_206; rw [Nat.mod_mod]) (by unfold w; decide +kernel)

theorem l_104 : Leaf lit0t0_208 104 := leaf_of (fun i => by unfold lit0t0_208; rw [Nat.mod_mod]) (by unfold w; decide +kernel)

theorem l_105 : Leaf lit0t0_210 105 := leaf_of (fun i => by unfold lit0t0_210; rw [Nat.mod_mod]) (by unfold w; decide +kernel)

theorem l_106 : Leaf lit0t0_212 106 := leaf_of (fun i => by unfold lit0t0_212; rw [Nat.mod_mod]) (by unfold w; decide +kernel)

theorem l_107 : Leaf lit0t0_214 107 := leaf_of (fun i => by unfold lit0t0_214; rw [Nat.mod_mod]) (by unfold w; decide +kernel)

theorem l_108 : Leaf lit0t0_216 108 := leaf_of (fun i => by unfold lit0t0_216; rw [Nat.mod_mod]) (by unfold w; decide +kernel)

theorem l_109 : Leaf lit0t0_218 109 := leaf_of (fun i => by unfold lit0t0_218; rw [Nat.mod_mod]) (by unfold w; decide +kernel)

theorem l_110 : Leaf lit0t0_220 110 := leaf_of (fun i => by unfold lit0t0_220; rw [Nat.mod_mod]) (by unfold w; decide +kernel)

theorem l_111 : Leaf lit0t0_222 111 := leaf_of (fun i => by unfold lit0t0_222; rw [Nat.mod_mod]) (by unfold w; decide +kernel)

theorem l_112 : Leaf lit0t0_224 112 := leaf_of (fun i => by unfold lit0t0_224; rw [Nat.mod_mod]) (by unfold w; decide +kernel)

theorem l_113 : Leaf lit0t0_226 113 := leaf_of (fun i => by unfold lit0t0_226; rw [Nat.mod_mod]) (by unfold w; decide +kernel)

theorem l_114 : Leaf lit0t0_228 114 := leaf_of (fun i => by unfold lit0t0_228; rw [Nat.mod_mod]) (by unfold w; decide +kernel)

theorem l_115 : Leaf lit0t0_230 115 := leaf_of (fun i => by unfold lit0t0_230; rw [Nat.mod_mod]) (by unfold w; decide +kernel)

theorem l_116 : Leaf lit0t0_232 116 := leaf_of (fun i => by unfold lit0t0_232; rw [Nat.mod_mod]) (by unfold w; decide +kernel)

theorem l_117 : Leaf lit0t0_234 117 := leaf_of (fun i => by unfold lit0t0_234; rw [Nat.mod_mod]) (by unfold w; decide +kernel)

theorem l_118 : Leaf lit0t0_236 118 := leaf_of (fun i => by unfold lit0t0_236; rw [Nat.mod_mod]) (by unfold w; decide +kernel)

theorem l_119 : Leaf lit0t0_238 119 := leaf_of (fun i => by unfold lit0t0_238; rw [Nat.mod_mod]) (by unfold w; decide +kernel)

theorem l_120 : Leaf lit0t0_240 120 := leaf_of (fun i => by unfold lit0t0_240; rw [Nat.mod_mod]) (by unfold w; decide +kernel)

theorem l_121 : Leaf lit0t0_242 121 := leaf_of (fun i => by unfold lit0t0_242; rw [Nat.mod_mod]) (by unfold w; decide +kernel)

theorem l_122 : Leaf lit0t0_244 122 := leaf_of (fun i => by unfold lit0t0_244; rw [Nat.mod_mod]) (by unfold w; decide +kernel)

theorem l_123 : Leaf lit0t0_246 123 := leaf_of (fun i => by unfold lit0t0_246; rw [Nat.mod_mod]) (by unfold w; decide +kernel)

theorem l_124 : Leaf lit0t0_248 124 := leaf_of (fun i => by unfold lit0t0_248; rw [Nat.mod_mod]) (by unfold w; decide +kernel)

theorem l_125 : Leaf lit0t0_250 125 := leaf_of (fun i => by unfold lit0t0_250; rw [Nat.mod_mod]) (by unfold w; decide +kernel)

theorem l_126 : Leaf lit0t0_252 126 := leaf_of (fun i => by unfold lit0t0_252; rw [Nat.mod_mod]) (by unfold w; decide +kernel)

theorem l_127 : Leaf lit0t0_254 127 := leaf_of (fun i => by unfold lit0t0_254; rw [Nat.mod_mod]) (by unfold w; decide +kernel)

/-- A half row above the diagonal. -/
theorem l_b (i : ℕ) : lit0t0_1 i = 0x8000#16 := by
  have h : ∀ x : Fin 128, lit0t0_1 x.val = 0x8000#16 := by decide +kernel
  have h := h ⟨i % 128, Nat.mod_lt _ (by decide)⟩
  unfold lit0t0_1 at h ⊢
  rwa [Nat.mod_mod] at h

/-! ### Every half row: `g_n` is the table from entry `128 n` to entry `128 n + 127` -/

theorem g_0 : At lit0t1_0 0 0 := by intro i h h0; unfold lit0t1_0; rw [h]; exact early h h0 (l_0 i) rfl

theorem g_1 : At lit0t1_0 0 1 := by intro i h h0; unfold lit0t1_0; rw [h]; exact high h h0 (l_b i) rfl (by decide)

theorem g_2 : At lit0t1_0 0 2 := by intro i h h0; unfold lit0t1_0; rw [h]; exact early h h0 (l_1 i) rfl

theorem g_3 : At lit0t1_0 0 3 := by intro i h h0; unfold lit0t1_0; rw [h]; exact high h h0 (l_b i) rfl (by decide)

theorem g_4 : At lit0t1_0 0 4 := by intro i h h0; unfold lit0t1_0; rw [h]; exact early h h0 (l_2 i) rfl

theorem g_5 : At lit0t1_0 0 5 := by intro i h h0; unfold lit0t1_0; rw [h]; exact high h h0 (l_b i) rfl (by decide)

theorem g_6 : At lit0t1_0 0 6 := by intro i h h0; unfold lit0t1_0; rw [h]; exact early h h0 (l_3 i) rfl

theorem g_7 : At lit0t1_0 0 7 := by intro i h h0; unfold lit0t1_0; rw [h]; exact high h h0 (l_b i) rfl (by decide)

theorem g_8 : At lit0t1_0 0 8 := by intro i h h0; unfold lit0t1_0; rw [h]; exact early h h0 (l_4 i) rfl

theorem g_9 : At lit0t1_0 0 9 := by intro i h h0; unfold lit0t1_0; rw [h]; exact high h h0 (l_b i) rfl (by decide)

theorem g_10 : At lit0t1_0 0 10 := by intro i h h0; unfold lit0t1_0; rw [h]; exact early h h0 (l_5 i) rfl

theorem g_11 : At lit0t1_0 0 11 := by intro i h h0; unfold lit0t1_0; rw [h]; exact high h h0 (l_b i) rfl (by decide)

theorem g_12 : At lit0t1_0 0 12 := by intro i h h0; unfold lit0t1_0; rw [h]; exact early h h0 (l_6 i) rfl

theorem g_13 : At lit0t1_0 0 13 := by intro i h h0; unfold lit0t1_0; rw [h]; exact high h h0 (l_b i) rfl (by decide)

theorem g_14 : At lit0t1_0 0 14 := by intro i h h0; unfold lit0t1_0; rw [h]; exact early h h0 (l_7 i) rfl

theorem g_15 : At lit0t1_0 0 15 := by intro i h h0; unfold lit0t1_0; rw [h]; exact high h h0 (l_b i) rfl (by decide)

theorem g_16 : At lit0t1_0 0 16 := by intro i h h0; unfold lit0t1_0; rw [h]; exact early h h0 (l_8 i) rfl

theorem g_17 : At lit0t1_0 0 17 := by intro i h h0; unfold lit0t1_0; rw [h]; exact high h h0 (l_b i) rfl (by decide)

theorem g_18 : At lit0t1_0 0 18 := by intro i h h0; unfold lit0t1_0; rw [h]; exact early h h0 (l_9 i) rfl

theorem g_19 : At lit0t1_0 0 19 := by intro i h h0; unfold lit0t1_0; rw [h]; exact high h h0 (l_b i) rfl (by decide)

theorem g_20 : At lit0t1_0 0 20 := by intro i h h0; unfold lit0t1_0; rw [h]; exact early h h0 (l_10 i) rfl

theorem g_21 : At lit0t1_0 0 21 := by intro i h h0; unfold lit0t1_0; rw [h]; exact high h h0 (l_b i) rfl (by decide)

theorem g_22 : At lit0t1_0 0 22 := by intro i h h0; unfold lit0t1_0; rw [h]; exact early h h0 (l_11 i) rfl

theorem g_23 : At lit0t1_0 0 23 := by intro i h h0; unfold lit0t1_0; rw [h]; exact high h h0 (l_b i) rfl (by decide)

theorem g_24 : At lit0t1_0 0 24 := by intro i h h0; unfold lit0t1_0; rw [h]; exact early h h0 (l_12 i) rfl

theorem g_25 : At lit0t1_0 0 25 := by intro i h h0; unfold lit0t1_0; rw [h]; exact high h h0 (l_b i) rfl (by decide)

theorem g_26 : At lit0t1_0 0 26 := by intro i h h0; unfold lit0t1_0; rw [h]; exact early h h0 (l_13 i) rfl

theorem g_27 : At lit0t1_0 0 27 := by intro i h h0; unfold lit0t1_0; rw [h]; exact high h h0 (l_b i) rfl (by decide)

theorem g_28 : At lit0t1_0 0 28 := by intro i h h0; unfold lit0t1_0; rw [h]; exact early h h0 (l_14 i) rfl

theorem g_29 : At lit0t1_0 0 29 := by intro i h h0; unfold lit0t1_0; rw [h]; exact high h h0 (l_b i) rfl (by decide)

theorem g_30 : At lit0t1_0 0 30 := by intro i h h0; unfold lit0t1_0; rw [h]; exact early h h0 (l_15 i) rfl

theorem g_31 : At lit0t1_0 0 31 := by intro i h h0; unfold lit0t1_0; rw [h]; exact high h h0 (l_b i) rfl (by decide)

theorem g_32 : At lit0t1_0 0 32 := by intro i h h0; unfold lit0t1_0; rw [h]; exact early h h0 (l_16 i) rfl

theorem g_33 : At lit0t1_0 0 33 := by intro i h h0; unfold lit0t1_0; rw [h]; exact high h h0 (l_b i) rfl (by decide)

theorem g_34 : At lit0t1_0 0 34 := by intro i h h0; unfold lit0t1_0; rw [h]; exact early h h0 (l_17 i) rfl

theorem g_35 : At lit0t1_0 0 35 := by intro i h h0; unfold lit0t1_0; rw [h]; exact high h h0 (l_b i) rfl (by decide)

theorem g_36 : At lit0t1_0 0 36 := by intro i h h0; unfold lit0t1_0; rw [h]; exact early h h0 (l_18 i) rfl

theorem g_37 : At lit0t1_0 0 37 := by intro i h h0; unfold lit0t1_0; rw [h]; exact high h h0 (l_b i) rfl (by decide)

theorem g_38 : At lit0t1_0 0 38 := by intro i h h0; unfold lit0t1_0; rw [h]; exact early h h0 (l_19 i) rfl

theorem g_39 : At lit0t1_0 0 39 := by intro i h h0; unfold lit0t1_0; rw [h]; exact high h h0 (l_b i) rfl (by decide)

theorem g_40 : At lit0t1_0 0 40 := by intro i h h0; unfold lit0t1_0; rw [h]; exact early h h0 (l_20 i) rfl

theorem g_41 : At lit0t1_0 0 41 := by intro i h h0; unfold lit0t1_0; rw [h]; exact high h h0 (l_b i) rfl (by decide)

theorem g_42 : At lit0t1_0 0 42 := by intro i h h0; unfold lit0t1_0; rw [h]; exact early h h0 (l_21 i) rfl

theorem g_43 : At lit0t1_0 0 43 := by intro i h h0; unfold lit0t1_0; rw [h]; exact high h h0 (l_b i) rfl (by decide)

theorem g_44 : At lit0t1_0 0 44 := by intro i h h0; unfold lit0t1_0; rw [h]; exact early h h0 (l_22 i) rfl

theorem g_45 : At lit0t1_0 0 45 := by intro i h h0; unfold lit0t1_0; rw [h]; exact high h h0 (l_b i) rfl (by decide)

theorem g_46 : At lit0t1_0 0 46 := by intro i h h0; unfold lit0t1_0; rw [h]; exact early h h0 (l_23 i) rfl

theorem g_47 : At lit0t1_0 0 47 := by intro i h h0; unfold lit0t1_0; rw [h]; exact high h h0 (l_b i) rfl (by decide)

theorem g_48 : At lit0t1_0 0 48 := by intro i h h0; unfold lit0t1_0; rw [h]; exact early h h0 (l_24 i) rfl

theorem g_49 : At lit0t1_0 0 49 := by intro i h h0; unfold lit0t1_0; rw [h]; exact high h h0 (l_b i) rfl (by decide)

theorem g_50 : At lit0t1_0 0 50 := by intro i h h0; unfold lit0t1_0; rw [h]; exact early h h0 (l_25 i) rfl

theorem g_51 : At lit0t1_0 0 51 := by intro i h h0; unfold lit0t1_0; rw [h]; exact high h h0 (l_b i) rfl (by decide)

theorem g_52 : At lit0t1_0 0 52 := by intro i h h0; unfold lit0t1_0; rw [h]; exact early h h0 (l_26 i) rfl

theorem g_53 : At lit0t1_0 0 53 := by intro i h h0; unfold lit0t1_0; rw [h]; exact high h h0 (l_b i) rfl (by decide)

theorem g_54 : At lit0t1_0 0 54 := by intro i h h0; unfold lit0t1_0; rw [h]; exact early h h0 (l_27 i) rfl

theorem g_55 : At lit0t1_0 0 55 := by intro i h h0; unfold lit0t1_0; rw [h]; exact high h h0 (l_b i) rfl (by decide)

theorem g_56 : At lit0t1_0 0 56 := by intro i h h0; unfold lit0t1_0; rw [h]; exact early h h0 (l_28 i) rfl

theorem g_57 : At lit0t1_0 0 57 := by intro i h h0; unfold lit0t1_0; rw [h]; exact high h h0 (l_b i) rfl (by decide)

theorem g_58 : At lit0t1_0 0 58 := by intro i h h0; unfold lit0t1_0; rw [h]; exact early h h0 (l_29 i) rfl

theorem g_59 : At lit0t1_0 0 59 := by intro i h h0; unfold lit0t1_0; rw [h]; exact high h h0 (l_b i) rfl (by decide)

theorem g_60 : At lit0t1_0 0 60 := by intro i h h0; unfold lit0t1_0; rw [h]; exact early h h0 (l_30 i) rfl

theorem g_61 : At lit0t1_0 0 61 := by intro i h h0; unfold lit0t1_0; rw [h]; exact high h h0 (l_b i) rfl (by decide)

theorem g_62 : At lit0t1_0 0 62 := by intro i h h0; unfold lit0t1_0; rw [h]; exact early h h0 (l_31 i) rfl

theorem g_63 : At lit0t1_0 0 63 := by intro i h h0; unfold lit0t1_0; rw [h]; exact high h h0 (l_b i) rfl (by decide)

theorem g_64 : At lit0t1_0 0 64 := by intro i h h0; unfold lit0t1_0; rw [h]; exact early h h0 (l_32 i) rfl

theorem g_65 : At lit0t1_0 0 65 := by intro i h h0; unfold lit0t1_0; rw [h]; exact high h h0 (l_b i) rfl (by decide)

theorem g_66 : At lit0t1_0 0 66 := by intro i h h0; unfold lit0t1_0; rw [h]; exact early h h0 (l_33 i) rfl

theorem g_67 : At lit0t1_0 0 67 := by intro i h h0; unfold lit0t1_0; rw [h]; exact high h h0 (l_b i) rfl (by decide)

theorem g_68 : At lit0t1_0 0 68 := by intro i h h0; unfold lit0t1_0; rw [h]; exact early h h0 (l_34 i) rfl

theorem g_69 : At lit0t1_0 0 69 := by intro i h h0; unfold lit0t1_0; rw [h]; exact high h h0 (l_b i) rfl (by decide)

theorem g_70 : At lit0t1_0 0 70 := by intro i h h0; unfold lit0t1_0; rw [h]; exact early h h0 (l_35 i) rfl

theorem g_71 : At lit0t1_0 0 71 := by intro i h h0; unfold lit0t1_0; rw [h]; exact high h h0 (l_b i) rfl (by decide)

theorem g_72 : At lit0t1_0 0 72 := by intro i h h0; unfold lit0t1_0; rw [h]; exact early h h0 (l_36 i) rfl

theorem g_73 : At lit0t1_0 0 73 := by intro i h h0; unfold lit0t1_0; rw [h]; exact high h h0 (l_b i) rfl (by decide)

theorem g_74 : At lit0t1_0 0 74 := by intro i h h0; unfold lit0t1_0; rw [h]; exact early h h0 (l_37 i) rfl

theorem g_75 : At lit0t1_0 0 75 := by intro i h h0; unfold lit0t1_0; rw [h]; exact high h h0 (l_b i) rfl (by decide)

theorem g_76 : At lit0t1_0 0 76 := by intro i h h0; unfold lit0t1_0; rw [h]; exact early h h0 (l_38 i) rfl

theorem g_77 : At lit0t1_0 0 77 := by intro i h h0; unfold lit0t1_0; rw [h]; exact high h h0 (l_b i) rfl (by decide)

theorem g_78 : At lit0t1_0 0 78 := by intro i h h0; unfold lit0t1_0; rw [h]; exact early h h0 (l_39 i) rfl

theorem g_79 : At lit0t1_0 0 79 := by intro i h h0; unfold lit0t1_0; rw [h]; exact high h h0 (l_b i) rfl (by decide)

theorem g_80 : At lit0t1_0 0 80 := by intro i h h0; unfold lit0t1_0; rw [h]; exact early h h0 (l_40 i) rfl

theorem g_81 : At lit0t1_0 0 81 := by intro i h h0; unfold lit0t1_0; rw [h]; exact high h h0 (l_b i) rfl (by decide)

theorem g_82 : At lit0t1_0 0 82 := by intro i h h0; unfold lit0t1_0; rw [h]; exact early h h0 (l_41 i) rfl

theorem g_83 : At lit0t1_0 0 83 := by intro i h h0; unfold lit0t1_0; rw [h]; exact high h h0 (l_b i) rfl (by decide)

theorem g_84 : At lit0t1_0 0 84 := by intro i h h0; unfold lit0t1_0; rw [h]; exact early h h0 (l_42 i) rfl

theorem g_85 : At lit0t1_0 0 85 := by intro i h h0; unfold lit0t1_0; rw [h]; exact high h h0 (l_b i) rfl (by decide)

theorem g_86 : At lit0t1_0 0 86 := by intro i h h0; unfold lit0t1_0; rw [h]; exact early h h0 (l_43 i) rfl

theorem g_87 : At lit0t1_0 0 87 := by intro i h h0; unfold lit0t1_0; rw [h]; exact high h h0 (l_b i) rfl (by decide)

theorem g_88 : At lit0t1_0 0 88 := by intro i h h0; unfold lit0t1_0; rw [h]; exact early h h0 (l_44 i) rfl

theorem g_89 : At lit0t1_0 0 89 := by intro i h h0; unfold lit0t1_0; rw [h]; exact high h h0 (l_b i) rfl (by decide)

theorem g_90 : At lit0t1_0 0 90 := by intro i h h0; unfold lit0t1_0; rw [h]; exact early h h0 (l_45 i) rfl

theorem g_91 : At lit0t1_0 0 91 := by intro i h h0; unfold lit0t1_0; rw [h]; exact high h h0 (l_b i) rfl (by decide)

theorem g_92 : At lit0t1_0 0 92 := by intro i h h0; unfold lit0t1_0; rw [h]; exact early h h0 (l_46 i) rfl

theorem g_93 : At lit0t1_0 0 93 := by intro i h h0; unfold lit0t1_0; rw [h]; exact high h h0 (l_b i) rfl (by decide)

theorem g_94 : At lit0t1_0 0 94 := by intro i h h0; unfold lit0t1_0; rw [h]; exact early h h0 (l_47 i) rfl

theorem g_95 : At lit0t1_0 0 95 := by intro i h h0; unfold lit0t1_0; rw [h]; exact high h h0 (l_b i) rfl (by decide)

theorem g_96 : At lit0t1_0 0 96 := by intro i h h0; unfold lit0t1_0; rw [h]; exact early h h0 (l_48 i) rfl

theorem g_97 : At lit0t1_0 0 97 := by intro i h h0; unfold lit0t1_0; rw [h]; exact high h h0 (l_b i) rfl (by decide)

theorem g_98 : At lit0t1_0 0 98 := by intro i h h0; unfold lit0t1_0; rw [h]; exact early h h0 (l_49 i) rfl

theorem g_99 : At lit0t1_0 0 99 := by intro i h h0; unfold lit0t1_0; rw [h]; exact high h h0 (l_b i) rfl (by decide)

theorem g_100 : At lit0t1_0 0 100 := by intro i h h0; unfold lit0t1_0; rw [h]; exact early h h0 (l_50 i) rfl

theorem g_101 : At lit0t1_0 0 101 := by intro i h h0; unfold lit0t1_0; rw [h]; exact high h h0 (l_b i) rfl (by decide)

theorem g_102 : At lit0t1_0 0 102 := by intro i h h0; unfold lit0t1_0; rw [h]; exact early h h0 (l_51 i) rfl

theorem g_103 : At lit0t1_0 0 103 := by intro i h h0; unfold lit0t1_0; rw [h]; exact high h h0 (l_b i) rfl (by decide)

theorem g_104 : At lit0t1_0 0 104 := by intro i h h0; unfold lit0t1_0; rw [h]; exact early h h0 (l_52 i) rfl

theorem g_105 : At lit0t1_0 0 105 := by intro i h h0; unfold lit0t1_0; rw [h]; exact high h h0 (l_b i) rfl (by decide)

theorem g_106 : At lit0t1_0 0 106 := by intro i h h0; unfold lit0t1_0; rw [h]; exact early h h0 (l_53 i) rfl

theorem g_107 : At lit0t1_0 0 107 := by intro i h h0; unfold lit0t1_0; rw [h]; exact high h h0 (l_b i) rfl (by decide)

theorem g_108 : At lit0t1_0 0 108 := by intro i h h0; unfold lit0t1_0; rw [h]; exact early h h0 (l_54 i) rfl

theorem g_109 : At lit0t1_0 0 109 := by intro i h h0; unfold lit0t1_0; rw [h]; exact high h h0 (l_b i) rfl (by decide)

theorem g_110 : At lit0t1_0 0 110 := by intro i h h0; unfold lit0t1_0; rw [h]; exact early h h0 (l_55 i) rfl

theorem g_111 : At lit0t1_0 0 111 := by intro i h h0; unfold lit0t1_0; rw [h]; exact high h h0 (l_b i) rfl (by decide)

theorem g_112 : At lit0t1_0 0 112 := by intro i h h0; unfold lit0t1_0; rw [h]; exact early h h0 (l_56 i) rfl

theorem g_113 : At lit0t1_0 0 113 := by intro i h h0; unfold lit0t1_0; rw [h]; exact high h h0 (l_b i) rfl (by decide)

theorem g_114 : At lit0t1_0 0 114 := by intro i h h0; unfold lit0t1_0; rw [h]; exact early h h0 (l_57 i) rfl

theorem g_115 : At lit0t1_0 0 115 := by intro i h h0; unfold lit0t1_0; rw [h]; exact high h h0 (l_b i) rfl (by decide)

theorem g_116 : At lit0t1_0 0 116 := by intro i h h0; unfold lit0t1_0; rw [h]; exact early h h0 (l_58 i) rfl

theorem g_117 : At lit0t1_0 0 117 := by intro i h h0; unfold lit0t1_0; rw [h]; exact high h h0 (l_b i) rfl (by decide)

theorem g_118 : At lit0t1_0 0 118 := by intro i h h0; unfold lit0t1_0; rw [h]; exact early h h0 (l_59 i) rfl

theorem g_119 : At lit0t1_0 0 119 := by intro i h h0; unfold lit0t1_0; rw [h]; exact high h h0 (l_b i) rfl (by decide)

theorem g_120 : At lit0t1_0 0 120 := by intro i h h0; unfold lit0t1_0; rw [h]; exact early h h0 (l_60 i) rfl

theorem g_121 : At lit0t1_0 0 121 := by intro i h h0; unfold lit0t1_0; rw [h]; exact high h h0 (l_b i) rfl (by decide)

theorem g_122 : At lit0t1_0 0 122 := by intro i h h0; unfold lit0t1_0; rw [h]; exact early h h0 (l_61 i) rfl

theorem g_123 : At lit0t1_0 0 123 := by intro i h h0; unfold lit0t1_0; rw [h]; exact high h h0 (l_b i) rfl (by decide)

theorem g_124 : At lit0t1_0 0 124 := by intro i h h0; unfold lit0t1_0; rw [h]; exact early h h0 (l_62 i) rfl

theorem g_125 : At lit0t1_0 0 125 := by intro i h h0; unfold lit0t1_0; rw [h]; exact high h h0 (l_b i) rfl (by decide)

theorem g_126 : At lit0t1_0 0 126 := by intro i h h0; unfold lit0t1_0; rw [h]; exact early h h0 (l_63 i) rfl

theorem g_127 : At lit0t1_0 0 127 := by intro i h h0; unfold lit0t1_0; rw [h]; exact high h h0 (l_b i) rfl (by decide)

theorem g_128 : At lit0t1_1 1 0 := by intro i h h0; unfold lit0t1_1; rw [h]; exact early h h0 (l_64 i) rfl

theorem g_129 : At lit0t1_1 1 1 := by intro i h h0; unfold lit0t1_1; rw [h]; exact high h h0 (l_b i) rfl (by decide)

theorem g_130 : At lit0t1_1 1 2 := by intro i h h0; unfold lit0t1_1; rw [h]; exact early h h0 (l_65 i) rfl

theorem g_131 : At lit0t1_1 1 3 := by intro i h h0; unfold lit0t1_1; rw [h]; exact high h h0 (l_b i) rfl (by decide)

theorem g_132 : At lit0t1_1 1 4 := by intro i h h0; unfold lit0t1_1; rw [h]; exact early h h0 (l_66 i) rfl

theorem g_133 : At lit0t1_1 1 5 := by intro i h h0; unfold lit0t1_1; rw [h]; exact high h h0 (l_b i) rfl (by decide)

theorem g_134 : At lit0t1_1 1 6 := by intro i h h0; unfold lit0t1_1; rw [h]; exact early h h0 (l_67 i) rfl

theorem g_135 : At lit0t1_1 1 7 := by intro i h h0; unfold lit0t1_1; rw [h]; exact high h h0 (l_b i) rfl (by decide)

theorem g_136 : At lit0t1_1 1 8 := by intro i h h0; unfold lit0t1_1; rw [h]; exact early h h0 (l_68 i) rfl

theorem g_137 : At lit0t1_1 1 9 := by intro i h h0; unfold lit0t1_1; rw [h]; exact high h h0 (l_b i) rfl (by decide)

theorem g_138 : At lit0t1_1 1 10 := by intro i h h0; unfold lit0t1_1; rw [h]; exact early h h0 (l_69 i) rfl

theorem g_139 : At lit0t1_1 1 11 := by intro i h h0; unfold lit0t1_1; rw [h]; exact high h h0 (l_b i) rfl (by decide)

theorem g_140 : At lit0t1_1 1 12 := by intro i h h0; unfold lit0t1_1; rw [h]; exact early h h0 (l_70 i) rfl

theorem g_141 : At lit0t1_1 1 13 := by intro i h h0; unfold lit0t1_1; rw [h]; exact high h h0 (l_b i) rfl (by decide)

theorem g_142 : At lit0t1_1 1 14 := by intro i h h0; unfold lit0t1_1; rw [h]; exact early h h0 (l_71 i) rfl

theorem g_143 : At lit0t1_1 1 15 := by intro i h h0; unfold lit0t1_1; rw [h]; exact high h h0 (l_b i) rfl (by decide)

theorem g_144 : At lit0t1_1 1 16 := by intro i h h0; unfold lit0t1_1; rw [h]; exact early h h0 (l_72 i) rfl

theorem g_145 : At lit0t1_1 1 17 := by intro i h h0; unfold lit0t1_1; rw [h]; exact high h h0 (l_b i) rfl (by decide)

theorem g_146 : At lit0t1_1 1 18 := by intro i h h0; unfold lit0t1_1; rw [h]; exact early h h0 (l_73 i) rfl

theorem g_147 : At lit0t1_1 1 19 := by intro i h h0; unfold lit0t1_1; rw [h]; exact high h h0 (l_b i) rfl (by decide)

theorem g_148 : At lit0t1_1 1 20 := by intro i h h0; unfold lit0t1_1; rw [h]; exact early h h0 (l_74 i) rfl

theorem g_149 : At lit0t1_1 1 21 := by intro i h h0; unfold lit0t1_1; rw [h]; exact high h h0 (l_b i) rfl (by decide)

theorem g_150 : At lit0t1_1 1 22 := by intro i h h0; unfold lit0t1_1; rw [h]; exact early h h0 (l_75 i) rfl

theorem g_151 : At lit0t1_1 1 23 := by intro i h h0; unfold lit0t1_1; rw [h]; exact high h h0 (l_b i) rfl (by decide)

theorem g_152 : At lit0t1_1 1 24 := by intro i h h0; unfold lit0t1_1; rw [h]; exact early h h0 (l_76 i) rfl

theorem g_153 : At lit0t1_1 1 25 := by intro i h h0; unfold lit0t1_1; rw [h]; exact high h h0 (l_b i) rfl (by decide)

theorem g_154 : At lit0t1_1 1 26 := by intro i h h0; unfold lit0t1_1; rw [h]; exact early h h0 (l_77 i) rfl

theorem g_155 : At lit0t1_1 1 27 := by intro i h h0; unfold lit0t1_1; rw [h]; exact high h h0 (l_b i) rfl (by decide)

theorem g_156 : At lit0t1_1 1 28 := by intro i h h0; unfold lit0t1_1; rw [h]; exact early h h0 (l_78 i) rfl

theorem g_157 : At lit0t1_1 1 29 := by intro i h h0; unfold lit0t1_1; rw [h]; exact high h h0 (l_b i) rfl (by decide)

theorem g_158 : At lit0t1_1 1 30 := by intro i h h0; unfold lit0t1_1; rw [h]; exact early h h0 (l_79 i) rfl

theorem g_159 : At lit0t1_1 1 31 := by intro i h h0; unfold lit0t1_1; rw [h]; exact high h h0 (l_b i) rfl (by decide)

theorem g_160 : At lit0t1_1 1 32 := by intro i h h0; unfold lit0t1_1; rw [h]; exact early h h0 (l_80 i) rfl

theorem g_161 : At lit0t1_1 1 33 := by intro i h h0; unfold lit0t1_1; rw [h]; exact high h h0 (l_b i) rfl (by decide)

theorem g_162 : At lit0t1_1 1 34 := by intro i h h0; unfold lit0t1_1; rw [h]; exact early h h0 (l_81 i) rfl

theorem g_163 : At lit0t1_1 1 35 := by intro i h h0; unfold lit0t1_1; rw [h]; exact high h h0 (l_b i) rfl (by decide)

theorem g_164 : At lit0t1_1 1 36 := by intro i h h0; unfold lit0t1_1; rw [h]; exact early h h0 (l_82 i) rfl

theorem g_165 : At lit0t1_1 1 37 := by intro i h h0; unfold lit0t1_1; rw [h]; exact high h h0 (l_b i) rfl (by decide)

theorem g_166 : At lit0t1_1 1 38 := by intro i h h0; unfold lit0t1_1; rw [h]; exact early h h0 (l_83 i) rfl

theorem g_167 : At lit0t1_1 1 39 := by intro i h h0; unfold lit0t1_1; rw [h]; exact high h h0 (l_b i) rfl (by decide)

theorem g_168 : At lit0t1_1 1 40 := by intro i h h0; unfold lit0t1_1; rw [h]; exact early h h0 (l_84 i) rfl

theorem g_169 : At lit0t1_1 1 41 := by intro i h h0; unfold lit0t1_1; rw [h]; exact high h h0 (l_b i) rfl (by decide)

theorem g_170 : At lit0t1_1 1 42 := by intro i h h0; unfold lit0t1_1; rw [h]; exact early h h0 (l_85 i) rfl

theorem g_171 : At lit0t1_1 1 43 := by intro i h h0; unfold lit0t1_1; rw [h]; exact high h h0 (l_b i) rfl (by decide)

theorem g_172 : At lit0t1_1 1 44 := by intro i h h0; unfold lit0t1_1; rw [h]; exact early h h0 (l_86 i) rfl

theorem g_173 : At lit0t1_1 1 45 := by intro i h h0; unfold lit0t1_1; rw [h]; exact high h h0 (l_b i) rfl (by decide)

theorem g_174 : At lit0t1_1 1 46 := by intro i h h0; unfold lit0t1_1; rw [h]; exact early h h0 (l_87 i) rfl

theorem g_175 : At lit0t1_1 1 47 := by intro i h h0; unfold lit0t1_1; rw [h]; exact high h h0 (l_b i) rfl (by decide)

theorem g_176 : At lit0t1_1 1 48 := by intro i h h0; unfold lit0t1_1; rw [h]; exact early h h0 (l_88 i) rfl

theorem g_177 : At lit0t1_1 1 49 := by intro i h h0; unfold lit0t1_1; rw [h]; exact high h h0 (l_b i) rfl (by decide)

theorem g_178 : At lit0t1_1 1 50 := by intro i h h0; unfold lit0t1_1; rw [h]; exact early h h0 (l_89 i) rfl

theorem g_179 : At lit0t1_1 1 51 := by intro i h h0; unfold lit0t1_1; rw [h]; exact high h h0 (l_b i) rfl (by decide)

theorem g_180 : At lit0t1_1 1 52 := by intro i h h0; unfold lit0t1_1; rw [h]; exact early h h0 (l_90 i) rfl

theorem g_181 : At lit0t1_1 1 53 := by intro i h h0; unfold lit0t1_1; rw [h]; exact high h h0 (l_b i) rfl (by decide)

theorem g_182 : At lit0t1_1 1 54 := by intro i h h0; unfold lit0t1_1; rw [h]; exact early h h0 (l_91 i) rfl

theorem g_183 : At lit0t1_1 1 55 := by intro i h h0; unfold lit0t1_1; rw [h]; exact high h h0 (l_b i) rfl (by decide)

theorem g_184 : At lit0t1_1 1 56 := by intro i h h0; unfold lit0t1_1; rw [h]; exact early h h0 (l_92 i) rfl

theorem g_185 : At lit0t1_1 1 57 := by intro i h h0; unfold lit0t1_1; rw [h]; exact high h h0 (l_b i) rfl (by decide)

theorem g_186 : At lit0t1_1 1 58 := by intro i h h0; unfold lit0t1_1; rw [h]; exact early h h0 (l_93 i) rfl

theorem g_187 : At lit0t1_1 1 59 := by intro i h h0; unfold lit0t1_1; rw [h]; exact high h h0 (l_b i) rfl (by decide)

theorem g_188 : At lit0t1_1 1 60 := by intro i h h0; unfold lit0t1_1; rw [h]; exact early h h0 (l_94 i) rfl

theorem g_189 : At lit0t1_1 1 61 := by intro i h h0; unfold lit0t1_1; rw [h]; exact high h h0 (l_b i) rfl (by decide)

theorem g_190 : At lit0t1_1 1 62 := by intro i h h0; unfold lit0t1_1; rw [h]; exact early h h0 (l_95 i) rfl

theorem g_191 : At lit0t1_1 1 63 := by intro i h h0; unfold lit0t1_1; rw [h]; exact high h h0 (l_b i) rfl (by decide)

theorem g_192 : At lit0t1_1 1 64 := by intro i h h0; unfold lit0t1_1; rw [h]; exact early h h0 (l_96 i) rfl

theorem g_193 : At lit0t1_1 1 65 := by intro i h h0; unfold lit0t1_1; rw [h]; exact high h h0 (l_b i) rfl (by decide)

theorem g_194 : At lit0t1_1 1 66 := by intro i h h0; unfold lit0t1_1; rw [h]; exact early h h0 (l_97 i) rfl

theorem g_195 : At lit0t1_1 1 67 := by intro i h h0; unfold lit0t1_1; rw [h]; exact high h h0 (l_b i) rfl (by decide)

theorem g_196 : At lit0t1_1 1 68 := by intro i h h0; unfold lit0t1_1; rw [h]; exact early h h0 (l_98 i) rfl

theorem g_197 : At lit0t1_1 1 69 := by intro i h h0; unfold lit0t1_1; rw [h]; exact high h h0 (l_b i) rfl (by decide)

theorem g_198 : At lit0t1_1 1 70 := by intro i h h0; unfold lit0t1_1; rw [h]; exact early h h0 (l_99 i) rfl

theorem g_199 : At lit0t1_1 1 71 := by intro i h h0; unfold lit0t1_1; rw [h]; exact high h h0 (l_b i) rfl (by decide)

theorem g_200 : At lit0t1_1 1 72 := by intro i h h0; unfold lit0t1_1; rw [h]; exact early h h0 (l_100 i) rfl

theorem g_201 : At lit0t1_1 1 73 := by intro i h h0; unfold lit0t1_1; rw [h]; exact high h h0 (l_b i) rfl (by decide)

theorem g_202 : At lit0t1_1 1 74 := by intro i h h0; unfold lit0t1_1; rw [h]; exact early h h0 (l_101 i) rfl

theorem g_203 : At lit0t1_1 1 75 := by intro i h h0; unfold lit0t1_1; rw [h]; exact high h h0 (l_b i) rfl (by decide)

theorem g_204 : At lit0t1_1 1 76 := by intro i h h0; unfold lit0t1_1; rw [h]; exact early h h0 (l_102 i) rfl

theorem g_205 : At lit0t1_1 1 77 := by intro i h h0; unfold lit0t1_1; rw [h]; exact high h h0 (l_b i) rfl (by decide)

theorem g_206 : At lit0t1_1 1 78 := by intro i h h0; unfold lit0t1_1; rw [h]; exact early h h0 (l_103 i) rfl

theorem g_207 : At lit0t1_1 1 79 := by intro i h h0; unfold lit0t1_1; rw [h]; exact high h h0 (l_b i) rfl (by decide)

theorem g_208 : At lit0t1_1 1 80 := by intro i h h0; unfold lit0t1_1; rw [h]; exact early h h0 (l_104 i) rfl

theorem g_209 : At lit0t1_1 1 81 := by intro i h h0; unfold lit0t1_1; rw [h]; exact high h h0 (l_b i) rfl (by decide)

theorem g_210 : At lit0t1_1 1 82 := by intro i h h0; unfold lit0t1_1; rw [h]; exact early h h0 (l_105 i) rfl

theorem g_211 : At lit0t1_1 1 83 := by intro i h h0; unfold lit0t1_1; rw [h]; exact high h h0 (l_b i) rfl (by decide)

theorem g_212 : At lit0t1_1 1 84 := by intro i h h0; unfold lit0t1_1; rw [h]; exact early h h0 (l_106 i) rfl

theorem g_213 : At lit0t1_1 1 85 := by intro i h h0; unfold lit0t1_1; rw [h]; exact high h h0 (l_b i) rfl (by decide)

theorem g_214 : At lit0t1_1 1 86 := by intro i h h0; unfold lit0t1_1; rw [h]; exact early h h0 (l_107 i) rfl

theorem g_215 : At lit0t1_1 1 87 := by intro i h h0; unfold lit0t1_1; rw [h]; exact high h h0 (l_b i) rfl (by decide)

theorem g_216 : At lit0t1_1 1 88 := by intro i h h0; unfold lit0t1_1; rw [h]; exact early h h0 (l_108 i) rfl

theorem g_217 : At lit0t1_1 1 89 := by intro i h h0; unfold lit0t1_1; rw [h]; exact high h h0 (l_b i) rfl (by decide)

theorem g_218 : At lit0t1_1 1 90 := by intro i h h0; unfold lit0t1_1; rw [h]; exact early h h0 (l_109 i) rfl

theorem g_219 : At lit0t1_1 1 91 := by intro i h h0; unfold lit0t1_1; rw [h]; exact high h h0 (l_b i) rfl (by decide)

theorem g_220 : At lit0t1_1 1 92 := by intro i h h0; unfold lit0t1_1; rw [h]; exact early h h0 (l_110 i) rfl

theorem g_221 : At lit0t1_1 1 93 := by intro i h h0; unfold lit0t1_1; rw [h]; exact high h h0 (l_b i) rfl (by decide)

theorem g_222 : At lit0t1_1 1 94 := by intro i h h0; unfold lit0t1_1; rw [h]; exact early h h0 (l_111 i) rfl

theorem g_223 : At lit0t1_1 1 95 := by intro i h h0; unfold lit0t1_1; rw [h]; exact high h h0 (l_b i) rfl (by decide)

theorem g_224 : At lit0t1_1 1 96 := by intro i h h0; unfold lit0t1_1; rw [h]; exact early h h0 (l_112 i) rfl

theorem g_225 : At lit0t1_1 1 97 := by intro i h h0; unfold lit0t1_1; rw [h]; exact high h h0 (l_b i) rfl (by decide)

theorem g_226 : At lit0t1_1 1 98 := by intro i h h0; unfold lit0t1_1; rw [h]; exact early h h0 (l_113 i) rfl

theorem g_227 : At lit0t1_1 1 99 := by intro i h h0; unfold lit0t1_1; rw [h]; exact high h h0 (l_b i) rfl (by decide)

theorem g_228 : At lit0t1_1 1 100 := by intro i h h0; unfold lit0t1_1; rw [h]; exact early h h0 (l_114 i) rfl

theorem g_229 : At lit0t1_1 1 101 := by intro i h h0; unfold lit0t1_1; rw [h]; exact high h h0 (l_b i) rfl (by decide)

theorem g_230 : At lit0t1_1 1 102 := by intro i h h0; unfold lit0t1_1; rw [h]; exact early h h0 (l_115 i) rfl

theorem g_231 : At lit0t1_1 1 103 := by intro i h h0; unfold lit0t1_1; rw [h]; exact high h h0 (l_b i) rfl (by decide)

theorem g_232 : At lit0t1_1 1 104 := by intro i h h0; unfold lit0t1_1; rw [h]; exact early h h0 (l_116 i) rfl

theorem g_233 : At lit0t1_1 1 105 := by intro i h h0; unfold lit0t1_1; rw [h]; exact high h h0 (l_b i) rfl (by decide)

theorem g_234 : At lit0t1_1 1 106 := by intro i h h0; unfold lit0t1_1; rw [h]; exact early h h0 (l_117 i) rfl

theorem g_235 : At lit0t1_1 1 107 := by intro i h h0; unfold lit0t1_1; rw [h]; exact high h h0 (l_b i) rfl (by decide)

theorem g_236 : At lit0t1_1 1 108 := by intro i h h0; unfold lit0t1_1; rw [h]; exact early h h0 (l_118 i) rfl

theorem g_237 : At lit0t1_1 1 109 := by intro i h h0; unfold lit0t1_1; rw [h]; exact high h h0 (l_b i) rfl (by decide)

theorem g_238 : At lit0t1_1 1 110 := by intro i h h0; unfold lit0t1_1; rw [h]; exact early h h0 (l_119 i) rfl

theorem g_239 : At lit0t1_1 1 111 := by intro i h h0; unfold lit0t1_1; rw [h]; exact high h h0 (l_b i) rfl (by decide)

theorem g_240 : At lit0t1_1 1 112 := by intro i h h0; unfold lit0t1_1; rw [h]; exact early h h0 (l_120 i) rfl

theorem g_241 : At lit0t1_1 1 113 := by intro i h h0; unfold lit0t1_1; rw [h]; exact high h h0 (l_b i) rfl (by decide)

theorem g_242 : At lit0t1_1 1 114 := by intro i h h0; unfold lit0t1_1; rw [h]; exact early h h0 (l_121 i) rfl

theorem g_243 : At lit0t1_1 1 115 := by intro i h h0; unfold lit0t1_1; rw [h]; exact high h h0 (l_b i) rfl (by decide)

theorem g_244 : At lit0t1_1 1 116 := by intro i h h0; unfold lit0t1_1; rw [h]; exact early h h0 (l_122 i) rfl

theorem g_245 : At lit0t1_1 1 117 := by intro i h h0; unfold lit0t1_1; rw [h]; exact high h h0 (l_b i) rfl (by decide)

theorem g_246 : At lit0t1_1 1 118 := by intro i h h0; unfold lit0t1_1; rw [h]; exact early h h0 (l_123 i) rfl

theorem g_247 : At lit0t1_1 1 119 := by intro i h h0; unfold lit0t1_1; rw [h]; exact high h h0 (l_b i) rfl (by decide)

theorem g_248 : At lit0t1_1 1 120 := by intro i h h0; unfold lit0t1_1; rw [h]; exact early h h0 (l_124 i) rfl

theorem g_249 : At lit0t1_1 1 121 := by intro i h h0; unfold lit0t1_1; rw [h]; exact high h h0 (l_b i) rfl (by decide)

theorem g_250 : At lit0t1_1 1 122 := by intro i h h0; unfold lit0t1_1; rw [h]; exact early h h0 (l_125 i) rfl

theorem g_251 : At lit0t1_1 1 123 := by intro i h h0; unfold lit0t1_1; rw [h]; exact high h h0 (l_b i) rfl (by decide)

theorem g_252 : At lit0t1_1 1 124 := by intro i h h0; unfold lit0t1_1; rw [h]; exact early h h0 (l_126 i) rfl

theorem g_253 : At lit0t1_1 1 125 := by intro i h h0; unfold lit0t1_1; rw [h]; exact high h h0 (l_b i) rfl (by decide)

theorem g_254 : At lit0t1_1 1 126 := by intro i h h0; unfold lit0t1_1; rw [h]; exact early h h0 (l_127 i) rfl

theorem g_255 : At lit0t1_1 1 127 := by intro i h h0; unfold lit0t1_1; rw [h]; exact high h h0 (l_b i) rfl (by decide)

theorem g_256 : At lit0t1_2 2 0 := by intro i h h0; unfold lit0t1_2; rw [h]; exact low h h0 (l_127 i) rfl (by decide)

theorem g_257 : At lit0t1_2 2 1 := by intro i h h0; unfold lit0t1_2; rw [h]; exact late h h0 (l_0 i) rfl

theorem g_258 : At lit0t1_2 2 2 := by intro i h h0; unfold lit0t1_2; rw [h]; exact low h h0 (l_127 i) rfl (by decide)

theorem g_259 : At lit0t1_2 2 3 := by intro i h h0; unfold lit0t1_2; rw [h]; exact late h h0 (l_1 i) rfl

theorem g_260 : At lit0t1_2 2 4 := by intro i h h0; unfold lit0t1_2; rw [h]; exact low h h0 (l_127 i) rfl (by decide)

theorem g_261 : At lit0t1_2 2 5 := by intro i h h0; unfold lit0t1_2; rw [h]; exact late h h0 (l_2 i) rfl

theorem g_262 : At lit0t1_2 2 6 := by intro i h h0; unfold lit0t1_2; rw [h]; exact low h h0 (l_127 i) rfl (by decide)

theorem g_263 : At lit0t1_2 2 7 := by intro i h h0; unfold lit0t1_2; rw [h]; exact late h h0 (l_3 i) rfl

theorem g_264 : At lit0t1_2 2 8 := by intro i h h0; unfold lit0t1_2; rw [h]; exact low h h0 (l_127 i) rfl (by decide)

theorem g_265 : At lit0t1_2 2 9 := by intro i h h0; unfold lit0t1_2; rw [h]; exact late h h0 (l_4 i) rfl

theorem g_266 : At lit0t1_2 2 10 := by intro i h h0; unfold lit0t1_2; rw [h]; exact low h h0 (l_127 i) rfl (by decide)

theorem g_267 : At lit0t1_2 2 11 := by intro i h h0; unfold lit0t1_2; rw [h]; exact late h h0 (l_5 i) rfl

theorem g_268 : At lit0t1_2 2 12 := by intro i h h0; unfold lit0t1_2; rw [h]; exact low h h0 (l_127 i) rfl (by decide)

theorem g_269 : At lit0t1_2 2 13 := by intro i h h0; unfold lit0t1_2; rw [h]; exact late h h0 (l_6 i) rfl

theorem g_270 : At lit0t1_2 2 14 := by intro i h h0; unfold lit0t1_2; rw [h]; exact low h h0 (l_127 i) rfl (by decide)

theorem g_271 : At lit0t1_2 2 15 := by intro i h h0; unfold lit0t1_2; rw [h]; exact late h h0 (l_7 i) rfl

theorem g_272 : At lit0t1_2 2 16 := by intro i h h0; unfold lit0t1_2; rw [h]; exact low h h0 (l_127 i) rfl (by decide)

theorem g_273 : At lit0t1_2 2 17 := by intro i h h0; unfold lit0t1_2; rw [h]; exact late h h0 (l_8 i) rfl

theorem g_274 : At lit0t1_2 2 18 := by intro i h h0; unfold lit0t1_2; rw [h]; exact low h h0 (l_127 i) rfl (by decide)

theorem g_275 : At lit0t1_2 2 19 := by intro i h h0; unfold lit0t1_2; rw [h]; exact late h h0 (l_9 i) rfl

theorem g_276 : At lit0t1_2 2 20 := by intro i h h0; unfold lit0t1_2; rw [h]; exact low h h0 (l_127 i) rfl (by decide)

theorem g_277 : At lit0t1_2 2 21 := by intro i h h0; unfold lit0t1_2; rw [h]; exact late h h0 (l_10 i) rfl

theorem g_278 : At lit0t1_2 2 22 := by intro i h h0; unfold lit0t1_2; rw [h]; exact low h h0 (l_127 i) rfl (by decide)

theorem g_279 : At lit0t1_2 2 23 := by intro i h h0; unfold lit0t1_2; rw [h]; exact late h h0 (l_11 i) rfl

theorem g_280 : At lit0t1_2 2 24 := by intro i h h0; unfold lit0t1_2; rw [h]; exact low h h0 (l_127 i) rfl (by decide)

theorem g_281 : At lit0t1_2 2 25 := by intro i h h0; unfold lit0t1_2; rw [h]; exact late h h0 (l_12 i) rfl

theorem g_282 : At lit0t1_2 2 26 := by intro i h h0; unfold lit0t1_2; rw [h]; exact low h h0 (l_127 i) rfl (by decide)

theorem g_283 : At lit0t1_2 2 27 := by intro i h h0; unfold lit0t1_2; rw [h]; exact late h h0 (l_13 i) rfl

theorem g_284 : At lit0t1_2 2 28 := by intro i h h0; unfold lit0t1_2; rw [h]; exact low h h0 (l_127 i) rfl (by decide)

theorem g_285 : At lit0t1_2 2 29 := by intro i h h0; unfold lit0t1_2; rw [h]; exact late h h0 (l_14 i) rfl

theorem g_286 : At lit0t1_2 2 30 := by intro i h h0; unfold lit0t1_2; rw [h]; exact low h h0 (l_127 i) rfl (by decide)

theorem g_287 : At lit0t1_2 2 31 := by intro i h h0; unfold lit0t1_2; rw [h]; exact late h h0 (l_15 i) rfl

theorem g_288 : At lit0t1_2 2 32 := by intro i h h0; unfold lit0t1_2; rw [h]; exact low h h0 (l_127 i) rfl (by decide)

theorem g_289 : At lit0t1_2 2 33 := by intro i h h0; unfold lit0t1_2; rw [h]; exact late h h0 (l_16 i) rfl

theorem g_290 : At lit0t1_2 2 34 := by intro i h h0; unfold lit0t1_2; rw [h]; exact low h h0 (l_127 i) rfl (by decide)

theorem g_291 : At lit0t1_2 2 35 := by intro i h h0; unfold lit0t1_2; rw [h]; exact late h h0 (l_17 i) rfl

theorem g_292 : At lit0t1_2 2 36 := by intro i h h0; unfold lit0t1_2; rw [h]; exact low h h0 (l_127 i) rfl (by decide)

theorem g_293 : At lit0t1_2 2 37 := by intro i h h0; unfold lit0t1_2; rw [h]; exact late h h0 (l_18 i) rfl

theorem g_294 : At lit0t1_2 2 38 := by intro i h h0; unfold lit0t1_2; rw [h]; exact low h h0 (l_127 i) rfl (by decide)

theorem g_295 : At lit0t1_2 2 39 := by intro i h h0; unfold lit0t1_2; rw [h]; exact late h h0 (l_19 i) rfl

theorem g_296 : At lit0t1_2 2 40 := by intro i h h0; unfold lit0t1_2; rw [h]; exact low h h0 (l_127 i) rfl (by decide)

theorem g_297 : At lit0t1_2 2 41 := by intro i h h0; unfold lit0t1_2; rw [h]; exact late h h0 (l_20 i) rfl

theorem g_298 : At lit0t1_2 2 42 := by intro i h h0; unfold lit0t1_2; rw [h]; exact low h h0 (l_127 i) rfl (by decide)

theorem g_299 : At lit0t1_2 2 43 := by intro i h h0; unfold lit0t1_2; rw [h]; exact late h h0 (l_21 i) rfl

theorem g_300 : At lit0t1_2 2 44 := by intro i h h0; unfold lit0t1_2; rw [h]; exact low h h0 (l_127 i) rfl (by decide)

theorem g_301 : At lit0t1_2 2 45 := by intro i h h0; unfold lit0t1_2; rw [h]; exact late h h0 (l_22 i) rfl

theorem g_302 : At lit0t1_2 2 46 := by intro i h h0; unfold lit0t1_2; rw [h]; exact low h h0 (l_127 i) rfl (by decide)

theorem g_303 : At lit0t1_2 2 47 := by intro i h h0; unfold lit0t1_2; rw [h]; exact late h h0 (l_23 i) rfl

theorem g_304 : At lit0t1_2 2 48 := by intro i h h0; unfold lit0t1_2; rw [h]; exact low h h0 (l_127 i) rfl (by decide)

theorem g_305 : At lit0t1_2 2 49 := by intro i h h0; unfold lit0t1_2; rw [h]; exact late h h0 (l_24 i) rfl

theorem g_306 : At lit0t1_2 2 50 := by intro i h h0; unfold lit0t1_2; rw [h]; exact low h h0 (l_127 i) rfl (by decide)

theorem g_307 : At lit0t1_2 2 51 := by intro i h h0; unfold lit0t1_2; rw [h]; exact late h h0 (l_25 i) rfl

theorem g_308 : At lit0t1_2 2 52 := by intro i h h0; unfold lit0t1_2; rw [h]; exact low h h0 (l_127 i) rfl (by decide)

theorem g_309 : At lit0t1_2 2 53 := by intro i h h0; unfold lit0t1_2; rw [h]; exact late h h0 (l_26 i) rfl

theorem g_310 : At lit0t1_2 2 54 := by intro i h h0; unfold lit0t1_2; rw [h]; exact low h h0 (l_127 i) rfl (by decide)

theorem g_311 : At lit0t1_2 2 55 := by intro i h h0; unfold lit0t1_2; rw [h]; exact late h h0 (l_27 i) rfl

theorem g_312 : At lit0t1_2 2 56 := by intro i h h0; unfold lit0t1_2; rw [h]; exact low h h0 (l_127 i) rfl (by decide)

theorem g_313 : At lit0t1_2 2 57 := by intro i h h0; unfold lit0t1_2; rw [h]; exact late h h0 (l_28 i) rfl

theorem g_314 : At lit0t1_2 2 58 := by intro i h h0; unfold lit0t1_2; rw [h]; exact low h h0 (l_127 i) rfl (by decide)

theorem g_315 : At lit0t1_2 2 59 := by intro i h h0; unfold lit0t1_2; rw [h]; exact late h h0 (l_29 i) rfl

theorem g_316 : At lit0t1_2 2 60 := by intro i h h0; unfold lit0t1_2; rw [h]; exact low h h0 (l_127 i) rfl (by decide)

theorem g_317 : At lit0t1_2 2 61 := by intro i h h0; unfold lit0t1_2; rw [h]; exact late h h0 (l_30 i) rfl

theorem g_318 : At lit0t1_2 2 62 := by intro i h h0; unfold lit0t1_2; rw [h]; exact low h h0 (l_127 i) rfl (by decide)

theorem g_319 : At lit0t1_2 2 63 := by intro i h h0; unfold lit0t1_2; rw [h]; exact late h h0 (l_31 i) rfl

theorem g_320 : At lit0t1_2 2 64 := by intro i h h0; unfold lit0t1_2; rw [h]; exact low h h0 (l_127 i) rfl (by decide)

theorem g_321 : At lit0t1_2 2 65 := by intro i h h0; unfold lit0t1_2; rw [h]; exact late h h0 (l_32 i) rfl

theorem g_322 : At lit0t1_2 2 66 := by intro i h h0; unfold lit0t1_2; rw [h]; exact low h h0 (l_127 i) rfl (by decide)

theorem g_323 : At lit0t1_2 2 67 := by intro i h h0; unfold lit0t1_2; rw [h]; exact late h h0 (l_33 i) rfl

theorem g_324 : At lit0t1_2 2 68 := by intro i h h0; unfold lit0t1_2; rw [h]; exact low h h0 (l_127 i) rfl (by decide)

theorem g_325 : At lit0t1_2 2 69 := by intro i h h0; unfold lit0t1_2; rw [h]; exact late h h0 (l_34 i) rfl

theorem g_326 : At lit0t1_2 2 70 := by intro i h h0; unfold lit0t1_2; rw [h]; exact low h h0 (l_127 i) rfl (by decide)

theorem g_327 : At lit0t1_2 2 71 := by intro i h h0; unfold lit0t1_2; rw [h]; exact late h h0 (l_35 i) rfl

theorem g_328 : At lit0t1_2 2 72 := by intro i h h0; unfold lit0t1_2; rw [h]; exact low h h0 (l_127 i) rfl (by decide)

theorem g_329 : At lit0t1_2 2 73 := by intro i h h0; unfold lit0t1_2; rw [h]; exact late h h0 (l_36 i) rfl

theorem g_330 : At lit0t1_2 2 74 := by intro i h h0; unfold lit0t1_2; rw [h]; exact low h h0 (l_127 i) rfl (by decide)

theorem g_331 : At lit0t1_2 2 75 := by intro i h h0; unfold lit0t1_2; rw [h]; exact late h h0 (l_37 i) rfl

theorem g_332 : At lit0t1_2 2 76 := by intro i h h0; unfold lit0t1_2; rw [h]; exact low h h0 (l_127 i) rfl (by decide)

theorem g_333 : At lit0t1_2 2 77 := by intro i h h0; unfold lit0t1_2; rw [h]; exact late h h0 (l_38 i) rfl

theorem g_334 : At lit0t1_2 2 78 := by intro i h h0; unfold lit0t1_2; rw [h]; exact low h h0 (l_127 i) rfl (by decide)

theorem g_335 : At lit0t1_2 2 79 := by intro i h h0; unfold lit0t1_2; rw [h]; exact late h h0 (l_39 i) rfl

theorem g_336 : At lit0t1_2 2 80 := by intro i h h0; unfold lit0t1_2; rw [h]; exact low h h0 (l_127 i) rfl (by decide)

theorem g_337 : At lit0t1_2 2 81 := by intro i h h0; unfold lit0t1_2; rw [h]; exact late h h0 (l_40 i) rfl

theorem g_338 : At lit0t1_2 2 82 := by intro i h h0; unfold lit0t1_2; rw [h]; exact low h h0 (l_127 i) rfl (by decide)

theorem g_339 : At lit0t1_2 2 83 := by intro i h h0; unfold lit0t1_2; rw [h]; exact late h h0 (l_41 i) rfl

theorem g_340 : At lit0t1_2 2 84 := by intro i h h0; unfold lit0t1_2; rw [h]; exact low h h0 (l_127 i) rfl (by decide)

theorem g_341 : At lit0t1_2 2 85 := by intro i h h0; unfold lit0t1_2; rw [h]; exact late h h0 (l_42 i) rfl

theorem g_342 : At lit0t1_2 2 86 := by intro i h h0; unfold lit0t1_2; rw [h]; exact low h h0 (l_127 i) rfl (by decide)

theorem g_343 : At lit0t1_2 2 87 := by intro i h h0; unfold lit0t1_2; rw [h]; exact late h h0 (l_43 i) rfl

theorem g_344 : At lit0t1_2 2 88 := by intro i h h0; unfold lit0t1_2; rw [h]; exact low h h0 (l_127 i) rfl (by decide)

theorem g_345 : At lit0t1_2 2 89 := by intro i h h0; unfold lit0t1_2; rw [h]; exact late h h0 (l_44 i) rfl

theorem g_346 : At lit0t1_2 2 90 := by intro i h h0; unfold lit0t1_2; rw [h]; exact low h h0 (l_127 i) rfl (by decide)

theorem g_347 : At lit0t1_2 2 91 := by intro i h h0; unfold lit0t1_2; rw [h]; exact late h h0 (l_45 i) rfl

theorem g_348 : At lit0t1_2 2 92 := by intro i h h0; unfold lit0t1_2; rw [h]; exact low h h0 (l_127 i) rfl (by decide)

theorem g_349 : At lit0t1_2 2 93 := by intro i h h0; unfold lit0t1_2; rw [h]; exact late h h0 (l_46 i) rfl

theorem g_350 : At lit0t1_2 2 94 := by intro i h h0; unfold lit0t1_2; rw [h]; exact low h h0 (l_127 i) rfl (by decide)

theorem g_351 : At lit0t1_2 2 95 := by intro i h h0; unfold lit0t1_2; rw [h]; exact late h h0 (l_47 i) rfl

theorem g_352 : At lit0t1_2 2 96 := by intro i h h0; unfold lit0t1_2; rw [h]; exact low h h0 (l_127 i) rfl (by decide)

theorem g_353 : At lit0t1_2 2 97 := by intro i h h0; unfold lit0t1_2; rw [h]; exact late h h0 (l_48 i) rfl

theorem g_354 : At lit0t1_2 2 98 := by intro i h h0; unfold lit0t1_2; rw [h]; exact low h h0 (l_127 i) rfl (by decide)

theorem g_355 : At lit0t1_2 2 99 := by intro i h h0; unfold lit0t1_2; rw [h]; exact late h h0 (l_49 i) rfl

theorem g_356 : At lit0t1_2 2 100 := by intro i h h0; unfold lit0t1_2; rw [h]; exact low h h0 (l_127 i) rfl (by decide)

theorem g_357 : At lit0t1_2 2 101 := by intro i h h0; unfold lit0t1_2; rw [h]; exact late h h0 (l_50 i) rfl

theorem g_358 : At lit0t1_2 2 102 := by intro i h h0; unfold lit0t1_2; rw [h]; exact low h h0 (l_127 i) rfl (by decide)

theorem g_359 : At lit0t1_2 2 103 := by intro i h h0; unfold lit0t1_2; rw [h]; exact late h h0 (l_51 i) rfl

theorem g_360 : At lit0t1_2 2 104 := by intro i h h0; unfold lit0t1_2; rw [h]; exact low h h0 (l_127 i) rfl (by decide)

theorem g_361 : At lit0t1_2 2 105 := by intro i h h0; unfold lit0t1_2; rw [h]; exact late h h0 (l_52 i) rfl

theorem g_362 : At lit0t1_2 2 106 := by intro i h h0; unfold lit0t1_2; rw [h]; exact low h h0 (l_127 i) rfl (by decide)

theorem g_363 : At lit0t1_2 2 107 := by intro i h h0; unfold lit0t1_2; rw [h]; exact late h h0 (l_53 i) rfl

theorem g_364 : At lit0t1_2 2 108 := by intro i h h0; unfold lit0t1_2; rw [h]; exact low h h0 (l_127 i) rfl (by decide)

theorem g_365 : At lit0t1_2 2 109 := by intro i h h0; unfold lit0t1_2; rw [h]; exact late h h0 (l_54 i) rfl

theorem g_366 : At lit0t1_2 2 110 := by intro i h h0; unfold lit0t1_2; rw [h]; exact low h h0 (l_127 i) rfl (by decide)

theorem g_367 : At lit0t1_2 2 111 := by intro i h h0; unfold lit0t1_2; rw [h]; exact late h h0 (l_55 i) rfl

theorem g_368 : At lit0t1_2 2 112 := by intro i h h0; unfold lit0t1_2; rw [h]; exact low h h0 (l_127 i) rfl (by decide)

theorem g_369 : At lit0t1_2 2 113 := by intro i h h0; unfold lit0t1_2; rw [h]; exact late h h0 (l_56 i) rfl

theorem g_370 : At lit0t1_2 2 114 := by intro i h h0; unfold lit0t1_2; rw [h]; exact low h h0 (l_127 i) rfl (by decide)

theorem g_371 : At lit0t1_2 2 115 := by intro i h h0; unfold lit0t1_2; rw [h]; exact late h h0 (l_57 i) rfl

theorem g_372 : At lit0t1_2 2 116 := by intro i h h0; unfold lit0t1_2; rw [h]; exact low h h0 (l_127 i) rfl (by decide)

theorem g_373 : At lit0t1_2 2 117 := by intro i h h0; unfold lit0t1_2; rw [h]; exact late h h0 (l_58 i) rfl

theorem g_374 : At lit0t1_2 2 118 := by intro i h h0; unfold lit0t1_2; rw [h]; exact low h h0 (l_127 i) rfl (by decide)

theorem g_375 : At lit0t1_2 2 119 := by intro i h h0; unfold lit0t1_2; rw [h]; exact late h h0 (l_59 i) rfl

theorem g_376 : At lit0t1_2 2 120 := by intro i h h0; unfold lit0t1_2; rw [h]; exact low h h0 (l_127 i) rfl (by decide)

theorem g_377 : At lit0t1_2 2 121 := by intro i h h0; unfold lit0t1_2; rw [h]; exact late h h0 (l_60 i) rfl

theorem g_378 : At lit0t1_2 2 122 := by intro i h h0; unfold lit0t1_2; rw [h]; exact low h h0 (l_127 i) rfl (by decide)

theorem g_379 : At lit0t1_2 2 123 := by intro i h h0; unfold lit0t1_2; rw [h]; exact late h h0 (l_61 i) rfl

theorem g_380 : At lit0t1_2 2 124 := by intro i h h0; unfold lit0t1_2; rw [h]; exact low h h0 (l_127 i) rfl (by decide)

theorem g_381 : At lit0t1_2 2 125 := by intro i h h0; unfold lit0t1_2; rw [h]; exact late h h0 (l_62 i) rfl

theorem g_382 : At lit0t1_2 2 126 := by intro i h h0; unfold lit0t1_2; rw [h]; exact low h h0 (l_127 i) rfl (by decide)

theorem g_383 : At lit0t1_2 2 127 := by intro i h h0; unfold lit0t1_2; rw [h]; exact late h h0 (l_63 i) rfl

theorem g_384 : At lit0t1_3 3 0 := by intro i h h0; unfold lit0t1_3; rw [h]; exact low h h0 (l_127 i) rfl (by decide)

theorem g_385 : At lit0t1_3 3 1 := by intro i h h0; unfold lit0t1_3; rw [h]; exact late h h0 (l_64 i) rfl

theorem g_386 : At lit0t1_3 3 2 := by intro i h h0; unfold lit0t1_3; rw [h]; exact low h h0 (l_127 i) rfl (by decide)

theorem g_387 : At lit0t1_3 3 3 := by intro i h h0; unfold lit0t1_3; rw [h]; exact late h h0 (l_65 i) rfl

theorem g_388 : At lit0t1_3 3 4 := by intro i h h0; unfold lit0t1_3; rw [h]; exact low h h0 (l_127 i) rfl (by decide)

theorem g_389 : At lit0t1_3 3 5 := by intro i h h0; unfold lit0t1_3; rw [h]; exact late h h0 (l_66 i) rfl

theorem g_390 : At lit0t1_3 3 6 := by intro i h h0; unfold lit0t1_3; rw [h]; exact low h h0 (l_127 i) rfl (by decide)

theorem g_391 : At lit0t1_3 3 7 := by intro i h h0; unfold lit0t1_3; rw [h]; exact late h h0 (l_67 i) rfl

theorem g_392 : At lit0t1_3 3 8 := by intro i h h0; unfold lit0t1_3; rw [h]; exact low h h0 (l_127 i) rfl (by decide)

theorem g_393 : At lit0t1_3 3 9 := by intro i h h0; unfold lit0t1_3; rw [h]; exact late h h0 (l_68 i) rfl

theorem g_394 : At lit0t1_3 3 10 := by intro i h h0; unfold lit0t1_3; rw [h]; exact low h h0 (l_127 i) rfl (by decide)

theorem g_395 : At lit0t1_3 3 11 := by intro i h h0; unfold lit0t1_3; rw [h]; exact late h h0 (l_69 i) rfl

theorem g_396 : At lit0t1_3 3 12 := by intro i h h0; unfold lit0t1_3; rw [h]; exact low h h0 (l_127 i) rfl (by decide)

theorem g_397 : At lit0t1_3 3 13 := by intro i h h0; unfold lit0t1_3; rw [h]; exact late h h0 (l_70 i) rfl

theorem g_398 : At lit0t1_3 3 14 := by intro i h h0; unfold lit0t1_3; rw [h]; exact low h h0 (l_127 i) rfl (by decide)

theorem g_399 : At lit0t1_3 3 15 := by intro i h h0; unfold lit0t1_3; rw [h]; exact late h h0 (l_71 i) rfl

theorem g_400 : At lit0t1_3 3 16 := by intro i h h0; unfold lit0t1_3; rw [h]; exact low h h0 (l_127 i) rfl (by decide)

theorem g_401 : At lit0t1_3 3 17 := by intro i h h0; unfold lit0t1_3; rw [h]; exact late h h0 (l_72 i) rfl

theorem g_402 : At lit0t1_3 3 18 := by intro i h h0; unfold lit0t1_3; rw [h]; exact low h h0 (l_127 i) rfl (by decide)

theorem g_403 : At lit0t1_3 3 19 := by intro i h h0; unfold lit0t1_3; rw [h]; exact late h h0 (l_73 i) rfl

theorem g_404 : At lit0t1_3 3 20 := by intro i h h0; unfold lit0t1_3; rw [h]; exact low h h0 (l_127 i) rfl (by decide)

theorem g_405 : At lit0t1_3 3 21 := by intro i h h0; unfold lit0t1_3; rw [h]; exact late h h0 (l_74 i) rfl

theorem g_406 : At lit0t1_3 3 22 := by intro i h h0; unfold lit0t1_3; rw [h]; exact low h h0 (l_127 i) rfl (by decide)

theorem g_407 : At lit0t1_3 3 23 := by intro i h h0; unfold lit0t1_3; rw [h]; exact late h h0 (l_75 i) rfl

theorem g_408 : At lit0t1_3 3 24 := by intro i h h0; unfold lit0t1_3; rw [h]; exact low h h0 (l_127 i) rfl (by decide)

theorem g_409 : At lit0t1_3 3 25 := by intro i h h0; unfold lit0t1_3; rw [h]; exact late h h0 (l_76 i) rfl

theorem g_410 : At lit0t1_3 3 26 := by intro i h h0; unfold lit0t1_3; rw [h]; exact low h h0 (l_127 i) rfl (by decide)

theorem g_411 : At lit0t1_3 3 27 := by intro i h h0; unfold lit0t1_3; rw [h]; exact late h h0 (l_77 i) rfl

theorem g_412 : At lit0t1_3 3 28 := by intro i h h0; unfold lit0t1_3; rw [h]; exact low h h0 (l_127 i) rfl (by decide)

theorem g_413 : At lit0t1_3 3 29 := by intro i h h0; unfold lit0t1_3; rw [h]; exact late h h0 (l_78 i) rfl

theorem g_414 : At lit0t1_3 3 30 := by intro i h h0; unfold lit0t1_3; rw [h]; exact low h h0 (l_127 i) rfl (by decide)

theorem g_415 : At lit0t1_3 3 31 := by intro i h h0; unfold lit0t1_3; rw [h]; exact late h h0 (l_79 i) rfl

theorem g_416 : At lit0t1_3 3 32 := by intro i h h0; unfold lit0t1_3; rw [h]; exact low h h0 (l_127 i) rfl (by decide)

theorem g_417 : At lit0t1_3 3 33 := by intro i h h0; unfold lit0t1_3; rw [h]; exact late h h0 (l_80 i) rfl

theorem g_418 : At lit0t1_3 3 34 := by intro i h h0; unfold lit0t1_3; rw [h]; exact low h h0 (l_127 i) rfl (by decide)

theorem g_419 : At lit0t1_3 3 35 := by intro i h h0; unfold lit0t1_3; rw [h]; exact late h h0 (l_81 i) rfl

theorem g_420 : At lit0t1_3 3 36 := by intro i h h0; unfold lit0t1_3; rw [h]; exact low h h0 (l_127 i) rfl (by decide)

theorem g_421 : At lit0t1_3 3 37 := by intro i h h0; unfold lit0t1_3; rw [h]; exact late h h0 (l_82 i) rfl

theorem g_422 : At lit0t1_3 3 38 := by intro i h h0; unfold lit0t1_3; rw [h]; exact low h h0 (l_127 i) rfl (by decide)

theorem g_423 : At lit0t1_3 3 39 := by intro i h h0; unfold lit0t1_3; rw [h]; exact late h h0 (l_83 i) rfl

theorem g_424 : At lit0t1_3 3 40 := by intro i h h0; unfold lit0t1_3; rw [h]; exact low h h0 (l_127 i) rfl (by decide)

theorem g_425 : At lit0t1_3 3 41 := by intro i h h0; unfold lit0t1_3; rw [h]; exact late h h0 (l_84 i) rfl

theorem g_426 : At lit0t1_3 3 42 := by intro i h h0; unfold lit0t1_3; rw [h]; exact low h h0 (l_127 i) rfl (by decide)

theorem g_427 : At lit0t1_3 3 43 := by intro i h h0; unfold lit0t1_3; rw [h]; exact late h h0 (l_85 i) rfl

theorem g_428 : At lit0t1_3 3 44 := by intro i h h0; unfold lit0t1_3; rw [h]; exact low h h0 (l_127 i) rfl (by decide)

theorem g_429 : At lit0t1_3 3 45 := by intro i h h0; unfold lit0t1_3; rw [h]; exact late h h0 (l_86 i) rfl

theorem g_430 : At lit0t1_3 3 46 := by intro i h h0; unfold lit0t1_3; rw [h]; exact low h h0 (l_127 i) rfl (by decide)

theorem g_431 : At lit0t1_3 3 47 := by intro i h h0; unfold lit0t1_3; rw [h]; exact late h h0 (l_87 i) rfl

theorem g_432 : At lit0t1_3 3 48 := by intro i h h0; unfold lit0t1_3; rw [h]; exact low h h0 (l_127 i) rfl (by decide)

theorem g_433 : At lit0t1_3 3 49 := by intro i h h0; unfold lit0t1_3; rw [h]; exact late h h0 (l_88 i) rfl

theorem g_434 : At lit0t1_3 3 50 := by intro i h h0; unfold lit0t1_3; rw [h]; exact low h h0 (l_127 i) rfl (by decide)

theorem g_435 : At lit0t1_3 3 51 := by intro i h h0; unfold lit0t1_3; rw [h]; exact late h h0 (l_89 i) rfl

theorem g_436 : At lit0t1_3 3 52 := by intro i h h0; unfold lit0t1_3; rw [h]; exact low h h0 (l_127 i) rfl (by decide)

theorem g_437 : At lit0t1_3 3 53 := by intro i h h0; unfold lit0t1_3; rw [h]; exact late h h0 (l_90 i) rfl

theorem g_438 : At lit0t1_3 3 54 := by intro i h h0; unfold lit0t1_3; rw [h]; exact low h h0 (l_127 i) rfl (by decide)

theorem g_439 : At lit0t1_3 3 55 := by intro i h h0; unfold lit0t1_3; rw [h]; exact late h h0 (l_91 i) rfl

theorem g_440 : At lit0t1_3 3 56 := by intro i h h0; unfold lit0t1_3; rw [h]; exact low h h0 (l_127 i) rfl (by decide)

theorem g_441 : At lit0t1_3 3 57 := by intro i h h0; unfold lit0t1_3; rw [h]; exact late h h0 (l_92 i) rfl

theorem g_442 : At lit0t1_3 3 58 := by intro i h h0; unfold lit0t1_3; rw [h]; exact low h h0 (l_127 i) rfl (by decide)

theorem g_443 : At lit0t1_3 3 59 := by intro i h h0; unfold lit0t1_3; rw [h]; exact late h h0 (l_93 i) rfl

theorem g_444 : At lit0t1_3 3 60 := by intro i h h0; unfold lit0t1_3; rw [h]; exact low h h0 (l_127 i) rfl (by decide)

theorem g_445 : At lit0t1_3 3 61 := by intro i h h0; unfold lit0t1_3; rw [h]; exact late h h0 (l_94 i) rfl

theorem g_446 : At lit0t1_3 3 62 := by intro i h h0; unfold lit0t1_3; rw [h]; exact low h h0 (l_127 i) rfl (by decide)

theorem g_447 : At lit0t1_3 3 63 := by intro i h h0; unfold lit0t1_3; rw [h]; exact late h h0 (l_95 i) rfl

theorem g_448 : At lit0t1_3 3 64 := by intro i h h0; unfold lit0t1_3; rw [h]; exact low h h0 (l_127 i) rfl (by decide)

theorem g_449 : At lit0t1_3 3 65 := by intro i h h0; unfold lit0t1_3; rw [h]; exact late h h0 (l_96 i) rfl

theorem g_450 : At lit0t1_3 3 66 := by intro i h h0; unfold lit0t1_3; rw [h]; exact low h h0 (l_127 i) rfl (by decide)

theorem g_451 : At lit0t1_3 3 67 := by intro i h h0; unfold lit0t1_3; rw [h]; exact late h h0 (l_97 i) rfl

theorem g_452 : At lit0t1_3 3 68 := by intro i h h0; unfold lit0t1_3; rw [h]; exact low h h0 (l_127 i) rfl (by decide)

theorem g_453 : At lit0t1_3 3 69 := by intro i h h0; unfold lit0t1_3; rw [h]; exact late h h0 (l_98 i) rfl

theorem g_454 : At lit0t1_3 3 70 := by intro i h h0; unfold lit0t1_3; rw [h]; exact low h h0 (l_127 i) rfl (by decide)

theorem g_455 : At lit0t1_3 3 71 := by intro i h h0; unfold lit0t1_3; rw [h]; exact late h h0 (l_99 i) rfl

theorem g_456 : At lit0t1_3 3 72 := by intro i h h0; unfold lit0t1_3; rw [h]; exact low h h0 (l_127 i) rfl (by decide)

theorem g_457 : At lit0t1_3 3 73 := by intro i h h0; unfold lit0t1_3; rw [h]; exact late h h0 (l_100 i) rfl

theorem g_458 : At lit0t1_3 3 74 := by intro i h h0; unfold lit0t1_3; rw [h]; exact low h h0 (l_127 i) rfl (by decide)

theorem g_459 : At lit0t1_3 3 75 := by intro i h h0; unfold lit0t1_3; rw [h]; exact late h h0 (l_101 i) rfl

theorem g_460 : At lit0t1_3 3 76 := by intro i h h0; unfold lit0t1_3; rw [h]; exact low h h0 (l_127 i) rfl (by decide)

theorem g_461 : At lit0t1_3 3 77 := by intro i h h0; unfold lit0t1_3; rw [h]; exact late h h0 (l_102 i) rfl

theorem g_462 : At lit0t1_3 3 78 := by intro i h h0; unfold lit0t1_3; rw [h]; exact low h h0 (l_127 i) rfl (by decide)

theorem g_463 : At lit0t1_3 3 79 := by intro i h h0; unfold lit0t1_3; rw [h]; exact late h h0 (l_103 i) rfl

theorem g_464 : At lit0t1_3 3 80 := by intro i h h0; unfold lit0t1_3; rw [h]; exact low h h0 (l_127 i) rfl (by decide)

theorem g_465 : At lit0t1_3 3 81 := by intro i h h0; unfold lit0t1_3; rw [h]; exact late h h0 (l_104 i) rfl

theorem g_466 : At lit0t1_3 3 82 := by intro i h h0; unfold lit0t1_3; rw [h]; exact low h h0 (l_127 i) rfl (by decide)

theorem g_467 : At lit0t1_3 3 83 := by intro i h h0; unfold lit0t1_3; rw [h]; exact late h h0 (l_105 i) rfl

theorem g_468 : At lit0t1_3 3 84 := by intro i h h0; unfold lit0t1_3; rw [h]; exact low h h0 (l_127 i) rfl (by decide)

theorem g_469 : At lit0t1_3 3 85 := by intro i h h0; unfold lit0t1_3; rw [h]; exact late h h0 (l_106 i) rfl

theorem g_470 : At lit0t1_3 3 86 := by intro i h h0; unfold lit0t1_3; rw [h]; exact low h h0 (l_127 i) rfl (by decide)

theorem g_471 : At lit0t1_3 3 87 := by intro i h h0; unfold lit0t1_3; rw [h]; exact late h h0 (l_107 i) rfl

theorem g_472 : At lit0t1_3 3 88 := by intro i h h0; unfold lit0t1_3; rw [h]; exact low h h0 (l_127 i) rfl (by decide)

theorem g_473 : At lit0t1_3 3 89 := by intro i h h0; unfold lit0t1_3; rw [h]; exact late h h0 (l_108 i) rfl

theorem g_474 : At lit0t1_3 3 90 := by intro i h h0; unfold lit0t1_3; rw [h]; exact low h h0 (l_127 i) rfl (by decide)

theorem g_475 : At lit0t1_3 3 91 := by intro i h h0; unfold lit0t1_3; rw [h]; exact late h h0 (l_109 i) rfl

theorem g_476 : At lit0t1_3 3 92 := by intro i h h0; unfold lit0t1_3; rw [h]; exact low h h0 (l_127 i) rfl (by decide)

theorem g_477 : At lit0t1_3 3 93 := by intro i h h0; unfold lit0t1_3; rw [h]; exact late h h0 (l_110 i) rfl

theorem g_478 : At lit0t1_3 3 94 := by intro i h h0; unfold lit0t1_3; rw [h]; exact low h h0 (l_127 i) rfl (by decide)

theorem g_479 : At lit0t1_3 3 95 := by intro i h h0; unfold lit0t1_3; rw [h]; exact late h h0 (l_111 i) rfl

theorem g_480 : At lit0t1_3 3 96 := by intro i h h0; unfold lit0t1_3; rw [h]; exact low h h0 (l_127 i) rfl (by decide)

theorem g_481 : At lit0t1_3 3 97 := by intro i h h0; unfold lit0t1_3; rw [h]; exact late h h0 (l_112 i) rfl

theorem g_482 : At lit0t1_3 3 98 := by intro i h h0; unfold lit0t1_3; rw [h]; exact low h h0 (l_127 i) rfl (by decide)

theorem g_483 : At lit0t1_3 3 99 := by intro i h h0; unfold lit0t1_3; rw [h]; exact late h h0 (l_113 i) rfl

theorem g_484 : At lit0t1_3 3 100 := by intro i h h0; unfold lit0t1_3; rw [h]; exact low h h0 (l_127 i) rfl (by decide)

theorem g_485 : At lit0t1_3 3 101 := by intro i h h0; unfold lit0t1_3; rw [h]; exact late h h0 (l_114 i) rfl

theorem g_486 : At lit0t1_3 3 102 := by intro i h h0; unfold lit0t1_3; rw [h]; exact low h h0 (l_127 i) rfl (by decide)

theorem g_487 : At lit0t1_3 3 103 := by intro i h h0; unfold lit0t1_3; rw [h]; exact late h h0 (l_115 i) rfl

theorem g_488 : At lit0t1_3 3 104 := by intro i h h0; unfold lit0t1_3; rw [h]; exact low h h0 (l_127 i) rfl (by decide)

theorem g_489 : At lit0t1_3 3 105 := by intro i h h0; unfold lit0t1_3; rw [h]; exact late h h0 (l_116 i) rfl

theorem g_490 : At lit0t1_3 3 106 := by intro i h h0; unfold lit0t1_3; rw [h]; exact low h h0 (l_127 i) rfl (by decide)

theorem g_491 : At lit0t1_3 3 107 := by intro i h h0; unfold lit0t1_3; rw [h]; exact late h h0 (l_117 i) rfl

theorem g_492 : At lit0t1_3 3 108 := by intro i h h0; unfold lit0t1_3; rw [h]; exact low h h0 (l_127 i) rfl (by decide)

theorem g_493 : At lit0t1_3 3 109 := by intro i h h0; unfold lit0t1_3; rw [h]; exact late h h0 (l_118 i) rfl

theorem g_494 : At lit0t1_3 3 110 := by intro i h h0; unfold lit0t1_3; rw [h]; exact low h h0 (l_127 i) rfl (by decide)

theorem g_495 : At lit0t1_3 3 111 := by intro i h h0; unfold lit0t1_3; rw [h]; exact late h h0 (l_119 i) rfl

theorem g_496 : At lit0t1_3 3 112 := by intro i h h0; unfold lit0t1_3; rw [h]; exact low h h0 (l_127 i) rfl (by decide)

theorem g_497 : At lit0t1_3 3 113 := by intro i h h0; unfold lit0t1_3; rw [h]; exact late h h0 (l_120 i) rfl

theorem g_498 : At lit0t1_3 3 114 := by intro i h h0; unfold lit0t1_3; rw [h]; exact low h h0 (l_127 i) rfl (by decide)

theorem g_499 : At lit0t1_3 3 115 := by intro i h h0; unfold lit0t1_3; rw [h]; exact late h h0 (l_121 i) rfl

theorem g_500 : At lit0t1_3 3 116 := by intro i h h0; unfold lit0t1_3; rw [h]; exact low h h0 (l_127 i) rfl (by decide)

theorem g_501 : At lit0t1_3 3 117 := by intro i h h0; unfold lit0t1_3; rw [h]; exact late h h0 (l_122 i) rfl

theorem g_502 : At lit0t1_3 3 118 := by intro i h h0; unfold lit0t1_3; rw [h]; exact low h h0 (l_127 i) rfl (by decide)

theorem g_503 : At lit0t1_3 3 119 := by intro i h h0; unfold lit0t1_3; rw [h]; exact late h h0 (l_123 i) rfl

theorem g_504 : At lit0t1_3 3 120 := by intro i h h0; unfold lit0t1_3; rw [h]; exact low h h0 (l_127 i) rfl (by decide)

theorem g_505 : At lit0t1_3 3 121 := by intro i h h0; unfold lit0t1_3; rw [h]; exact late h h0 (l_124 i) rfl

theorem g_506 : At lit0t1_3 3 122 := by intro i h h0; unfold lit0t1_3; rw [h]; exact low h h0 (l_127 i) rfl (by decide)

theorem g_507 : At lit0t1_3 3 123 := by intro i h h0; unfold lit0t1_3; rw [h]; exact late h h0 (l_125 i) rfl

theorem g_508 : At lit0t1_3 3 124 := by intro i h h0; unfold lit0t1_3; rw [h]; exact low h h0 (l_127 i) rfl (by decide)

theorem g_509 : At lit0t1_3 3 125 := by intro i h h0; unfold lit0t1_3; rw [h]; exact late h h0 (l_126 i) rfl

theorem g_510 : At lit0t1_3 3 126 := by intro i h h0; unfold lit0t1_3; rw [h]; exact low h h0 (l_127 i) rfl (by decide)

theorem g_511 : At lit0t1_3 3 127 := by intro i h h0; unfold lit0t1_3; rw [h]; exact late h h0 (l_127 i) rfl

/-- The quarter of the table from row 0. -/
theorem u_0 (i : ℕ) (h0 : i / 16384 = 0) : ∀ q, q < 128 → i / 128 % 128 = q → lit0t1_0 i = w (i % 256) (i / 256)
  | 0, _, h => g_0 i h h0
  | 1, _, h => g_1 i h h0
  | 2, _, h => g_2 i h h0
  | 3, _, h => g_3 i h h0
  | 4, _, h => g_4 i h h0
  | 5, _, h => g_5 i h h0
  | 6, _, h => g_6 i h h0
  | 7, _, h => g_7 i h h0
  | 8, _, h => g_8 i h h0
  | 9, _, h => g_9 i h h0
  | 10, _, h => g_10 i h h0
  | 11, _, h => g_11 i h h0
  | 12, _, h => g_12 i h h0
  | 13, _, h => g_13 i h h0
  | 14, _, h => g_14 i h h0
  | 15, _, h => g_15 i h h0
  | 16, _, h => g_16 i h h0
  | 17, _, h => g_17 i h h0
  | 18, _, h => g_18 i h h0
  | 19, _, h => g_19 i h h0
  | 20, _, h => g_20 i h h0
  | 21, _, h => g_21 i h h0
  | 22, _, h => g_22 i h h0
  | 23, _, h => g_23 i h h0
  | 24, _, h => g_24 i h h0
  | 25, _, h => g_25 i h h0
  | 26, _, h => g_26 i h h0
  | 27, _, h => g_27 i h h0
  | 28, _, h => g_28 i h h0
  | 29, _, h => g_29 i h h0
  | 30, _, h => g_30 i h h0
  | 31, _, h => g_31 i h h0
  | 32, _, h => g_32 i h h0
  | 33, _, h => g_33 i h h0
  | 34, _, h => g_34 i h h0
  | 35, _, h => g_35 i h h0
  | 36, _, h => g_36 i h h0
  | 37, _, h => g_37 i h h0
  | 38, _, h => g_38 i h h0
  | 39, _, h => g_39 i h h0
  | 40, _, h => g_40 i h h0
  | 41, _, h => g_41 i h h0
  | 42, _, h => g_42 i h h0
  | 43, _, h => g_43 i h h0
  | 44, _, h => g_44 i h h0
  | 45, _, h => g_45 i h h0
  | 46, _, h => g_46 i h h0
  | 47, _, h => g_47 i h h0
  | 48, _, h => g_48 i h h0
  | 49, _, h => g_49 i h h0
  | 50, _, h => g_50 i h h0
  | 51, _, h => g_51 i h h0
  | 52, _, h => g_52 i h h0
  | 53, _, h => g_53 i h h0
  | 54, _, h => g_54 i h h0
  | 55, _, h => g_55 i h h0
  | 56, _, h => g_56 i h h0
  | 57, _, h => g_57 i h h0
  | 58, _, h => g_58 i h h0
  | 59, _, h => g_59 i h h0
  | 60, _, h => g_60 i h h0
  | 61, _, h => g_61 i h h0
  | 62, _, h => g_62 i h h0
  | 63, _, h => g_63 i h h0
  | 64, _, h => g_64 i h h0
  | 65, _, h => g_65 i h h0
  | 66, _, h => g_66 i h h0
  | 67, _, h => g_67 i h h0
  | 68, _, h => g_68 i h h0
  | 69, _, h => g_69 i h h0
  | 70, _, h => g_70 i h h0
  | 71, _, h => g_71 i h h0
  | 72, _, h => g_72 i h h0
  | 73, _, h => g_73 i h h0
  | 74, _, h => g_74 i h h0
  | 75, _, h => g_75 i h h0
  | 76, _, h => g_76 i h h0
  | 77, _, h => g_77 i h h0
  | 78, _, h => g_78 i h h0
  | 79, _, h => g_79 i h h0
  | 80, _, h => g_80 i h h0
  | 81, _, h => g_81 i h h0
  | 82, _, h => g_82 i h h0
  | 83, _, h => g_83 i h h0
  | 84, _, h => g_84 i h h0
  | 85, _, h => g_85 i h h0
  | 86, _, h => g_86 i h h0
  | 87, _, h => g_87 i h h0
  | 88, _, h => g_88 i h h0
  | 89, _, h => g_89 i h h0
  | 90, _, h => g_90 i h h0
  | 91, _, h => g_91 i h h0
  | 92, _, h => g_92 i h h0
  | 93, _, h => g_93 i h h0
  | 94, _, h => g_94 i h h0
  | 95, _, h => g_95 i h h0
  | 96, _, h => g_96 i h h0
  | 97, _, h => g_97 i h h0
  | 98, _, h => g_98 i h h0
  | 99, _, h => g_99 i h h0
  | 100, _, h => g_100 i h h0
  | 101, _, h => g_101 i h h0
  | 102, _, h => g_102 i h h0
  | 103, _, h => g_103 i h h0
  | 104, _, h => g_104 i h h0
  | 105, _, h => g_105 i h h0
  | 106, _, h => g_106 i h h0
  | 107, _, h => g_107 i h h0
  | 108, _, h => g_108 i h h0
  | 109, _, h => g_109 i h h0
  | 110, _, h => g_110 i h h0
  | 111, _, h => g_111 i h h0
  | 112, _, h => g_112 i h h0
  | 113, _, h => g_113 i h h0
  | 114, _, h => g_114 i h h0
  | 115, _, h => g_115 i h h0
  | 116, _, h => g_116 i h h0
  | 117, _, h => g_117 i h h0
  | 118, _, h => g_118 i h h0
  | 119, _, h => g_119 i h h0
  | 120, _, h => g_120 i h h0
  | 121, _, h => g_121 i h h0
  | 122, _, h => g_122 i h h0
  | 123, _, h => g_123 i h h0
  | 124, _, h => g_124 i h h0
  | 125, _, h => g_125 i h h0
  | 126, _, h => g_126 i h h0
  | 127, _, h => g_127 i h h0
  | n + 128, hn, _ => absurd hn (by omega)

/-- The quarter of the table from row 64. -/
theorem u_1 (i : ℕ) (h0 : i / 16384 = 1) : ∀ q, q < 128 → i / 128 % 128 = q → lit0t1_1 i = w (i % 256) (i / 256)
  | 0, _, h => g_128 i h h0
  | 1, _, h => g_129 i h h0
  | 2, _, h => g_130 i h h0
  | 3, _, h => g_131 i h h0
  | 4, _, h => g_132 i h h0
  | 5, _, h => g_133 i h h0
  | 6, _, h => g_134 i h h0
  | 7, _, h => g_135 i h h0
  | 8, _, h => g_136 i h h0
  | 9, _, h => g_137 i h h0
  | 10, _, h => g_138 i h h0
  | 11, _, h => g_139 i h h0
  | 12, _, h => g_140 i h h0
  | 13, _, h => g_141 i h h0
  | 14, _, h => g_142 i h h0
  | 15, _, h => g_143 i h h0
  | 16, _, h => g_144 i h h0
  | 17, _, h => g_145 i h h0
  | 18, _, h => g_146 i h h0
  | 19, _, h => g_147 i h h0
  | 20, _, h => g_148 i h h0
  | 21, _, h => g_149 i h h0
  | 22, _, h => g_150 i h h0
  | 23, _, h => g_151 i h h0
  | 24, _, h => g_152 i h h0
  | 25, _, h => g_153 i h h0
  | 26, _, h => g_154 i h h0
  | 27, _, h => g_155 i h h0
  | 28, _, h => g_156 i h h0
  | 29, _, h => g_157 i h h0
  | 30, _, h => g_158 i h h0
  | 31, _, h => g_159 i h h0
  | 32, _, h => g_160 i h h0
  | 33, _, h => g_161 i h h0
  | 34, _, h => g_162 i h h0
  | 35, _, h => g_163 i h h0
  | 36, _, h => g_164 i h h0
  | 37, _, h => g_165 i h h0
  | 38, _, h => g_166 i h h0
  | 39, _, h => g_167 i h h0
  | 40, _, h => g_168 i h h0
  | 41, _, h => g_169 i h h0
  | 42, _, h => g_170 i h h0
  | 43, _, h => g_171 i h h0
  | 44, _, h => g_172 i h h0
  | 45, _, h => g_173 i h h0
  | 46, _, h => g_174 i h h0
  | 47, _, h => g_175 i h h0
  | 48, _, h => g_176 i h h0
  | 49, _, h => g_177 i h h0
  | 50, _, h => g_178 i h h0
  | 51, _, h => g_179 i h h0
  | 52, _, h => g_180 i h h0
  | 53, _, h => g_181 i h h0
  | 54, _, h => g_182 i h h0
  | 55, _, h => g_183 i h h0
  | 56, _, h => g_184 i h h0
  | 57, _, h => g_185 i h h0
  | 58, _, h => g_186 i h h0
  | 59, _, h => g_187 i h h0
  | 60, _, h => g_188 i h h0
  | 61, _, h => g_189 i h h0
  | 62, _, h => g_190 i h h0
  | 63, _, h => g_191 i h h0
  | 64, _, h => g_192 i h h0
  | 65, _, h => g_193 i h h0
  | 66, _, h => g_194 i h h0
  | 67, _, h => g_195 i h h0
  | 68, _, h => g_196 i h h0
  | 69, _, h => g_197 i h h0
  | 70, _, h => g_198 i h h0
  | 71, _, h => g_199 i h h0
  | 72, _, h => g_200 i h h0
  | 73, _, h => g_201 i h h0
  | 74, _, h => g_202 i h h0
  | 75, _, h => g_203 i h h0
  | 76, _, h => g_204 i h h0
  | 77, _, h => g_205 i h h0
  | 78, _, h => g_206 i h h0
  | 79, _, h => g_207 i h h0
  | 80, _, h => g_208 i h h0
  | 81, _, h => g_209 i h h0
  | 82, _, h => g_210 i h h0
  | 83, _, h => g_211 i h h0
  | 84, _, h => g_212 i h h0
  | 85, _, h => g_213 i h h0
  | 86, _, h => g_214 i h h0
  | 87, _, h => g_215 i h h0
  | 88, _, h => g_216 i h h0
  | 89, _, h => g_217 i h h0
  | 90, _, h => g_218 i h h0
  | 91, _, h => g_219 i h h0
  | 92, _, h => g_220 i h h0
  | 93, _, h => g_221 i h h0
  | 94, _, h => g_222 i h h0
  | 95, _, h => g_223 i h h0
  | 96, _, h => g_224 i h h0
  | 97, _, h => g_225 i h h0
  | 98, _, h => g_226 i h h0
  | 99, _, h => g_227 i h h0
  | 100, _, h => g_228 i h h0
  | 101, _, h => g_229 i h h0
  | 102, _, h => g_230 i h h0
  | 103, _, h => g_231 i h h0
  | 104, _, h => g_232 i h h0
  | 105, _, h => g_233 i h h0
  | 106, _, h => g_234 i h h0
  | 107, _, h => g_235 i h h0
  | 108, _, h => g_236 i h h0
  | 109, _, h => g_237 i h h0
  | 110, _, h => g_238 i h h0
  | 111, _, h => g_239 i h h0
  | 112, _, h => g_240 i h h0
  | 113, _, h => g_241 i h h0
  | 114, _, h => g_242 i h h0
  | 115, _, h => g_243 i h h0
  | 116, _, h => g_244 i h h0
  | 117, _, h => g_245 i h h0
  | 118, _, h => g_246 i h h0
  | 119, _, h => g_247 i h h0
  | 120, _, h => g_248 i h h0
  | 121, _, h => g_249 i h h0
  | 122, _, h => g_250 i h h0
  | 123, _, h => g_251 i h h0
  | 124, _, h => g_252 i h h0
  | 125, _, h => g_253 i h h0
  | 126, _, h => g_254 i h h0
  | 127, _, h => g_255 i h h0
  | n + 128, hn, _ => absurd hn (by omega)

/-- The quarter of the table from row 128. -/
theorem u_2 (i : ℕ) (h0 : i / 16384 = 2) : ∀ q, q < 128 → i / 128 % 128 = q → lit0t1_2 i = w (i % 256) (i / 256)
  | 0, _, h => g_256 i h h0
  | 1, _, h => g_257 i h h0
  | 2, _, h => g_258 i h h0
  | 3, _, h => g_259 i h h0
  | 4, _, h => g_260 i h h0
  | 5, _, h => g_261 i h h0
  | 6, _, h => g_262 i h h0
  | 7, _, h => g_263 i h h0
  | 8, _, h => g_264 i h h0
  | 9, _, h => g_265 i h h0
  | 10, _, h => g_266 i h h0
  | 11, _, h => g_267 i h h0
  | 12, _, h => g_268 i h h0
  | 13, _, h => g_269 i h h0
  | 14, _, h => g_270 i h h0
  | 15, _, h => g_271 i h h0
  | 16, _, h => g_272 i h h0
  | 17, _, h => g_273 i h h0
  | 18, _, h => g_274 i h h0
  | 19, _, h => g_275 i h h0
  | 20, _, h => g_276 i h h0
  | 21, _, h => g_277 i h h0
  | 22, _, h => g_278 i h h0
  | 23, _, h => g_279 i h h0
  | 24, _, h => g_280 i h h0
  | 25, _, h => g_281 i h h0
  | 26, _, h => g_282 i h h0
  | 27, _, h => g_283 i h h0
  | 28, _, h => g_284 i h h0
  | 29, _, h => g_285 i h h0
  | 30, _, h => g_286 i h h0
  | 31, _, h => g_287 i h h0
  | 32, _, h => g_288 i h h0
  | 33, _, h => g_289 i h h0
  | 34, _, h => g_290 i h h0
  | 35, _, h => g_291 i h h0
  | 36, _, h => g_292 i h h0
  | 37, _, h => g_293 i h h0
  | 38, _, h => g_294 i h h0
  | 39, _, h => g_295 i h h0
  | 40, _, h => g_296 i h h0
  | 41, _, h => g_297 i h h0
  | 42, _, h => g_298 i h h0
  | 43, _, h => g_299 i h h0
  | 44, _, h => g_300 i h h0
  | 45, _, h => g_301 i h h0
  | 46, _, h => g_302 i h h0
  | 47, _, h => g_303 i h h0
  | 48, _, h => g_304 i h h0
  | 49, _, h => g_305 i h h0
  | 50, _, h => g_306 i h h0
  | 51, _, h => g_307 i h h0
  | 52, _, h => g_308 i h h0
  | 53, _, h => g_309 i h h0
  | 54, _, h => g_310 i h h0
  | 55, _, h => g_311 i h h0
  | 56, _, h => g_312 i h h0
  | 57, _, h => g_313 i h h0
  | 58, _, h => g_314 i h h0
  | 59, _, h => g_315 i h h0
  | 60, _, h => g_316 i h h0
  | 61, _, h => g_317 i h h0
  | 62, _, h => g_318 i h h0
  | 63, _, h => g_319 i h h0
  | 64, _, h => g_320 i h h0
  | 65, _, h => g_321 i h h0
  | 66, _, h => g_322 i h h0
  | 67, _, h => g_323 i h h0
  | 68, _, h => g_324 i h h0
  | 69, _, h => g_325 i h h0
  | 70, _, h => g_326 i h h0
  | 71, _, h => g_327 i h h0
  | 72, _, h => g_328 i h h0
  | 73, _, h => g_329 i h h0
  | 74, _, h => g_330 i h h0
  | 75, _, h => g_331 i h h0
  | 76, _, h => g_332 i h h0
  | 77, _, h => g_333 i h h0
  | 78, _, h => g_334 i h h0
  | 79, _, h => g_335 i h h0
  | 80, _, h => g_336 i h h0
  | 81, _, h => g_337 i h h0
  | 82, _, h => g_338 i h h0
  | 83, _, h => g_339 i h h0
  | 84, _, h => g_340 i h h0
  | 85, _, h => g_341 i h h0
  | 86, _, h => g_342 i h h0
  | 87, _, h => g_343 i h h0
  | 88, _, h => g_344 i h h0
  | 89, _, h => g_345 i h h0
  | 90, _, h => g_346 i h h0
  | 91, _, h => g_347 i h h0
  | 92, _, h => g_348 i h h0
  | 93, _, h => g_349 i h h0
  | 94, _, h => g_350 i h h0
  | 95, _, h => g_351 i h h0
  | 96, _, h => g_352 i h h0
  | 97, _, h => g_353 i h h0
  | 98, _, h => g_354 i h h0
  | 99, _, h => g_355 i h h0
  | 100, _, h => g_356 i h h0
  | 101, _, h => g_357 i h h0
  | 102, _, h => g_358 i h h0
  | 103, _, h => g_359 i h h0
  | 104, _, h => g_360 i h h0
  | 105, _, h => g_361 i h h0
  | 106, _, h => g_362 i h h0
  | 107, _, h => g_363 i h h0
  | 108, _, h => g_364 i h h0
  | 109, _, h => g_365 i h h0
  | 110, _, h => g_366 i h h0
  | 111, _, h => g_367 i h h0
  | 112, _, h => g_368 i h h0
  | 113, _, h => g_369 i h h0
  | 114, _, h => g_370 i h h0
  | 115, _, h => g_371 i h h0
  | 116, _, h => g_372 i h h0
  | 117, _, h => g_373 i h h0
  | 118, _, h => g_374 i h h0
  | 119, _, h => g_375 i h h0
  | 120, _, h => g_376 i h h0
  | 121, _, h => g_377 i h h0
  | 122, _, h => g_378 i h h0
  | 123, _, h => g_379 i h h0
  | 124, _, h => g_380 i h h0
  | 125, _, h => g_381 i h h0
  | 126, _, h => g_382 i h h0
  | 127, _, h => g_383 i h h0
  | n + 128, hn, _ => absurd hn (by omega)

/-- The quarter of the table from row 192. -/
theorem u_3 (i : ℕ) (h0 : i / 16384 = 3) : ∀ q, q < 128 → i / 128 % 128 = q → lit0t1_3 i = w (i % 256) (i / 256)
  | 0, _, h => g_384 i h h0
  | 1, _, h => g_385 i h h0
  | 2, _, h => g_386 i h h0
  | 3, _, h => g_387 i h h0
  | 4, _, h => g_388 i h h0
  | 5, _, h => g_389 i h h0
  | 6, _, h => g_390 i h h0
  | 7, _, h => g_391 i h h0
  | 8, _, h => g_392 i h h0
  | 9, _, h => g_393 i h h0
  | 10, _, h => g_394 i h h0
  | 11, _, h => g_395 i h h0
  | 12, _, h => g_396 i h h0
  | 13, _, h => g_397 i h h0
  | 14, _, h => g_398 i h h0
  | 15, _, h => g_399 i h h0
  | 16, _, h => g_400 i h h0
  | 17, _, h => g_401 i h h0
  | 18, _, h => g_402 i h h0
  | 19, _, h => g_403 i h h0
  | 20, _, h => g_404 i h h0
  | 21, _, h => g_405 i h h0
  | 22, _, h => g_406 i h h0
  | 23, _, h => g_407 i h h0
  | 24, _, h => g_408 i h h0
  | 25, _, h => g_409 i h h0
  | 26, _, h => g_410 i h h0
  | 27, _, h => g_411 i h h0
  | 28, _, h => g_412 i h h0
  | 29, _, h => g_413 i h h0
  | 30, _, h => g_414 i h h0
  | 31, _, h => g_415 i h h0
  | 32, _, h => g_416 i h h0
  | 33, _, h => g_417 i h h0
  | 34, _, h => g_418 i h h0
  | 35, _, h => g_419 i h h0
  | 36, _, h => g_420 i h h0
  | 37, _, h => g_421 i h h0
  | 38, _, h => g_422 i h h0
  | 39, _, h => g_423 i h h0
  | 40, _, h => g_424 i h h0
  | 41, _, h => g_425 i h h0
  | 42, _, h => g_426 i h h0
  | 43, _, h => g_427 i h h0
  | 44, _, h => g_428 i h h0
  | 45, _, h => g_429 i h h0
  | 46, _, h => g_430 i h h0
  | 47, _, h => g_431 i h h0
  | 48, _, h => g_432 i h h0
  | 49, _, h => g_433 i h h0
  | 50, _, h => g_434 i h h0
  | 51, _, h => g_435 i h h0
  | 52, _, h => g_436 i h h0
  | 53, _, h => g_437 i h h0
  | 54, _, h => g_438 i h h0
  | 55, _, h => g_439 i h h0
  | 56, _, h => g_440 i h h0
  | 57, _, h => g_441 i h h0
  | 58, _, h => g_442 i h h0
  | 59, _, h => g_443 i h h0
  | 60, _, h => g_444 i h h0
  | 61, _, h => g_445 i h h0
  | 62, _, h => g_446 i h h0
  | 63, _, h => g_447 i h h0
  | 64, _, h => g_448 i h h0
  | 65, _, h => g_449 i h h0
  | 66, _, h => g_450 i h h0
  | 67, _, h => g_451 i h h0
  | 68, _, h => g_452 i h h0
  | 69, _, h => g_453 i h h0
  | 70, _, h => g_454 i h h0
  | 71, _, h => g_455 i h h0
  | 72, _, h => g_456 i h h0
  | 73, _, h => g_457 i h h0
  | 74, _, h => g_458 i h h0
  | 75, _, h => g_459 i h h0
  | 76, _, h => g_460 i h h0
  | 77, _, h => g_461 i h h0
  | 78, _, h => g_462 i h h0
  | 79, _, h => g_463 i h h0
  | 80, _, h => g_464 i h h0
  | 81, _, h => g_465 i h h0
  | 82, _, h => g_466 i h h0
  | 83, _, h => g_467 i h h0
  | 84, _, h => g_468 i h h0
  | 85, _, h => g_469 i h h0
  | 86, _, h => g_470 i h h0
  | 87, _, h => g_471 i h h0
  | 88, _, h => g_472 i h h0
  | 89, _, h => g_473 i h h0
  | 90, _, h => g_474 i h h0
  | 91, _, h => g_475 i h h0
  | 92, _, h => g_476 i h h0
  | 93, _, h => g_477 i h h0
  | 94, _, h => g_478 i h h0
  | 95, _, h => g_479 i h h0
  | 96, _, h => g_480 i h h0
  | 97, _, h => g_481 i h h0
  | 98, _, h => g_482 i h h0
  | 99, _, h => g_483 i h h0
  | 100, _, h => g_484 i h h0
  | 101, _, h => g_485 i h h0
  | 102, _, h => g_486 i h h0
  | 103, _, h => g_487 i h h0
  | 104, _, h => g_488 i h h0
  | 105, _, h => g_489 i h h0
  | 106, _, h => g_490 i h h0
  | 107, _, h => g_491 i h h0
  | 108, _, h => g_492 i h h0
  | 109, _, h => g_493 i h h0
  | 110, _, h => g_494 i h h0
  | 111, _, h => g_495 i h h0
  | 112, _, h => g_496 i h h0
  | 113, _, h => g_497 i h h0
  | 114, _, h => g_498 i h h0
  | 115, _, h => g_499 i h h0
  | 116, _, h => g_500 i h h0
  | 117, _, h => g_501 i h h0
  | 118, _, h => g_502 i h h0
  | 119, _, h => g_503 i h h0
  | 120, _, h => g_504 i h h0
  | 121, _, h => g_505 i h h0
  | 122, _, h => g_506 i h h0
  | 123, _, h => g_507 i h h0
  | 124, _, h => g_508 i h h0
  | 125, _, h => g_509 i h h0
  | 126, _, h => g_510 i h h0
  | 127, _, h => g_511 i h h0
  | n + 128, hn, _ => absurd hn (by omega)

/-- The table's words. -/
theorem word_at (i : ℕ) (hi : i < 65536) : lit0t i = w (i % 256) (i / 256) := by
  have hq : i / 128 % 128 < 128 := Nat.mod_lt _ (by decide)
  have hk : i / 16384 < 4 := by omega
  unfold lit0t
  match hk' : i / 16384, hk with
  | 0, _ => exact u_0 i hk' _ hq rfl
  | 1, _ => exact u_1 i hk' _ hq rfl
  | 2, _ => exact u_2 i hk' _ hq rfl
  | 3, _ => exact u_3 i hk' _ hq rfl
  | n + 4, h => exact absurd h (by omega)

/-- The table's words, by row and column. -/
theorem word (j k : Fin 256) : lit0t (256 * j.val + k.val) = if k.val ≤ j.val then 0xBF80#16 else 0x8000#16 := by
  have hj := j.isLt
  have hk := k.isLt
  rw [word_at _ (by omega), show (256 * j.val + k.val) % 256 = k.val by omega, show (256 * j.val + k.val) / 256 = j.val by omega]
  rfl

/-- Minus one, -/
theorem minus_one : Ideal.ofBits .bf16 0xBF80#16 = -1 := by
  rw [Ideal.ofBits_neg_one_bf16]
  simp

/-- and minus zero, as extended reals. -/
theorem minus_zero : Ideal.ofBits .bf16 0x8000#16 = 0 := by
  simp [Ideal.ofBits, Ideal.ieee, -EReal.coe_mul]

/-- The table as the program writes it, at an index. -/
theorem entry (j k : Fin 256) : Ideal.ofBits .bf16 (lit0 (S256x256.rowMajor (ix2 j k))) = if k.val ≤ j.val then -1 else 0 := by
  have hw := word j k
  have e : (S256x256.rowMajor (ix2 j k)).val = 256 * j.val + k.val :=
    (Shape.rowMajor_val_two _).trans (by show j.val * 256 + k.val = _; omega)
  have hl : lit0 (S256x256.rowMajor (ix2 j k)) = lit0t (S256x256.rowMajor (ix2 j k)).val := rfl
  rw [hl, e, hw]
  split
  · exact minus_one
  · exact minus_zero

end Cert.Layer.SbTable

end
-- ==== Proof.SbLoop.lean ====
/-
  The ten `scf.while` loops of `_sb_attention`: what one trip of a loop computes on its slice of the two scratch buffers
  (`stepA`, `stepC`), what a number of trips leaves there (`run`), and per loop the theorem that its label meets the
  specification "from `n` trips to go, hand the buffers back after them".
-/
module

public import proofs.«01_k».proof.Proof.Gen.Kernel8Ideal.Launch
public import proofs.«01_k».proof.Proof.Gen.Kernel8Ideal.Points
public import proofs.«01_k».proof.Proof.Gen.Kernel8Ideal.Skeleton
public import Idealize.ShloMosaic.Lib.Tactic
public import Idealize.ShloMosaic.Lib.Pipeline.FrameBody
public import Idealize.ShloMosaic.Lib.Pipeline.ValueKit

@[expose] public section

set_option maxRecDepth 4000

noncomputable section

namespace Cert.Proof.Sb

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (URounds (GSem nD τ sig) Unit) ℕ

/-- The variants the loops' labels are entered at: the number of trips to go. -/
abbrev 𝒱₀ : Variants := Variants.nat

/-! ### One trip, and a number of trips, on the values -/

/-- The accumulator's slice after one trip. -/
def stepA (tab : Vec F S256x256 .bf16) (q k v : Vec F S256x128 .bf16) (cr ac : Vec F S256x128 .f32) : Vec F S256x128 .f32 :=
  k0_pay2 (k0_pay137 tab q k v cr ac)

/-- The carry's slice after one trip. -/
def stepC (tab : Vec F S256x256 .bf16) (q k : Vec F S256x128 .bf16) (cr : Vec F S256x128 .f32) : Vec F S256x128 .f32 :=
  k0_pay138 tab q k cr

/-- The largest entry of a carry's slice, what the loop's test compares. -/
def top (cr : Vec F S256x128 .f32) : F .f32 := k0_pay3 cr

/-- The loop's test on the largest entry of the carry. -/
def go (x : F .f32) : Prop := Scalar.cmpf .ogt x (Named.named κ "neg_inf" 0xC2D20000#32) = 1#1

instance (x : F .f32) : Decidable (go x) := by unfold go; infer_instance

/-- Carry and accumulator after the trips of a loop with `n` tiles to go (tiles `n - 1`, …, `0`), left as soon as the
    test on the largest carry fails. -/
def run (tab : Vec F S256x256 .bf16) (q : Vec F S256x128 .bf16) (K V : ℕ → Vec F S256x128 .bf16) :
    ℕ → F .f32 → Vec F S256x128 .f32 → Vec F S256x128 .f32 → Vec F S256x128 .f32 × Vec F S256x128 .f32
  | 0, _, cr, ac => (cr, ac)
  | n + 1, x, cr, ac => if go x then run tab q K V n (top (stepC tab q (K n) cr)) (stepC tab q (K n) cr) (stepA tab q (K n) (V n) cr ac)
      else (cr, ac)

/-- Tile `n` of the keys (or values) of head `hd` of the two: rows `256 n …`, columns `128 hd …`. -/
def tile (hd : ℕ) (x : Vec F S16640x256 .bf16) (n : ℕ) : Vec F S256x128 .bf16 := fun y =>
  x (ix2 (⟨(256 * n + (y 0).val) % 16640, Nat.mod_lt _ (by decide)⟩ : Fin 16640) (⟨(128 * hd + (y 1).val) % 256, Nat.mod_lt _ (by decide)⟩ : Fin 256))

/-- The tile read at a pair of offsets inside the array. -/
theorem readAt_tile {sp : Space} (M : View sig .tc sp S16640x256 .bf16) (f : M.ty.Contents (Elt F)) (hd n : ℕ) (off : Fin 2 → ℕ)
    (inb : ∀ a, off a + S256x128.size a ≤ S16640x256.size a) (h : off = ![256 * n, 128 * hd]) :
    M.readAt (Elt F) (Rect.unit (s := S16640x256) off S256x128.size inb).toLoadRect f = tile hd (M.read (Elt F) f) n := by
  subst h
  have h0 : 256 * n + 256 ≤ 16640 := inb 0
  have h1 : 128 * hd + 128 ≤ 256 := inb 1
  funext y
  have y0 : (y 0).val < 256 := (y 0).isLt
  have y1 : (y 1).val < 128 := (y 1).isLt
  show M.read (Elt F) f _ = M.read (Elt F) f _
  refine congrArg _ (funext fun a => Fin.ext ?_)
  fin_cases a
  · show 256 * n + 1 * (y 0).val = (256 * n + (y 0).val) % 16640
    omega
  · show 128 * hd + 1 * (y 1).val = (128 * hd + (y 1).val) % 256
    omega

/-! ### One trip, and a number of trips, on the two scratch buffers -/

section Buf

variable (M7 : View sig .tc .vmem S1280x256 .f32) (M8 : View sig .tc .vmem S2560x128 .f32)
  (o7 o8 : Fin 2 → ℕ) (h7 : ∀ a, o7 a + S256x128.size a ≤ S1280x256.size a) (h8 : ∀ a, o8 a + S256x128.size a ≤ S2560x128.size a)

/-- A slice of the accumulator read. -/
abbrev get7 (f : M7.ty.Contents (Elt F)) : Vec F S256x128 .f32 :=
  M7.readAt (Elt F) (Rect.unit (s := S1280x256) o7 S256x128.size h7).toLoadRect f
/-- A slice of the carry read. -/
abbrev get8 (f : M8.ty.Contents (Elt F)) : Vec F S256x128 .f32 :=
  M8.readAt (Elt F) (Rect.unit (s := S2560x128) o8 S256x128.size h8).toLoadRect f
/-- A slice of the accumulator written. -/
abbrev put7 (f : M7.ty.Contents (Elt F)) (w : Vec F S256x128 .f32) : M7.ty.Contents (Elt F) :=
  (M7.slice (Rect.unit (s := S1280x256) o7 S256x128.size h7)).write (Elt F) f w Finset.univ
/-- A slice of the carry written. -/
abbrev put8 (f : M8.ty.Contents (Elt F)) (w : Vec F S256x128 .f32) : M8.ty.Contents (Elt F) :=
  (M8.slice (Rect.unit (s := S2560x128) o8 S256x128.size h8)).write (Elt F) f w Finset.univ

/-- The two scratch buffers after the trips of a loop with `n` tiles to go. -/
def loopBuf (tab : Vec F S256x256 .bf16) (q : Vec F S256x128 .bf16) (K V : ℕ → Vec F S256x128 .bf16) :
    ℕ → F .f32 → M7.ty.Contents (Elt F) → M8.ty.Contents (Elt F) → M7.ty.Contents (Elt F) × M8.ty.Contents (Elt F)
  | 0, _, f7, f8 => (f7, f8)
  | n + 1, x, f7, f8 => if go x then
      loopBuf tab q K V n (top (get8 M8 o8 h8 (put8 M8 o8 h8 f8 (stepC tab q (K n) (get8 M8 o8 h8 f8)))))
        (put7 M7 o7 h7 f7 (stepA tab q (K n) (V n) (get8 M8 o8 h8 f8) (get7 M7 o7 h7 f7)))
        (put8 M8 o8 h8 f8 (stepC tab q (K n) (get8 M8 o8 h8 f8)))
      else (f7, f8)

/-- What was written to the carry's slice is read back. -/
theorem get8_put8 (f : M8.ty.Contents (Elt F)) (w : Vec F S256x128 .f32) : get8 M8 o8 h8 (put8 M8 o8 h8 f w) = w :=
  View.read_write_univ (v := M8.slice (Rect.unit (s := S2560x128) o8 S256x128.size h8)) f w
/-- What was written to the accumulator's slice is read back. -/
theorem get7_put7 (f : M7.ty.Contents (Elt F)) (w : Vec F S256x128 .f32) : get7 M7 o7 h7 (put7 M7 o7 h7 f w) = w :=
  View.read_write_univ (v := M7.slice (Rect.unit (s := S1280x256) o7 S256x128.size h7)) f w

/-- The loop's own slices after its trips: `run` of what they held. -/
theorem loopBuf_self (tab : Vec F S256x256 .bf16) (q : Vec F S256x128 .bf16) (K V : ℕ → Vec F S256x128 .bf16) (n : ℕ) :
    ∀ (x : F .f32) (f7 : M7.ty.Contents (Elt F)) (f8 : M8.ty.Contents (Elt F)),
      get8 M8 o8 h8 (loopBuf M7 M8 o7 o8 h7 h8 tab q K V n x f7 f8).2 = (run tab q K V n x (get8 M8 o8 h8 f8) (get7 M7 o7 h7 f7)).1
      ∧ get7 M7 o7 h7 (loopBuf M7 M8 o7 o8 h7 h8 tab q K V n x f7 f8).1 = (run tab q K V n x (get8 M8 o8 h8 f8) (get7 M7 o7 h7 f7)).2 := by
  induction n with
  | zero => intro x f7 f8; exact ⟨rfl, rfl⟩
  | succ n ih =>
    intro x f7 f8
    unfold loopBuf run
    by_cases h : go x
    · simp only [if_pos h]
      have := ih (top (get8 M8 o8 h8 (put8 M8 o8 h8 f8 (stepC tab q (K n) (get8 M8 o8 h8 f8)))))
        (put7 M7 o7 h7 f7 (stepA tab q (K n) (V n) (get8 M8 o8 h8 f8) (get7 M7 o7 h7 f7)))
        (put8 M8 o8 h8 f8 (stepC tab q (K n) (get8 M8 o8 h8 f8)))
      rw [get8_put8, get7_put7] at this
      rw [get8_put8]
      exact this
    · simp only [if_neg h]
      exact ⟨trivial, trivial⟩

/-- Another slice's elements after its trips are what they were: of the accumulator … -/
theorem loopBuf_other7 (tab : Vec F S256x256 .bf16) (q : Vec F S256x128 .bf16) (K V : ℕ → Vec F S256x128 .bf16) (p7 : Fin 2 → ℕ)
    (g7 : ∀ a, p7 a + S256x128.size a ≤ S1280x256.size a)
    (hd : ∃ a, p7 a + S256x128.size a ≤ o7 a ∨ o7 a + S256x128.size a ≤ p7 a) (n : ℕ) :
    ∀ (x : F .f32) (f7 : M7.ty.Contents (Elt F)) (f8 : M8.ty.Contents (Elt F)),
      get7 M7 p7 g7 (loopBuf M7 M8 o7 o8 h7 h8 tab q K V n x f7 f8).1 = get7 M7 p7 g7 f7 := by
  induction n with
  | zero => intro x f7 f8; rfl
  | succ n ih =>
    intro x f7 f8
    unfold loopBuf
    by_cases h : go x
    · simp only [if_pos h]
      rw [ih]
      refine funext fun y => View.read_slice_write_of_not_mem _ _ _ _ fun hm => ?_
      obtain ⟨z, -, hz⟩ := Finset.mem_map.mp hm
      obtain ⟨a, ha⟩ := hd
      have e : o7 a + 1 * (z a).val = p7 a + 1 * (y a).val := congrArg (fun t : S1280x256.Idx => (t a).val) hz
      have z1 : (z a).val < S256x128.size a := (z a).isLt
      have y1 : (y a).val < S256x128.size a := (y a).isLt
      omega
    · simp only [if_neg h]

/-- … and of the carry. -/
theorem loopBuf_other8 (tab : Vec F S256x256 .bf16) (q : Vec F S256x128 .bf16) (K V : ℕ → Vec F S256x128 .bf16) (p8 : Fin 2 → ℕ)
    (g8 : ∀ a, p8 a + S256x128.size a ≤ S2560x128.size a)
    (hd : ∃ a, p8 a + S256x128.size a ≤ o8 a ∨ o8 a + S256x128.size a ≤ p8 a) (n : ℕ) :
    ∀ (x : F .f32) (f7 : M7.ty.Contents (Elt F)) (f8 : M8.ty.Contents (Elt F)),
      get8 M8 p8 g8 (loopBuf M7 M8 o7 o8 h7 h8 tab q K V n x f7 f8).2 = get8 M8 p8 g8 f8 := by
  induction n with
  | zero => intro x f7 f8; rfl
  | succ n ih =>
    intro x f7 f8
    unfold loopBuf
    by_cases h : go x
    · simp only [if_pos h]
      rw [ih]
      refine funext fun y => View.read_slice_write_of_not_mem _ _ _ _ fun hm => ?_
      obtain ⟨z, -, hz⟩ := Finset.mem_map.mp hm
      obtain ⟨a, ha⟩ := hd
      have e : o8 a + 1 * (z a).val = p8 a + 1 * (y a).val := congrArg (fun t : S2560x128.Idx => (t a).val) hz
      have z1 : (z a).val < S256x128.size a := (z a).isLt
      have y1 : (y a).val < S256x128.size a := (y a).isLt
      omega
    · simp only [if_neg h]

end Buf

/-! ### The counter -/

/-- The loop's counter with `n` tiles to go: the word of `n - 1`, or a negative word when there is none. -/
def Counts (n : ℕ) (j : BitVec 32) : Prop :=
  (n = 0 → Scalar.cmpi .sge j 0#32 = 0#1) ∧ (0 < n → n ≤ 64 ∧ j = BitVec.ofNat 32 (n - 1))

/-- With a trip to go the counter is at least zero. -/
theorem counts_pos : ∀ n : Fin 64, Scalar.cmpi .sge (BitVec.ofNat 32 n.val) 0#32 = 1#1 := by decide +kernel

/-- A trip takes the counter one down. -/
theorem counts_pred (n : ℕ) (h : n < 64) : Counts n (Scalar.subi (BitVec.ofNat 32 n) 1#32) := by
  have key : ∀ n : Fin 64, (n.val = 0 → Scalar.cmpi .sge (Scalar.subi (BitVec.ofNat 32 n.val) 1#32) 0#32 = 0#1)
      ∧ (0 < n.val → n.val ≤ 64 ∧ Scalar.subi (BitVec.ofNat 32 n.val) 1#32 = BitVec.ofNat 32 (n.val - 1)) := by decide +kernel
  exact key ⟨n, h⟩

/-- A conjunction with true is the other test. -/
theorem andi_one_left (b : BitVec 1) : (Scalar.andi (1#1) b = 1#1) ↔ b = 1#1 := by revert b; decide
/-- A conjunction with false fails. -/
theorem andi_zero_left (b : BitVec 1) : ¬ Scalar.andi (0#1) b = 1#1 := by revert b; decide

/-! ### The labels -/

section Label

variable (c : Dev nD) (i : grid0.Coords)
  (arg2 : Memref sig .tc .vmem S1280x256 .bf16) (harg2 : arg2.IsWhole) (arg3 : Memref sig .tc .vmem S16640x256 .bf16) (harg3 : arg3.IsWhole)
  (arg4 : Memref sig .tc .vmem S16640x256 .bf16) (harg4 : arg4.IsWhole) (arg7 : Memref sig .tc .vmem S1280x256 .f32) (harg7 : arg7.IsWhole)
  (arg8 : Memref sig .tc .vmem S2560x128 .f32) (harg8 : arg8.IsWhole)
  (f2 : arg2.view.ty.Contents (Elt F)) (f3 : arg3.view.ty.Contents (Elt F)) (f4 : arg4.view.ty.Contents (Elt F))

/-- The five buffers a loop reads and writes, held whole. -/
def held (f7 : arg7.view.ty.Contents (Elt F)) (f8 : arg8.view.ty.Contents (Elt F)) : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4) ∗ (arg7.view.loc (c : Thread nD τ) ↦[arg7.view.set]{fullShare} f7)
    ∗ (arg8.view.loc (c : Thread nD τ) ↦[arg8.view.set]{fullShare} f8))

/-- A loop's specification: holding the buffers it returns some counter and largest carry, the inputs as they were and the
    two scratch buffers at `g`. -/
def spec (f7 : arg7.view.ty.Contents (Elt F)) (f8 : arg8.view.ty.Contents (Elt F))
    (g : arg7.view.ty.Contents (Elt F) × arg8.view.ty.Contents (Elt F)) : sWPT 𝕄 (BitVec 32 × F .f32) := do
  sWPT.consume (held c arg2 arg3 arg4 arg7 arg8 f2 f3 f4 f7 f8)
  let r ← sWPT.arbitrary
  sWPT.produce (held c arg2 arg3 arg4 arg7 arg8 f2 f3 f4 g.1 g.2)
  pure r

/-- The specification, written out. -/
theorem spec_apply (f7 : arg7.view.ty.Contents (Elt F)) (f8 : arg8.view.ty.Contents (Elt F))
    (g : arg7.view.ty.Contents (Elt F) × arg8.view.ty.Contents (Elt F)) (K : BitVec 32 × F .f32 → sProp 𝕄) :
    spec c arg2 arg3 arg4 arg7 arg8 f2 f3 f4 f7 f8 g K
      = iprop(held c arg2 arg3 arg4 arg7 arg8 f2 f3 f4 f7 f8
        ∗ ∀ r : BitVec 32 × F .f32, (held c arg2 arg3 arg4 arg7 arg8 f2 f3 f4 g.1 g.2 -∗ K r)) := rfl

/-! #### Loop 1: rows 0 … of head 0 -/

/-- The loop's tile number `n` is inside the keys, at row `256 n`. -/
theorem chk1 : ∀ n : Fin 65, k0_chk1 (BitVec.ofNat 32 n.val) ∧ ∀ a, k0_off5 (BitVec.ofNat 32 n.val) a = (![256 * n.val, 0] : Fin 2 → ℕ) a := by
  decide +kernel

/-- What loop 1 leaves in the scratch buffers from `n` tiles to go. -/
abbrev after1 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![0, 0] ![0, 0] inb_S1280x256_S256x128_0_0 inb_S2560x128_S256x128_0_0 tab (arg2.view.readAt (Elt F) (Rect.unit (s := S1280x256) ![0, 0] S256x128.size inb_S1280x256_S256x128_0_0).toLoadRect f2) (tile 0 (arg3.view.read (Elt F) f3)) (tile 0 (arg4.view.read (Elt F) f4)) n x f7 f8

/-- Loop 1's label meets its specification, by induction on the tiles to go. -/
theorem spec_le1 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after1 arg2 arg3 arg4 arg7 arg8 f2 f3 f4 tab n x f7 f8) K
      ⊢ wp frame (wpE (defs₀ (F := F)) 𝒱₀ (c : Thread nD τ) (some n)) E
          (defs₀ (F := F) .tc (1 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while1 i arg2 harg2 arg3 harg3 arg4 harg4 arg8 harg8 arg7 harg7 tab j x) K
    simp only [cc0_while1_eq_skeleton]; unfold cc0_while1_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk1 ⟨n, by omega⟩
    have hoff : k0_off5 (BitVec.ofNat 32 n) = ![256 * n, 128 * 0] := funext hck.2
    rw [spec_apply]
    show _ ⊢ wp frame (wpE (defs₀ (F := F)) 𝒱₀ (c : Thread nD τ) (some (n + 1))) E
      (cc0_while1 i arg2 harg2 arg3 harg3 arg4 harg4 arg8 harg8 arg7 harg7 tab (BitVec.ofNat 32 n) x) K
    simp only [cc0_while1_eq_skeleton]; unfold cc0_while1_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part22_eq_skeleton]
      unfold k0_part22_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![0, 0] S256x128.size inb_S2560x128_S256x128_0_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![0, 0] S256x128.size inb_S1280x256_S256x128_0_0) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 0 n _ _ hoff, readAt_tile arg4.view f4 0 n _ _ hoff]
      have e : after1 arg2 arg3 arg4 arg7 arg8 f2 f3 f4 tab (n + 1) x f7 f8 = after1 arg2 arg3 arg4 arg7 arg8 f2 f3 f4 tab n (top (get8 arg8.view ![0, 0] inb_S2560x128_S256x128_0_0 (put8 arg8.view ![0, 0] inb_S2560x128_S256x128_0_0 f8 (stepC tab (arg2.view.readAt (Elt F) (Rect.unit (s := S1280x256) ![0, 0] S256x128.size inb_S1280x256_S256x128_0_0).toLoadRect f2) ((tile 0 (arg3.view.read (Elt F) f3)) n) (get8 arg8.view ![0, 0] inb_S2560x128_S256x128_0_0 f8))))) (put7 arg7.view ![0, 0] inb_S1280x256_S256x128_0_0 f7 (stepA tab (arg2.view.readAt (Elt F) (Rect.unit (s := S1280x256) ![0, 0] S256x128.size inb_S1280x256_S256x128_0_0).toLoadRect f2) ((tile 0 (arg3.view.read (Elt F) f3)) n) ((tile 0 (arg4.view.read (Elt F) f4)) n) (get8 arg8.view ![0, 0] inb_S2560x128_S256x128_0_0 f8) (get7 arg7.view ![0, 0] inb_S1280x256_S256x128_0_0 f7))) (put8 arg8.view ![0, 0] inb_S2560x128_S256x128_0_0 f8 (stepC tab (arg2.view.readAt (Elt F) (Rect.unit (s := S1280x256) ![0, 0] S256x128.size inb_S1280x256_S256x128_0_0).toLoadRect f2) ((tile 0 (arg3.view.read (Elt F) f3)) n) (get8 arg8.view ![0, 0] inb_S2560x128_S256x128_0_0 f8))) := by
        unfold after1; rw [loopBuf, if_pos hg]
      rw [e]
      iapply (wp_call_spec 𝒱₀ (c : Thread nD τ) (some (n + 1)) E (spec c arg2 arg3 arg4 arg7 arg8 f2 f3 f4 (put7 arg7.view ![0, 0] inb_S1280x256_S256x128_0_0 f7 (stepA tab (arg2.view.readAt (Elt F) (Rect.unit (s := S1280x256) ![0, 0] S256x128.size inb_S1280x256_S256x128_0_0).toLoadRect f2) ((tile 0 (arg3.view.read (Elt F) f3)) n) ((tile 0 (arg4.view.read (Elt F) f4)) n) (get8 arg8.view ![0, 0] inb_S2560x128_S256x128_0_0 f8) (get7 arg7.view ![0, 0] inb_S1280x256_S256x128_0_0 f7))) (put8 arg8.view ![0, 0] inb_S2560x128_S256x128_0_0 f8 (stepC tab (arg2.view.readAt (Elt F) (Rect.unit (s := S1280x256) ![0, 0] S256x128.size inb_S1280x256_S256x128_0_0).toLoadRect f2) ((tile 0 (arg3.view.read (Elt F) f3)) n) (get8 arg8.view ![0, 0] inb_S2560x128_S256x128_0_0 f8))) (after1 arg2 arg3 arg4 arg7 arg8 f2 f3 f4 tab n (top (get8 arg8.view ![0, 0] inb_S2560x128_S256x128_0_0 (put8 arg8.view ![0, 0] inb_S2560x128_S256x128_0_0 f8 (stepC tab (arg2.view.readAt (Elt F) (Rect.unit (s := S1280x256) ![0, 0] S256x128.size inb_S1280x256_S256x128_0_0).toLoadRect f2) ((tile 0 (arg3.view.read (Elt F) f3)) n) (get8 arg8.view ![0, 0] inb_S2560x128_S256x128_0_0 f8))))) (put7 arg7.view ![0, 0] inb_S1280x256_S256x128_0_0 f7 (stepA tab (arg2.view.readAt (Elt F) (Rect.unit (s := S1280x256) ![0, 0] S256x128.size inb_S1280x256_S256x128_0_0).toLoadRect f2) ((tile 0 (arg3.view.read (Elt F) f3)) n) ((tile 0 (arg4.view.read (Elt F) f4)) n) (get8 arg8.view ![0, 0] inb_S2560x128_S256x128_0_0 f8) (get7 arg7.view ![0, 0] inb_S1280x256_S256x128_0_0 f7))) (put8 arg8.view ![0, 0] inb_S2560x128_S256x128_0_0 f8 (stepC tab (arg2.view.readAt (Elt F) (Rect.unit (s := S1280x256) ![0, 0] S256x128.size inb_S1280x256_S256x128_0_0).toLoadRect f2) ((tile 0 (arg3.view.read (Elt F) f3)) n) (get8 arg8.view ![0, 0] inb_S2560x128_S256x128_0_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after1 arg2 arg3 arg4 arg7 arg8 f2 f3 f4 tab (n + 1) x f7 f8 = (f7, f8) := by
        unfold after1; rw [loopBuf, if_neg hg]
      rw [e]
      iintro ⟨H, Hk⟩
      rw [wp_ret]; imodintro
      iapply Hk
      iexact H

/-! #### Loop 2: rows 256 … of head 0 -/

/-- The loop's tile number `n` is inside the keys, at row `256 n`. -/
theorem chk2 : ∀ n : Fin 65, k0_chk2 (BitVec.ofNat 32 n.val) ∧ ∀ a, k0_off6 (BitVec.ofNat 32 n.val) a = (![256 * n.val, 0] : Fin 2 → ℕ) a := by
  decide +kernel

/-- What loop 2 leaves in the scratch buffers from `n` tiles to go. -/
abbrev after2 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![256, 0] ![256, 0] inb_S1280x256_S256x128_256_0 inb_S2560x128_S256x128_256_0 tab (arg2.view.readAt (Elt F) (Rect.unit (s := S1280x256) ![256, 0] S256x128.size inb_S1280x256_S256x128_256_0).toLoadRect f2) (tile 0 (arg3.view.read (Elt F) f3)) (tile 0 (arg4.view.read (Elt F) f4)) n x f7 f8

/-- Loop 2's label meets its specification, by induction on the tiles to go. -/
theorem spec_le2 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after2 arg2 arg3 arg4 arg7 arg8 f2 f3 f4 tab n x f7 f8) K
      ⊢ wp frame (wpE (defs₀ (F := F)) 𝒱₀ (c : Thread nD τ) (some n)) E
          (defs₀ (F := F) .tc (2 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while2 i arg2 harg2 arg3 harg3 arg4 harg4 arg8 harg8 arg7 harg7 tab j x) K
    simp only [cc0_while2_eq_skeleton]; unfold cc0_while2_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk2 ⟨n, by omega⟩
    have hoff : k0_off6 (BitVec.ofNat 32 n) = ![256 * n, 128 * 0] := funext hck.2
    rw [spec_apply]
    show _ ⊢ wp frame (wpE (defs₀ (F := F)) 𝒱₀ (c : Thread nD τ) (some (n + 1))) E
      (cc0_while2 i arg2 harg2 arg3 harg3 arg4 harg4 arg8 harg8 arg7 harg7 tab (BitVec.ofNat 32 n) x) K
    simp only [cc0_while2_eq_skeleton]; unfold cc0_while2_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part23_eq_skeleton]
      unfold k0_part23_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![256, 0] S256x128.size inb_S2560x128_S256x128_256_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![256, 0] S256x128.size inb_S1280x256_S256x128_256_0) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 0 n _ _ hoff, readAt_tile arg4.view f4 0 n _ _ hoff]
      have e : after2 arg2 arg3 arg4 arg7 arg8 f2 f3 f4 tab (n + 1) x f7 f8 = after2 arg2 arg3 arg4 arg7 arg8 f2 f3 f4 tab n (top (get8 arg8.view ![256, 0] inb_S2560x128_S256x128_256_0 (put8 arg8.view ![256, 0] inb_S2560x128_S256x128_256_0 f8 (stepC tab (arg2.view.readAt (Elt F) (Rect.unit (s := S1280x256) ![256, 0] S256x128.size inb_S1280x256_S256x128_256_0).toLoadRect f2) ((tile 0 (arg3.view.read (Elt F) f3)) n) (get8 arg8.view ![256, 0] inb_S2560x128_S256x128_256_0 f8))))) (put7 arg7.view ![256, 0] inb_S1280x256_S256x128_256_0 f7 (stepA tab (arg2.view.readAt (Elt F) (Rect.unit (s := S1280x256) ![256, 0] S256x128.size inb_S1280x256_S256x128_256_0).toLoadRect f2) ((tile 0 (arg3.view.read (Elt F) f3)) n) ((tile 0 (arg4.view.read (Elt F) f4)) n) (get8 arg8.view ![256, 0] inb_S2560x128_S256x128_256_0 f8) (get7 arg7.view ![256, 0] inb_S1280x256_S256x128_256_0 f7))) (put8 arg8.view ![256, 0] inb_S2560x128_S256x128_256_0 f8 (stepC tab (arg2.view.readAt (Elt F) (Rect.unit (s := S1280x256) ![256, 0] S256x128.size inb_S1280x256_S256x128_256_0).toLoadRect f2) ((tile 0 (arg3.view.read (Elt F) f3)) n) (get8 arg8.view ![256, 0] inb_S2560x128_S256x128_256_0 f8))) := by
        unfold after2; rw [loopBuf, if_pos hg]
      rw [e]
      iapply (wp_call_spec 𝒱₀ (c : Thread nD τ) (some (n + 1)) E (spec c arg2 arg3 arg4 arg7 arg8 f2 f3 f4 (put7 arg7.view ![256, 0] inb_S1280x256_S256x128_256_0 f7 (stepA tab (arg2.view.readAt (Elt F) (Rect.unit (s := S1280x256) ![256, 0] S256x128.size inb_S1280x256_S256x128_256_0).toLoadRect f2) ((tile 0 (arg3.view.read (Elt F) f3)) n) ((tile 0 (arg4.view.read (Elt F) f4)) n) (get8 arg8.view ![256, 0] inb_S2560x128_S256x128_256_0 f8) (get7 arg7.view ![256, 0] inb_S1280x256_S256x128_256_0 f7))) (put8 arg8.view ![256, 0] inb_S2560x128_S256x128_256_0 f8 (stepC tab (arg2.view.readAt (Elt F) (Rect.unit (s := S1280x256) ![256, 0] S256x128.size inb_S1280x256_S256x128_256_0).toLoadRect f2) ((tile 0 (arg3.view.read (Elt F) f3)) n) (get8 arg8.view ![256, 0] inb_S2560x128_S256x128_256_0 f8))) (after2 arg2 arg3 arg4 arg7 arg8 f2 f3 f4 tab n (top (get8 arg8.view ![256, 0] inb_S2560x128_S256x128_256_0 (put8 arg8.view ![256, 0] inb_S2560x128_S256x128_256_0 f8 (stepC tab (arg2.view.readAt (Elt F) (Rect.unit (s := S1280x256) ![256, 0] S256x128.size inb_S1280x256_S256x128_256_0).toLoadRect f2) ((tile 0 (arg3.view.read (Elt F) f3)) n) (get8 arg8.view ![256, 0] inb_S2560x128_S256x128_256_0 f8))))) (put7 arg7.view ![256, 0] inb_S1280x256_S256x128_256_0 f7 (stepA tab (arg2.view.readAt (Elt F) (Rect.unit (s := S1280x256) ![256, 0] S256x128.size inb_S1280x256_S256x128_256_0).toLoadRect f2) ((tile 0 (arg3.view.read (Elt F) f3)) n) ((tile 0 (arg4.view.read (Elt F) f4)) n) (get8 arg8.view ![256, 0] inb_S2560x128_S256x128_256_0 f8) (get7 arg7.view ![256, 0] inb_S1280x256_S256x128_256_0 f7))) (put8 arg8.view ![256, 0] inb_S2560x128_S256x128_256_0 f8 (stepC tab (arg2.view.readAt (Elt F) (Rect.unit (s := S1280x256) ![256, 0] S256x128.size inb_S1280x256_S256x128_256_0).toLoadRect f2) ((tile 0 (arg3.view.read (Elt F) f3)) n) (get8 arg8.view ![256, 0] inb_S2560x128_S256x128_256_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after2 arg2 arg3 arg4 arg7 arg8 f2 f3 f4 tab (n + 1) x f7 f8 = (f7, f8) := by
        unfold after2; rw [loopBuf, if_neg hg]
      rw [e]
      iintro ⟨H, Hk⟩
      rw [wp_ret]; imodintro
      iapply Hk
      iexact H

/-! #### Loop 3: rows 512 … of head 0 -/

/-- The loop's tile number `n` is inside the keys, at row `256 n`. -/
theorem chk3 : ∀ n : Fin 65, k0_chk3 (BitVec.ofNat 32 n.val) ∧ ∀ a, k0_off7 (BitVec.ofNat 32 n.val) a = (![256 * n.val, 0] : Fin 2 → ℕ) a := by
  decide +kernel

/-- What loop 3 leaves in the scratch buffers from `n` tiles to go. -/
abbrev after3 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![512, 0] ![512, 0] inb_S1280x256_S256x128_512_0 inb_S2560x128_S256x128_512_0 tab (arg2.view.readAt (Elt F) (Rect.unit (s := S1280x256) ![512, 0] S256x128.size inb_S1280x256_S256x128_512_0).toLoadRect f2) (tile 0 (arg3.view.read (Elt F) f3)) (tile 0 (arg4.view.read (Elt F) f4)) n x f7 f8

/-- Loop 3's label meets its specification, by induction on the tiles to go. -/
theorem spec_le3 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after3 arg2 arg3 arg4 arg7 arg8 f2 f3 f4 tab n x f7 f8) K
      ⊢ wp frame (wpE (defs₀ (F := F)) 𝒱₀ (c : Thread nD τ) (some n)) E
          (defs₀ (F := F) .tc (3 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while3 i arg2 harg2 arg3 harg3 arg4 harg4 arg8 harg8 arg7 harg7 tab j x) K
    simp only [cc0_while3_eq_skeleton]; unfold cc0_while3_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk3 ⟨n, by omega⟩
    have hoff : k0_off7 (BitVec.ofNat 32 n) = ![256 * n, 128 * 0] := funext hck.2
    rw [spec_apply]
    show _ ⊢ wp frame (wpE (defs₀ (F := F)) 𝒱₀ (c : Thread nD τ) (some (n + 1))) E
      (cc0_while3 i arg2 harg2 arg3 harg3 arg4 harg4 arg8 harg8 arg7 harg7 tab (BitVec.ofNat 32 n) x) K
    simp only [cc0_while3_eq_skeleton]; unfold cc0_while3_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part24_eq_skeleton]
      unfold k0_part24_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![512, 0] S256x128.size inb_S2560x128_S256x128_512_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![512, 0] S256x128.size inb_S1280x256_S256x128_512_0) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 0 n _ _ hoff, readAt_tile arg4.view f4 0 n _ _ hoff]
      have e : after3 arg2 arg3 arg4 arg7 arg8 f2 f3 f4 tab (n + 1) x f7 f8 = after3 arg2 arg3 arg4 arg7 arg8 f2 f3 f4 tab n (top (get8 arg8.view ![512, 0] inb_S2560x128_S256x128_512_0 (put8 arg8.view ![512, 0] inb_S2560x128_S256x128_512_0 f8 (stepC tab (arg2.view.readAt (Elt F) (Rect.unit (s := S1280x256) ![512, 0] S256x128.size inb_S1280x256_S256x128_512_0).toLoadRect f2) ((tile 0 (arg3.view.read (Elt F) f3)) n) (get8 arg8.view ![512, 0] inb_S2560x128_S256x128_512_0 f8))))) (put7 arg7.view ![512, 0] inb_S1280x256_S256x128_512_0 f7 (stepA tab (arg2.view.readAt (Elt F) (Rect.unit (s := S1280x256) ![512, 0] S256x128.size inb_S1280x256_S256x128_512_0).toLoadRect f2) ((tile 0 (arg3.view.read (Elt F) f3)) n) ((tile 0 (arg4.view.read (Elt F) f4)) n) (get8 arg8.view ![512, 0] inb_S2560x128_S256x128_512_0 f8) (get7 arg7.view ![512, 0] inb_S1280x256_S256x128_512_0 f7))) (put8 arg8.view ![512, 0] inb_S2560x128_S256x128_512_0 f8 (stepC tab (arg2.view.readAt (Elt F) (Rect.unit (s := S1280x256) ![512, 0] S256x128.size inb_S1280x256_S256x128_512_0).toLoadRect f2) ((tile 0 (arg3.view.read (Elt F) f3)) n) (get8 arg8.view ![512, 0] inb_S2560x128_S256x128_512_0 f8))) := by
        unfold after3; rw [loopBuf, if_pos hg]
      rw [e]
      iapply (wp_call_spec 𝒱₀ (c : Thread nD τ) (some (n + 1)) E (spec c arg2 arg3 arg4 arg7 arg8 f2 f3 f4 (put7 arg7.view ![512, 0] inb_S1280x256_S256x128_512_0 f7 (stepA tab (arg2.view.readAt (Elt F) (Rect.unit (s := S1280x256) ![512, 0] S256x128.size inb_S1280x256_S256x128_512_0).toLoadRect f2) ((tile 0 (arg3.view.read (Elt F) f3)) n) ((tile 0 (arg4.view.read (Elt F) f4)) n) (get8 arg8.view ![512, 0] inb_S2560x128_S256x128_512_0 f8) (get7 arg7.view ![512, 0] inb_S1280x256_S256x128_512_0 f7))) (put8 arg8.view ![512, 0] inb_S2560x128_S256x128_512_0 f8 (stepC tab (arg2.view.readAt (Elt F) (Rect.unit (s := S1280x256) ![512, 0] S256x128.size inb_S1280x256_S256x128_512_0).toLoadRect f2) ((tile 0 (arg3.view.read (Elt F) f3)) n) (get8 arg8.view ![512, 0] inb_S2560x128_S256x128_512_0 f8))) (after3 arg2 arg3 arg4 arg7 arg8 f2 f3 f4 tab n (top (get8 arg8.view ![512, 0] inb_S2560x128_S256x128_512_0 (put8 arg8.view ![512, 0] inb_S2560x128_S256x128_512_0 f8 (stepC tab (arg2.view.readAt (Elt F) (Rect.unit (s := S1280x256) ![512, 0] S256x128.size inb_S1280x256_S256x128_512_0).toLoadRect f2) ((tile 0 (arg3.view.read (Elt F) f3)) n) (get8 arg8.view ![512, 0] inb_S2560x128_S256x128_512_0 f8))))) (put7 arg7.view ![512, 0] inb_S1280x256_S256x128_512_0 f7 (stepA tab (arg2.view.readAt (Elt F) (Rect.unit (s := S1280x256) ![512, 0] S256x128.size inb_S1280x256_S256x128_512_0).toLoadRect f2) ((tile 0 (arg3.view.read (Elt F) f3)) n) ((tile 0 (arg4.view.read (Elt F) f4)) n) (get8 arg8.view ![512, 0] inb_S2560x128_S256x128_512_0 f8) (get7 arg7.view ![512, 0] inb_S1280x256_S256x128_512_0 f7))) (put8 arg8.view ![512, 0] inb_S2560x128_S256x128_512_0 f8 (stepC tab (arg2.view.readAt (Elt F) (Rect.unit (s := S1280x256) ![512, 0] S256x128.size inb_S1280x256_S256x128_512_0).toLoadRect f2) ((tile 0 (arg3.view.read (Elt F) f3)) n) (get8 arg8.view ![512, 0] inb_S2560x128_S256x128_512_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after3 arg2 arg3 arg4 arg7 arg8 f2 f3 f4 tab (n + 1) x f7 f8 = (f7, f8) := by
        unfold after3; rw [loopBuf, if_neg hg]
      rw [e]
      iintro ⟨H, Hk⟩
      rw [wp_ret]; imodintro
      iapply Hk
      iexact H

/-! #### Loop 4: rows 768 … of head 0 -/

/-- The loop's tile number `n` is inside the keys, at row `256 n`. -/
theorem chk4 : ∀ n : Fin 65, k0_chk4 (BitVec.ofNat 32 n.val) ∧ ∀ a, k0_off8 (BitVec.ofNat 32 n.val) a = (![256 * n.val, 0] : Fin 2 → ℕ) a := by
  decide +kernel

/-- What loop 4 leaves in the scratch buffers from `n` tiles to go. -/
abbrev after4 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![768, 0] ![768, 0] inb_S1280x256_S256x128_768_0 inb_S2560x128_S256x128_768_0 tab (arg2.view.readAt (Elt F) (Rect.unit (s := S1280x256) ![768, 0] S256x128.size inb_S1280x256_S256x128_768_0).toLoadRect f2) (tile 0 (arg3.view.read (Elt F) f3)) (tile 0 (arg4.view.read (Elt F) f4)) n x f7 f8

/-- Loop 4's label meets its specification, by induction on the tiles to go. -/
theorem spec_le4 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after4 arg2 arg3 arg4 arg7 arg8 f2 f3 f4 tab n x f7 f8) K
      ⊢ wp frame (wpE (defs₀ (F := F)) 𝒱₀ (c : Thread nD τ) (some n)) E
          (defs₀ (F := F) .tc (4 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while4 i arg2 harg2 arg3 harg3 arg4 harg4 arg8 harg8 arg7 harg7 tab j x) K
    simp only [cc0_while4_eq_skeleton]; unfold cc0_while4_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk4 ⟨n, by omega⟩
    have hoff : k0_off8 (BitVec.ofNat 32 n) = ![256 * n, 128 * 0] := funext hck.2
    rw [spec_apply]
    show _ ⊢ wp frame (wpE (defs₀ (F := F)) 𝒱₀ (c : Thread nD τ) (some (n + 1))) E
      (cc0_while4 i arg2 harg2 arg3 harg3 arg4 harg4 arg8 harg8 arg7 harg7 tab (BitVec.ofNat 32 n) x) K
    simp only [cc0_while4_eq_skeleton]; unfold cc0_while4_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part25_eq_skeleton]
      unfold k0_part25_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![768, 0] S256x128.size inb_S2560x128_S256x128_768_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![768, 0] S256x128.size inb_S1280x256_S256x128_768_0) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 0 n _ _ hoff, readAt_tile arg4.view f4 0 n _ _ hoff]
      have e : after4 arg2 arg3 arg4 arg7 arg8 f2 f3 f4 tab (n + 1) x f7 f8 = after4 arg2 arg3 arg4 arg7 arg8 f2 f3 f4 tab n (top (get8 arg8.view ![768, 0] inb_S2560x128_S256x128_768_0 (put8 arg8.view ![768, 0] inb_S2560x128_S256x128_768_0 f8 (stepC tab (arg2.view.readAt (Elt F) (Rect.unit (s := S1280x256) ![768, 0] S256x128.size inb_S1280x256_S256x128_768_0).toLoadRect f2) ((tile 0 (arg3.view.read (Elt F) f3)) n) (get8 arg8.view ![768, 0] inb_S2560x128_S256x128_768_0 f8))))) (put7 arg7.view ![768, 0] inb_S1280x256_S256x128_768_0 f7 (stepA tab (arg2.view.readAt (Elt F) (Rect.unit (s := S1280x256) ![768, 0] S256x128.size inb_S1280x256_S256x128_768_0).toLoadRect f2) ((tile 0 (arg3.view.read (Elt F) f3)) n) ((tile 0 (arg4.view.read (Elt F) f4)) n) (get8 arg8.view ![768, 0] inb_S2560x128_S256x128_768_0 f8) (get7 arg7.view ![768, 0] inb_S1280x256_S256x128_768_0 f7))) (put8 arg8.view ![768, 0] inb_S2560x128_S256x128_768_0 f8 (stepC tab (arg2.view.readAt (Elt F) (Rect.unit (s := S1280x256) ![768, 0] S256x128.size inb_S1280x256_S256x128_768_0).toLoadRect f2) ((tile 0 (arg3.view.read (Elt F) f3)) n) (get8 arg8.view ![768, 0] inb_S2560x128_S256x128_768_0 f8))) := by
        unfold after4; rw [loopBuf, if_pos hg]
      rw [e]
      iapply (wp_call_spec 𝒱₀ (c : Thread nD τ) (some (n + 1)) E (spec c arg2 arg3 arg4 arg7 arg8 f2 f3 f4 (put7 arg7.view ![768, 0] inb_S1280x256_S256x128_768_0 f7 (stepA tab (arg2.view.readAt (Elt F) (Rect.unit (s := S1280x256) ![768, 0] S256x128.size inb_S1280x256_S256x128_768_0).toLoadRect f2) ((tile 0 (arg3.view.read (Elt F) f3)) n) ((tile 0 (arg4.view.read (Elt F) f4)) n) (get8 arg8.view ![768, 0] inb_S2560x128_S256x128_768_0 f8) (get7 arg7.view ![768, 0] inb_S1280x256_S256x128_768_0 f7))) (put8 arg8.view ![768, 0] inb_S2560x128_S256x128_768_0 f8 (stepC tab (arg2.view.readAt (Elt F) (Rect.unit (s := S1280x256) ![768, 0] S256x128.size inb_S1280x256_S256x128_768_0).toLoadRect f2) ((tile 0 (arg3.view.read (Elt F) f3)) n) (get8 arg8.view ![768, 0] inb_S2560x128_S256x128_768_0 f8))) (after4 arg2 arg3 arg4 arg7 arg8 f2 f3 f4 tab n (top (get8 arg8.view ![768, 0] inb_S2560x128_S256x128_768_0 (put8 arg8.view ![768, 0] inb_S2560x128_S256x128_768_0 f8 (stepC tab (arg2.view.readAt (Elt F) (Rect.unit (s := S1280x256) ![768, 0] S256x128.size inb_S1280x256_S256x128_768_0).toLoadRect f2) ((tile 0 (arg3.view.read (Elt F) f3)) n) (get8 arg8.view ![768, 0] inb_S2560x128_S256x128_768_0 f8))))) (put7 arg7.view ![768, 0] inb_S1280x256_S256x128_768_0 f7 (stepA tab (arg2.view.readAt (Elt F) (Rect.unit (s := S1280x256) ![768, 0] S256x128.size inb_S1280x256_S256x128_768_0).toLoadRect f2) ((tile 0 (arg3.view.read (Elt F) f3)) n) ((tile 0 (arg4.view.read (Elt F) f4)) n) (get8 arg8.view ![768, 0] inb_S2560x128_S256x128_768_0 f8) (get7 arg7.view ![768, 0] inb_S1280x256_S256x128_768_0 f7))) (put8 arg8.view ![768, 0] inb_S2560x128_S256x128_768_0 f8 (stepC tab (arg2.view.readAt (Elt F) (Rect.unit (s := S1280x256) ![768, 0] S256x128.size inb_S1280x256_S256x128_768_0).toLoadRect f2) ((tile 0 (arg3.view.read (Elt F) f3)) n) (get8 arg8.view ![768, 0] inb_S2560x128_S256x128_768_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after4 arg2 arg3 arg4 arg7 arg8 f2 f3 f4 tab (n + 1) x f7 f8 = (f7, f8) := by
        unfold after4; rw [loopBuf, if_neg hg]
      rw [e]
      iintro ⟨H, Hk⟩
      rw [wp_ret]; imodintro
      iapply Hk
      iexact H

/-! #### Loop 5: rows 1024 … of head 0 -/

/-- The loop's tile number `n` is inside the keys, at row `256 n`. -/
theorem chk5 : ∀ n : Fin 65, k0_chk5 (BitVec.ofNat 32 n.val) ∧ ∀ a, k0_off9 (BitVec.ofNat 32 n.val) a = (![256 * n.val, 0] : Fin 2 → ℕ) a := by
  decide +kernel

/-- What loop 5 leaves in the scratch buffers from `n` tiles to go. -/
abbrev after5 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![1024, 0] ![1024, 0] inb_S1280x256_S256x128_1024_0 inb_S2560x128_S256x128_1024_0 tab (arg2.view.readAt (Elt F) (Rect.unit (s := S1280x256) ![1024, 0] S256x128.size inb_S1280x256_S256x128_1024_0).toLoadRect f2) (tile 0 (arg3.view.read (Elt F) f3)) (tile 0 (arg4.view.read (Elt F) f4)) n x f7 f8

/-- Loop 5's label meets its specification, by induction on the tiles to go. -/
theorem spec_le5 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after5 arg2 arg3 arg4 arg7 arg8 f2 f3 f4 tab n x f7 f8) K
      ⊢ wp frame (wpE (defs₀ (F := F)) 𝒱₀ (c : Thread nD τ) (some n)) E
          (defs₀ (F := F) .tc (5 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while5 i arg2 harg2 arg3 harg3 arg4 harg4 arg8 harg8 arg7 harg7 tab j x) K
    simp only [cc0_while5_eq_skeleton]; unfold cc0_while5_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk5 ⟨n, by omega⟩
    have hoff : k0_off9 (BitVec.ofNat 32 n) = ![256 * n, 128 * 0] := funext hck.2
    rw [spec_apply]
    show _ ⊢ wp frame (wpE (defs₀ (F := F)) 𝒱₀ (c : Thread nD τ) (some (n + 1))) E
      (cc0_while5 i arg2 harg2 arg3 harg3 arg4 harg4 arg8 harg8 arg7 harg7 tab (BitVec.ofNat 32 n) x) K
    simp only [cc0_while5_eq_skeleton]; unfold cc0_while5_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part26_eq_skeleton]
      unfold k0_part26_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![1024, 0] S256x128.size inb_S2560x128_S256x128_1024_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![1024, 0] S256x128.size inb_S1280x256_S256x128_1024_0) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 0 n _ _ hoff, readAt_tile arg4.view f4 0 n _ _ hoff]
      have e : after5 arg2 arg3 arg4 arg7 arg8 f2 f3 f4 tab (n + 1) x f7 f8 = after5 arg2 arg3 arg4 arg7 arg8 f2 f3 f4 tab n (top (get8 arg8.view ![1024, 0] inb_S2560x128_S256x128_1024_0 (put8 arg8.view ![1024, 0] inb_S2560x128_S256x128_1024_0 f8 (stepC tab (arg2.view.readAt (Elt F) (Rect.unit (s := S1280x256) ![1024, 0] S256x128.size inb_S1280x256_S256x128_1024_0).toLoadRect f2) ((tile 0 (arg3.view.read (Elt F) f3)) n) (get8 arg8.view ![1024, 0] inb_S2560x128_S256x128_1024_0 f8))))) (put7 arg7.view ![1024, 0] inb_S1280x256_S256x128_1024_0 f7 (stepA tab (arg2.view.readAt (Elt F) (Rect.unit (s := S1280x256) ![1024, 0] S256x128.size inb_S1280x256_S256x128_1024_0).toLoadRect f2) ((tile 0 (arg3.view.read (Elt F) f3)) n) ((tile 0 (arg4.view.read (Elt F) f4)) n) (get8 arg8.view ![1024, 0] inb_S2560x128_S256x128_1024_0 f8) (get7 arg7.view ![1024, 0] inb_S1280x256_S256x128_1024_0 f7))) (put8 arg8.view ![1024, 0] inb_S2560x128_S256x128_1024_0 f8 (stepC tab (arg2.view.readAt (Elt F) (Rect.unit (s := S1280x256) ![1024, 0] S256x128.size inb_S1280x256_S256x128_1024_0).toLoadRect f2) ((tile 0 (arg3.view.read (Elt F) f3)) n) (get8 arg8.view ![1024, 0] inb_S2560x128_S256x128_1024_0 f8))) := by
        unfold after5; rw [loopBuf, if_pos hg]
      rw [e]
      iapply (wp_call_spec 𝒱₀ (c : Thread nD τ) (some (n + 1)) E (spec c arg2 arg3 arg4 arg7 arg8 f2 f3 f4 (put7 arg7.view ![1024, 0] inb_S1280x256_S256x128_1024_0 f7 (stepA tab (arg2.view.readAt (Elt F) (Rect.unit (s := S1280x256) ![1024, 0] S256x128.size inb_S1280x256_S256x128_1024_0).toLoadRect f2) ((tile 0 (arg3.view.read (Elt F) f3)) n) ((tile 0 (arg4.view.read (Elt F) f4)) n) (get8 arg8.view ![1024, 0] inb_S2560x128_S256x128_1024_0 f8) (get7 arg7.view ![1024, 0] inb_S1280x256_S256x128_1024_0 f7))) (put8 arg8.view ![1024, 0] inb_S2560x128_S256x128_1024_0 f8 (stepC tab (arg2.view.readAt (Elt F) (Rect.unit (s := S1280x256) ![1024, 0] S256x128.size inb_S1280x256_S256x128_1024_0).toLoadRect f2) ((tile 0 (arg3.view.read (Elt F) f3)) n) (get8 arg8.view ![1024, 0] inb_S2560x128_S256x128_1024_0 f8))) (after5 arg2 arg3 arg4 arg7 arg8 f2 f3 f4 tab n (top (get8 arg8.view ![1024, 0] inb_S2560x128_S256x128_1024_0 (put8 arg8.view ![1024, 0] inb_S2560x128_S256x128_1024_0 f8 (stepC tab (arg2.view.readAt (Elt F) (Rect.unit (s := S1280x256) ![1024, 0] S256x128.size inb_S1280x256_S256x128_1024_0).toLoadRect f2) ((tile 0 (arg3.view.read (Elt F) f3)) n) (get8 arg8.view ![1024, 0] inb_S2560x128_S256x128_1024_0 f8))))) (put7 arg7.view ![1024, 0] inb_S1280x256_S256x128_1024_0 f7 (stepA tab (arg2.view.readAt (Elt F) (Rect.unit (s := S1280x256) ![1024, 0] S256x128.size inb_S1280x256_S256x128_1024_0).toLoadRect f2) ((tile 0 (arg3.view.read (Elt F) f3)) n) ((tile 0 (arg4.view.read (Elt F) f4)) n) (get8 arg8.view ![1024, 0] inb_S2560x128_S256x128_1024_0 f8) (get7 arg7.view ![1024, 0] inb_S1280x256_S256x128_1024_0 f7))) (put8 arg8.view ![1024, 0] inb_S2560x128_S256x128_1024_0 f8 (stepC tab (arg2.view.readAt (Elt F) (Rect.unit (s := S1280x256) ![1024, 0] S256x128.size inb_S1280x256_S256x128_1024_0).toLoadRect f2) ((tile 0 (arg3.view.read (Elt F) f3)) n) (get8 arg8.view ![1024, 0] inb_S2560x128_S256x128_1024_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after5 arg2 arg3 arg4 arg7 arg8 f2 f3 f4 tab (n + 1) x f7 f8 = (f7, f8) := by
        unfold after5; rw [loopBuf, if_neg hg]
      rw [e]
      iintro ⟨H, Hk⟩
      rw [wp_ret]; imodintro
      iapply Hk
      iexact H

/-! #### Loop 6: rows 0 … of head 1 -/

/-- The loop's tile number `n` is inside the keys, at row `256 n`. -/
theorem chk6 : ∀ n : Fin 65, k0_chk6 (BitVec.ofNat 32 n.val) ∧ ∀ a, k0_off10 (BitVec.ofNat 32 n.val) a = (![256 * n.val, 128] : Fin 2 → ℕ) a := by
  decide +kernel

/-- What loop 6 leaves in the scratch buffers from `n` tiles to go. -/
abbrev after6 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![0, 128] ![1280, 0] inb_S1280x256_S256x128_0_128 inb_S2560x128_S256x128_1280_0 tab (arg2.view.readAt (Elt F) (Rect.unit (s := S1280x256) ![0, 128] S256x128.size inb_S1280x256_S256x128_0_128).toLoadRect f2) (tile 1 (arg3.view.read (Elt F) f3)) (tile 1 (arg4.view.read (Elt F) f4)) n x f7 f8

/-- Loop 6's label meets its specification, by induction on the tiles to go. -/
theorem spec_le6 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after6 arg2 arg3 arg4 arg7 arg8 f2 f3 f4 tab n x f7 f8) K
      ⊢ wp frame (wpE (defs₀ (F := F)) 𝒱₀ (c : Thread nD τ) (some n)) E
          (defs₀ (F := F) .tc (6 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while6 i arg2 harg2 arg3 harg3 arg4 harg4 arg8 harg8 arg7 harg7 tab j x) K
    simp only [cc0_while6_eq_skeleton]; unfold cc0_while6_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk6 ⟨n, by omega⟩
    have hoff : k0_off10 (BitVec.ofNat 32 n) = ![256 * n, 128 * 1] := funext hck.2
    rw [spec_apply]
    show _ ⊢ wp frame (wpE (defs₀ (F := F)) 𝒱₀ (c : Thread nD τ) (some (n + 1))) E
      (cc0_while6 i arg2 harg2 arg3 harg3 arg4 harg4 arg8 harg8 arg7 harg7 tab (BitVec.ofNat 32 n) x) K
    simp only [cc0_while6_eq_skeleton]; unfold cc0_while6_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part27_eq_skeleton]
      unfold k0_part27_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![1280, 0] S256x128.size inb_S2560x128_S256x128_1280_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![0, 128] S256x128.size inb_S1280x256_S256x128_0_128) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 1 n _ _ hoff, readAt_tile arg4.view f4 1 n _ _ hoff]
      have e : after6 arg2 arg3 arg4 arg7 arg8 f2 f3 f4 tab (n + 1) x f7 f8 = after6 arg2 arg3 arg4 arg7 arg8 f2 f3 f4 tab n (top (get8 arg8.view ![1280, 0] inb_S2560x128_S256x128_1280_0 (put8 arg8.view ![1280, 0] inb_S2560x128_S256x128_1280_0 f8 (stepC tab (arg2.view.readAt (Elt F) (Rect.unit (s := S1280x256) ![0, 128] S256x128.size inb_S1280x256_S256x128_0_128).toLoadRect f2) ((tile 1 (arg3.view.read (Elt F) f3)) n) (get8 arg8.view ![1280, 0] inb_S2560x128_S256x128_1280_0 f8))))) (put7 arg7.view ![0, 128] inb_S1280x256_S256x128_0_128 f7 (stepA tab (arg2.view.readAt (Elt F) (Rect.unit (s := S1280x256) ![0, 128] S256x128.size inb_S1280x256_S256x128_0_128).toLoadRect f2) ((tile 1 (arg3.view.read (Elt F) f3)) n) ((tile 1 (arg4.view.read (Elt F) f4)) n) (get8 arg8.view ![1280, 0] inb_S2560x128_S256x128_1280_0 f8) (get7 arg7.view ![0, 128] inb_S1280x256_S256x128_0_128 f7))) (put8 arg8.view ![1280, 0] inb_S2560x128_S256x128_1280_0 f8 (stepC tab (arg2.view.readAt (Elt F) (Rect.unit (s := S1280x256) ![0, 128] S256x128.size inb_S1280x256_S256x128_0_128).toLoadRect f2) ((tile 1 (arg3.view.read (Elt F) f3)) n) (get8 arg8.view ![1280, 0] inb_S2560x128_S256x128_1280_0 f8))) := by
        unfold after6; rw [loopBuf, if_pos hg]
      rw [e]
      iapply (wp_call_spec 𝒱₀ (c : Thread nD τ) (some (n + 1)) E (spec c arg2 arg3 arg4 arg7 arg8 f2 f3 f4 (put7 arg7.view ![0, 128] inb_S1280x256_S256x128_0_128 f7 (stepA tab (arg2.view.readAt (Elt F) (Rect.unit (s := S1280x256) ![0, 128] S256x128.size inb_S1280x256_S256x128_0_128).toLoadRect f2) ((tile 1 (arg3.view.read (Elt F) f3)) n) ((tile 1 (arg4.view.read (Elt F) f4)) n) (get8 arg8.view ![1280, 0] inb_S2560x128_S256x128_1280_0 f8) (get7 arg7.view ![0, 128] inb_S1280x256_S256x128_0_128 f7))) (put8 arg8.view ![1280, 0] inb_S2560x128_S256x128_1280_0 f8 (stepC tab (arg2.view.readAt (Elt F) (Rect.unit (s := S1280x256) ![0, 128] S256x128.size inb_S1280x256_S256x128_0_128).toLoadRect f2) ((tile 1 (arg3.view.read (Elt F) f3)) n) (get8 arg8.view ![1280, 0] inb_S2560x128_S256x128_1280_0 f8))) (after6 arg2 arg3 arg4 arg7 arg8 f2 f3 f4 tab n (top (get8 arg8.view ![1280, 0] inb_S2560x128_S256x128_1280_0 (put8 arg8.view ![1280, 0] inb_S2560x128_S256x128_1280_0 f8 (stepC tab (arg2.view.readAt (Elt F) (Rect.unit (s := S1280x256) ![0, 128] S256x128.size inb_S1280x256_S256x128_0_128).toLoadRect f2) ((tile 1 (arg3.view.read (Elt F) f3)) n) (get8 arg8.view ![1280, 0] inb_S2560x128_S256x128_1280_0 f8))))) (put7 arg7.view ![0, 128] inb_S1280x256_S256x128_0_128 f7 (stepA tab (arg2.view.readAt (Elt F) (Rect.unit (s := S1280x256) ![0, 128] S256x128.size inb_S1280x256_S256x128_0_128).toLoadRect f2) ((tile 1 (arg3.view.read (Elt F) f3)) n) ((tile 1 (arg4.view.read (Elt F) f4)) n) (get8 arg8.view ![1280, 0] inb_S2560x128_S256x128_1280_0 f8) (get7 arg7.view ![0, 128] inb_S1280x256_S256x128_0_128 f7))) (put8 arg8.view ![1280, 0] inb_S2560x128_S256x128_1280_0 f8 (stepC tab (arg2.view.readAt (Elt F) (Rect.unit (s := S1280x256) ![0, 128] S256x128.size inb_S1280x256_S256x128_0_128).toLoadRect f2) ((tile 1 (arg3.view.read (Elt F) f3)) n) (get8 arg8.view ![1280, 0] inb_S2560x128_S256x128_1280_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after6 arg2 arg3 arg4 arg7 arg8 f2 f3 f4 tab (n + 1) x f7 f8 = (f7, f8) := by
        unfold after6; rw [loopBuf, if_neg hg]
      rw [e]
      iintro ⟨H, Hk⟩
      rw [wp_ret]; imodintro
      iapply Hk
      iexact H

/-! #### Loop 7: rows 256 … of head 1 -/

/-- The loop's tile number `n` is inside the keys, at row `256 n`. -/
theorem chk7 : ∀ n : Fin 65, k0_chk7 (BitVec.ofNat 32 n.val) ∧ ∀ a, k0_off11 (BitVec.ofNat 32 n.val) a = (![256 * n.val, 128] : Fin 2 → ℕ) a := by
  decide +kernel

/-- What loop 7 leaves in the scratch buffers from `n` tiles to go. -/
abbrev after7 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![256, 128] ![1536, 0] inb_S1280x256_S256x128_256_128 inb_S2560x128_S256x128_1536_0 tab (arg2.view.readAt (Elt F) (Rect.unit (s := S1280x256) ![256, 128] S256x128.size inb_S1280x256_S256x128_256_128).toLoadRect f2) (tile 1 (arg3.view.read (Elt F) f3)) (tile 1 (arg4.view.read (Elt F) f4)) n x f7 f8

/-- Loop 7's label meets its specification, by induction on the tiles to go. -/
theorem spec_le7 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after7 arg2 arg3 arg4 arg7 arg8 f2 f3 f4 tab n x f7 f8) K
      ⊢ wp frame (wpE (defs₀ (F := F)) 𝒱₀ (c : Thread nD τ) (some n)) E
          (defs₀ (F := F) .tc (7 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while7 i arg2 harg2 arg3 harg3 arg4 harg4 arg8 harg8 arg7 harg7 tab j x) K
    simp only [cc0_while7_eq_skeleton]; unfold cc0_while7_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk7 ⟨n, by omega⟩
    have hoff : k0_off11 (BitVec.ofNat 32 n) = ![256 * n, 128 * 1] := funext hck.2
    rw [spec_apply]
    show _ ⊢ wp frame (wpE (defs₀ (F := F)) 𝒱₀ (c : Thread nD τ) (some (n + 1))) E
      (cc0_while7 i arg2 harg2 arg3 harg3 arg4 harg4 arg8 harg8 arg7 harg7 tab (BitVec.ofNat 32 n) x) K
    simp only [cc0_while7_eq_skeleton]; unfold cc0_while7_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part28_eq_skeleton]
      unfold k0_part28_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![1536, 0] S256x128.size inb_S2560x128_S256x128_1536_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![256, 128] S256x128.size inb_S1280x256_S256x128_256_128) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 1 n _ _ hoff, readAt_tile arg4.view f4 1 n _ _ hoff]
      have e : after7 arg2 arg3 arg4 arg7 arg8 f2 f3 f4 tab (n + 1) x f7 f8 = after7 arg2 arg3 arg4 arg7 arg8 f2 f3 f4 tab n (top (get8 arg8.view ![1536, 0] inb_S2560x128_S256x128_1536_0 (put8 arg8.view ![1536, 0] inb_S2560x128_S256x128_1536_0 f8 (stepC tab (arg2.view.readAt (Elt F) (Rect.unit (s := S1280x256) ![256, 128] S256x128.size inb_S1280x256_S256x128_256_128).toLoadRect f2) ((tile 1 (arg3.view.read (Elt F) f3)) n) (get8 arg8.view ![1536, 0] inb_S2560x128_S256x128_1536_0 f8))))) (put7 arg7.view ![256, 128] inb_S1280x256_S256x128_256_128 f7 (stepA tab (arg2.view.readAt (Elt F) (Rect.unit (s := S1280x256) ![256, 128] S256x128.size inb_S1280x256_S256x128_256_128).toLoadRect f2) ((tile 1 (arg3.view.read (Elt F) f3)) n) ((tile 1 (arg4.view.read (Elt F) f4)) n) (get8 arg8.view ![1536, 0] inb_S2560x128_S256x128_1536_0 f8) (get7 arg7.view ![256, 128] inb_S1280x256_S256x128_256_128 f7))) (put8 arg8.view ![1536, 0] inb_S2560x128_S256x128_1536_0 f8 (stepC tab (arg2.view.readAt (Elt F) (Rect.unit (s := S1280x256) ![256, 128] S256x128.size inb_S1280x256_S256x128_256_128).toLoadRect f2) ((tile 1 (arg3.view.read (Elt F) f3)) n) (get8 arg8.view ![1536, 0] inb_S2560x128_S256x128_1536_0 f8))) := by
        unfold after7; rw [loopBuf, if_pos hg]
      rw [e]
      iapply (wp_call_spec 𝒱₀ (c : Thread nD τ) (some (n + 1)) E (spec c arg2 arg3 arg4 arg7 arg8 f2 f3 f4 (put7 arg7.view ![256, 128] inb_S1280x256_S256x128_256_128 f7 (stepA tab (arg2.view.readAt (Elt F) (Rect.unit (s := S1280x256) ![256, 128] S256x128.size inb_S1280x256_S256x128_256_128).toLoadRect f2) ((tile 1 (arg3.view.read (Elt F) f3)) n) ((tile 1 (arg4.view.read (Elt F) f4)) n) (get8 arg8.view ![1536, 0] inb_S2560x128_S256x128_1536_0 f8) (get7 arg7.view ![256, 128] inb_S1280x256_S256x128_256_128 f7))) (put8 arg8.view ![1536, 0] inb_S2560x128_S256x128_1536_0 f8 (stepC tab (arg2.view.readAt (Elt F) (Rect.unit (s := S1280x256) ![256, 128] S256x128.size inb_S1280x256_S256x128_256_128).toLoadRect f2) ((tile 1 (arg3.view.read (Elt F) f3)) n) (get8 arg8.view ![1536, 0] inb_S2560x128_S256x128_1536_0 f8))) (after7 arg2 arg3 arg4 arg7 arg8 f2 f3 f4 tab n (top (get8 arg8.view ![1536, 0] inb_S2560x128_S256x128_1536_0 (put8 arg8.view ![1536, 0] inb_S2560x128_S256x128_1536_0 f8 (stepC tab (arg2.view.readAt (Elt F) (Rect.unit (s := S1280x256) ![256, 128] S256x128.size inb_S1280x256_S256x128_256_128).toLoadRect f2) ((tile 1 (arg3.view.read (Elt F) f3)) n) (get8 arg8.view ![1536, 0] inb_S2560x128_S256x128_1536_0 f8))))) (put7 arg7.view ![256, 128] inb_S1280x256_S256x128_256_128 f7 (stepA tab (arg2.view.readAt (Elt F) (Rect.unit (s := S1280x256) ![256, 128] S256x128.size inb_S1280x256_S256x128_256_128).toLoadRect f2) ((tile 1 (arg3.view.read (Elt F) f3)) n) ((tile 1 (arg4.view.read (Elt F) f4)) n) (get8 arg8.view ![1536, 0] inb_S2560x128_S256x128_1536_0 f8) (get7 arg7.view ![256, 128] inb_S1280x256_S256x128_256_128 f7))) (put8 arg8.view ![1536, 0] inb_S2560x128_S256x128_1536_0 f8 (stepC tab (arg2.view.readAt (Elt F) (Rect.unit (s := S1280x256) ![256, 128] S256x128.size inb_S1280x256_S256x128_256_128).toLoadRect f2) ((tile 1 (arg3.view.read (Elt F) f3)) n) (get8 arg8.view ![1536, 0] inb_S2560x128_S256x128_1536_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after7 arg2 arg3 arg4 arg7 arg8 f2 f3 f4 tab (n + 1) x f7 f8 = (f7, f8) := by
        unfold after7; rw [loopBuf, if_neg hg]
      rw [e]
      iintro ⟨H, Hk⟩
      rw [wp_ret]; imodintro
      iapply Hk
      iexact H

/-! #### Loop 8: rows 512 … of head 1 -/

/-- The loop's tile number `n` is inside the keys, at row `256 n`. -/
theorem chk8 : ∀ n : Fin 65, k0_chk8 (BitVec.ofNat 32 n.val) ∧ ∀ a, k0_off12 (BitVec.ofNat 32 n.val) a = (![256 * n.val, 128] : Fin 2 → ℕ) a := by
  decide +kernel

/-- What loop 8 leaves in the scratch buffers from `n` tiles to go. -/
abbrev after8 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![512, 128] ![1792, 0] inb_S1280x256_S256x128_512_128 inb_S2560x128_S256x128_1792_0 tab (arg2.view.readAt (Elt F) (Rect.unit (s := S1280x256) ![512, 128] S256x128.size inb_S1280x256_S256x128_512_128).toLoadRect f2) (tile 1 (arg3.view.read (Elt F) f3)) (tile 1 (arg4.view.read (Elt F) f4)) n x f7 f8

/-- Loop 8's label meets its specification, by induction on the tiles to go. -/
theorem spec_le8 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after8 arg2 arg3 arg4 arg7 arg8 f2 f3 f4 tab n x f7 f8) K
      ⊢ wp frame (wpE (defs₀ (F := F)) 𝒱₀ (c : Thread nD τ) (some n)) E
          (defs₀ (F := F) .tc (8 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while8 i arg2 harg2 arg3 harg3 arg4 harg4 arg8 harg8 arg7 harg7 tab j x) K
    simp only [cc0_while8_eq_skeleton]; unfold cc0_while8_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk8 ⟨n, by omega⟩
    have hoff : k0_off12 (BitVec.ofNat 32 n) = ![256 * n, 128 * 1] := funext hck.2
    rw [spec_apply]
    show _ ⊢ wp frame (wpE (defs₀ (F := F)) 𝒱₀ (c : Thread nD τ) (some (n + 1))) E
      (cc0_while8 i arg2 harg2 arg3 harg3 arg4 harg4 arg8 harg8 arg7 harg7 tab (BitVec.ofNat 32 n) x) K
    simp only [cc0_while8_eq_skeleton]; unfold cc0_while8_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part29_eq_skeleton]
      unfold k0_part29_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![1792, 0] S256x128.size inb_S2560x128_S256x128_1792_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![512, 128] S256x128.size inb_S1280x256_S256x128_512_128) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 1 n _ _ hoff, readAt_tile arg4.view f4 1 n _ _ hoff]
      have e : after8 arg2 arg3 arg4 arg7 arg8 f2 f3 f4 tab (n + 1) x f7 f8 = after8 arg2 arg3 arg4 arg7 arg8 f2 f3 f4 tab n (top (get8 arg8.view ![1792, 0] inb_S2560x128_S256x128_1792_0 (put8 arg8.view ![1792, 0] inb_S2560x128_S256x128_1792_0 f8 (stepC tab (arg2.view.readAt (Elt F) (Rect.unit (s := S1280x256) ![512, 128] S256x128.size inb_S1280x256_S256x128_512_128).toLoadRect f2) ((tile 1 (arg3.view.read (Elt F) f3)) n) (get8 arg8.view ![1792, 0] inb_S2560x128_S256x128_1792_0 f8))))) (put7 arg7.view ![512, 128] inb_S1280x256_S256x128_512_128 f7 (stepA tab (arg2.view.readAt (Elt F) (Rect.unit (s := S1280x256) ![512, 128] S256x128.size inb_S1280x256_S256x128_512_128).toLoadRect f2) ((tile 1 (arg3.view.read (Elt F) f3)) n) ((tile 1 (arg4.view.read (Elt F) f4)) n) (get8 arg8.view ![1792, 0] inb_S2560x128_S256x128_1792_0 f8) (get7 arg7.view ![512, 128] inb_S1280x256_S256x128_512_128 f7))) (put8 arg8.view ![1792, 0] inb_S2560x128_S256x128_1792_0 f8 (stepC tab (arg2.view.readAt (Elt F) (Rect.unit (s := S1280x256) ![512, 128] S256x128.size inb_S1280x256_S256x128_512_128).toLoadRect f2) ((tile 1 (arg3.view.read (Elt F) f3)) n) (get8 arg8.view ![1792, 0] inb_S2560x128_S256x128_1792_0 f8))) := by
        unfold after8; rw [loopBuf, if_pos hg]
      rw [e]
      iapply (wp_call_spec 𝒱₀ (c : Thread nD τ) (some (n + 1)) E (spec c arg2 arg3 arg4 arg7 arg8 f2 f3 f4 (put7 arg7.view ![512, 128] inb_S1280x256_S256x128_512_128 f7 (stepA tab (arg2.view.readAt (Elt F) (Rect.unit (s := S1280x256) ![512, 128] S256x128.size inb_S1280x256_S256x128_512_128).toLoadRect f2) ((tile 1 (arg3.view.read (Elt F) f3)) n) ((tile 1 (arg4.view.read (Elt F) f4)) n) (get8 arg8.view ![1792, 0] inb_S2560x128_S256x128_1792_0 f8) (get7 arg7.view ![512, 128] inb_S1280x256_S256x128_512_128 f7))) (put8 arg8.view ![1792, 0] inb_S2560x128_S256x128_1792_0 f8 (stepC tab (arg2.view.readAt (Elt F) (Rect.unit (s := S1280x256) ![512, 128] S256x128.size inb_S1280x256_S256x128_512_128).toLoadRect f2) ((tile 1 (arg3.view.read (Elt F) f3)) n) (get8 arg8.view ![1792, 0] inb_S2560x128_S256x128_1792_0 f8))) (after8 arg2 arg3 arg4 arg7 arg8 f2 f3 f4 tab n (top (get8 arg8.view ![1792, 0] inb_S2560x128_S256x128_1792_0 (put8 arg8.view ![1792, 0] inb_S2560x128_S256x128_1792_0 f8 (stepC tab (arg2.view.readAt (Elt F) (Rect.unit (s := S1280x256) ![512, 128] S256x128.size inb_S1280x256_S256x128_512_128).toLoadRect f2) ((tile 1 (arg3.view.read (Elt F) f3)) n) (get8 arg8.view ![1792, 0] inb_S2560x128_S256x128_1792_0 f8))))) (put7 arg7.view ![512, 128] inb_S1280x256_S256x128_512_128 f7 (stepA tab (arg2.view.readAt (Elt F) (Rect.unit (s := S1280x256) ![512, 128] S256x128.size inb_S1280x256_S256x128_512_128).toLoadRect f2) ((tile 1 (arg3.view.read (Elt F) f3)) n) ((tile 1 (arg4.view.read (Elt F) f4)) n) (get8 arg8.view ![1792, 0] inb_S2560x128_S256x128_1792_0 f8) (get7 arg7.view ![512, 128] inb_S1280x256_S256x128_512_128 f7))) (put8 arg8.view ![1792, 0] inb_S2560x128_S256x128_1792_0 f8 (stepC tab (arg2.view.readAt (Elt F) (Rect.unit (s := S1280x256) ![512, 128] S256x128.size inb_S1280x256_S256x128_512_128).toLoadRect f2) ((tile 1 (arg3.view.read (Elt F) f3)) n) (get8 arg8.view ![1792, 0] inb_S2560x128_S256x128_1792_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after8 arg2 arg3 arg4 arg7 arg8 f2 f3 f4 tab (n + 1) x f7 f8 = (f7, f8) := by
        unfold after8; rw [loopBuf, if_neg hg]
      rw [e]
      iintro ⟨H, Hk⟩
      rw [wp_ret]; imodintro
      iapply Hk
      iexact H

/-! #### Loop 9: rows 768 … of head 1 -/

/-- The loop's tile number `n` is inside the keys, at row `256 n`. -/
theorem chk9 : ∀ n : Fin 65, k0_chk9 (BitVec.ofNat 32 n.val) ∧ ∀ a, k0_off13 (BitVec.ofNat 32 n.val) a = (![256 * n.val, 128] : Fin 2 → ℕ) a := by
  decide +kernel

/-- What loop 9 leaves in the scratch buffers from `n` tiles to go. -/
abbrev after9 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![768, 128] ![2048, 0] inb_S1280x256_S256x128_768_128 inb_S2560x128_S256x128_2048_0 tab (arg2.view.readAt (Elt F) (Rect.unit (s := S1280x256) ![768, 128] S256x128.size inb_S1280x256_S256x128_768_128).toLoadRect f2) (tile 1 (arg3.view.read (Elt F) f3)) (tile 1 (arg4.view.read (Elt F) f4)) n x f7 f8

/-- Loop 9's label meets its specification, by induction on the tiles to go. -/
theorem spec_le9 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after9 arg2 arg3 arg4 arg7 arg8 f2 f3 f4 tab n x f7 f8) K
      ⊢ wp frame (wpE (defs₀ (F := F)) 𝒱₀ (c : Thread nD τ) (some n)) E
          (defs₀ (F := F) .tc (9 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while9 i arg2 harg2 arg3 harg3 arg4 harg4 arg8 harg8 arg7 harg7 tab j x) K
    simp only [cc0_while9_eq_skeleton]; unfold cc0_while9_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk9 ⟨n, by omega⟩
    have hoff : k0_off13 (BitVec.ofNat 32 n) = ![256 * n, 128 * 1] := funext hck.2
    rw [spec_apply]
    show _ ⊢ wp frame (wpE (defs₀ (F := F)) 𝒱₀ (c : Thread nD τ) (some (n + 1))) E
      (cc0_while9 i arg2 harg2 arg3 harg3 arg4 harg4 arg8 harg8 arg7 harg7 tab (BitVec.ofNat 32 n) x) K
    simp only [cc0_while9_eq_skeleton]; unfold cc0_while9_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part30_eq_skeleton]
      unfold k0_part30_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![2048, 0] S256x128.size inb_S2560x128_S256x128_2048_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![768, 128] S256x128.size inb_S1280x256_S256x128_768_128) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 1 n _ _ hoff, readAt_tile arg4.view f4 1 n _ _ hoff]
      have e : after9 arg2 arg3 arg4 arg7 arg8 f2 f3 f4 tab (n + 1) x f7 f8 = after9 arg2 arg3 arg4 arg7 arg8 f2 f3 f4 tab n (top (get8 arg8.view ![2048, 0] inb_S2560x128_S256x128_2048_0 (put8 arg8.view ![2048, 0] inb_S2560x128_S256x128_2048_0 f8 (stepC tab (arg2.view.readAt (Elt F) (Rect.unit (s := S1280x256) ![768, 128] S256x128.size inb_S1280x256_S256x128_768_128).toLoadRect f2) ((tile 1 (arg3.view.read (Elt F) f3)) n) (get8 arg8.view ![2048, 0] inb_S2560x128_S256x128_2048_0 f8))))) (put7 arg7.view ![768, 128] inb_S1280x256_S256x128_768_128 f7 (stepA tab (arg2.view.readAt (Elt F) (Rect.unit (s := S1280x256) ![768, 128] S256x128.size inb_S1280x256_S256x128_768_128).toLoadRect f2) ((tile 1 (arg3.view.read (Elt F) f3)) n) ((tile 1 (arg4.view.read (Elt F) f4)) n) (get8 arg8.view ![2048, 0] inb_S2560x128_S256x128_2048_0 f8) (get7 arg7.view ![768, 128] inb_S1280x256_S256x128_768_128 f7))) (put8 arg8.view ![2048, 0] inb_S2560x128_S256x128_2048_0 f8 (stepC tab (arg2.view.readAt (Elt F) (Rect.unit (s := S1280x256) ![768, 128] S256x128.size inb_S1280x256_S256x128_768_128).toLoadRect f2) ((tile 1 (arg3.view.read (Elt F) f3)) n) (get8 arg8.view ![2048, 0] inb_S2560x128_S256x128_2048_0 f8))) := by
        unfold after9; rw [loopBuf, if_pos hg]
      rw [e]
      iapply (wp_call_spec 𝒱₀ (c : Thread nD τ) (some (n + 1)) E (spec c arg2 arg3 arg4 arg7 arg8 f2 f3 f4 (put7 arg7.view ![768, 128] inb_S1280x256_S256x128_768_128 f7 (stepA tab (arg2.view.readAt (Elt F) (Rect.unit (s := S1280x256) ![768, 128] S256x128.size inb_S1280x256_S256x128_768_128).toLoadRect f2) ((tile 1 (arg3.view.read (Elt F) f3)) n) ((tile 1 (arg4.view.read (Elt F) f4)) n) (get8 arg8.view ![2048, 0] inb_S2560x128_S256x128_2048_0 f8) (get7 arg7.view ![768, 128] inb_S1280x256_S256x128_768_128 f7))) (put8 arg8.view ![2048, 0] inb_S2560x128_S256x128_2048_0 f8 (stepC tab (arg2.view.readAt (Elt F) (Rect.unit (s := S1280x256) ![768, 128] S256x128.size inb_S1280x256_S256x128_768_128).toLoadRect f2) ((tile 1 (arg3.view.read (Elt F) f3)) n) (get8 arg8.view ![2048, 0] inb_S2560x128_S256x128_2048_0 f8))) (after9 arg2 arg3 arg4 arg7 arg8 f2 f3 f4 tab n (top (get8 arg8.view ![2048, 0] inb_S2560x128_S256x128_2048_0 (put8 arg8.view ![2048, 0] inb_S2560x128_S256x128_2048_0 f8 (stepC tab (arg2.view.readAt (Elt F) (Rect.unit (s := S1280x256) ![768, 128] S256x128.size inb_S1280x256_S256x128_768_128).toLoadRect f2) ((tile 1 (arg3.view.read (Elt F) f3)) n) (get8 arg8.view ![2048, 0] inb_S2560x128_S256x128_2048_0 f8))))) (put7 arg7.view ![768, 128] inb_S1280x256_S256x128_768_128 f7 (stepA tab (arg2.view.readAt (Elt F) (Rect.unit (s := S1280x256) ![768, 128] S256x128.size inb_S1280x256_S256x128_768_128).toLoadRect f2) ((tile 1 (arg3.view.read (Elt F) f3)) n) ((tile 1 (arg4.view.read (Elt F) f4)) n) (get8 arg8.view ![2048, 0] inb_S2560x128_S256x128_2048_0 f8) (get7 arg7.view ![768, 128] inb_S1280x256_S256x128_768_128 f7))) (put8 arg8.view ![2048, 0] inb_S2560x128_S256x128_2048_0 f8 (stepC tab (arg2.view.readAt (Elt F) (Rect.unit (s := S1280x256) ![768, 128] S256x128.size inb_S1280x256_S256x128_768_128).toLoadRect f2) ((tile 1 (arg3.view.read (Elt F) f3)) n) (get8 arg8.view ![2048, 0] inb_S2560x128_S256x128_2048_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after9 arg2 arg3 arg4 arg7 arg8 f2 f3 f4 tab (n + 1) x f7 f8 = (f7, f8) := by
        unfold after9; rw [loopBuf, if_neg hg]
      rw [e]
      iintro ⟨H, Hk⟩
      rw [wp_ret]; imodintro
      iapply Hk
      iexact H

/-! #### Loop 10: rows 1024 … of head 1 -/

/-- The loop's tile number `n` is inside the keys, at row `256 n`. -/
theorem chk10 : ∀ n : Fin 65, k0_chk10 (BitVec.ofNat 32 n.val) ∧ ∀ a, k0_off14 (BitVec.ofNat 32 n.val) a = (![256 * n.val, 128] : Fin 2 → ℕ) a := by
  decide +kernel

/-- What loop 10 leaves in the scratch buffers from `n` tiles to go. -/
abbrev after10 (tab : Vec F S256x256 .bf16) (n : ℕ) (x : F .f32) (f7 : arg7.view.ty.Contents (Elt F)) (f8 : arg8.view.ty.Contents (Elt F)) :
    arg7.view.ty.Contents (Elt F) × arg8.view.ty.Contents (Elt F) :=
  loopBuf arg7.view arg8.view ![1024, 128] ![2304, 0] inb_S1280x256_S256x128_1024_128 inb_S2560x128_S256x128_2304_0 tab (arg2.view.readAt (Elt F) (Rect.unit (s := S1280x256) ![1024, 128] S256x128.size inb_S1280x256_S256x128_1024_128).toLoadRect f2) (tile 1 (arg3.view.read (Elt F) f3)) (tile 1 (arg4.view.read (Elt F) f4)) n x f7 f8

/-- Loop 10's label meets its specification, by induction on the tiles to go. -/
theorem spec_le10 (tab : Vec F S256x256 .bf16) (E : Set ℕ) : ∀ (n : ℕ) (j : BitVec 32) (_ : Counts n j) (x : F .f32)
    (f7 : arg7.view.ty.Contents (Elt F)) (f8 : arg8.view.ty.Contents (Elt F)) (K : BitVec 32 × F .f32 → sProp 𝕄),
    spec c arg2 arg3 arg4 arg7 arg8 f2 f3 f4 f7 f8 (after10 arg2 arg3 arg4 arg7 arg8 f2 f3 f4 tab n x f7 f8) K
      ⊢ wp frame (wpE (defs₀ (F := F)) 𝒱₀ (c : Thread nD τ) (some n)) E
          (defs₀ (F := F) .tc (10 : (Λ₀ F).Label) ⟨i, arg2, harg2, arg3, harg3, arg4, harg4, arg8, harg8, arg7, harg7, tab, j, x⟩) K := by
  intro n
  induction n with
  | zero =>
    intro j hj x f7 f8 K
    rw [spec_apply]
    show _ ⊢ wp frame (wpE (defs₀ (F := F)) 𝒱₀ (c : Thread nD τ) (some 0)) E
      (cc0_while10 i arg2 harg2 arg3 harg3 arg4 harg4 arg8 harg8 arg7 harg7 tab j x) K
    simp only [cc0_while10_eq_skeleton]; unfold cc0_while10_skel
    rw [hj.1 rfl]
    simp only [andi_zero_left, ↓reduceIte, Prog.pure_eq_ret]
    iintro ⟨H, Hk⟩
    rw [wp_ret]; imodintro
    iapply Hk
    iexact H
  | succ n ih =>
    intro j hj x f7 f8 K
    obtain ⟨hn, hj⟩ := hj.2 (Nat.succ_pos n)
    obtain rfl : j = BitVec.ofNat 32 n := hj
    have hck := chk10 ⟨n, by omega⟩
    have hoff : k0_off14 (BitVec.ofNat 32 n) = ![256 * n, 128 * 1] := funext hck.2
    rw [spec_apply]
    show _ ⊢ wp frame (wpE (defs₀ (F := F)) 𝒱₀ (c : Thread nD τ) (some (n + 1))) E
      (cc0_while10 i arg2 harg2 arg3 harg3 arg4 harg4 arg8 harg8 arg7 harg7 tab (BitVec.ofNat 32 n) x) K
    simp only [cc0_while10_eq_skeleton]; unfold cc0_while10_skel
    rw [counts_pos ⟨n, by omega⟩]
    by_cases hg : go x
    · have ht : Scalar.andi (1#1) (Scalar.cmpf .ogt x (Named.named κ "neg_inf" 0xC2D20000#32)) = 1#1 := (andi_one_left _).mpr hg
      simp only [ht, ↓reduceIte, k0_part31_eq_skeleton]
      unfold k0_part31_skel
      simp only [Prog.lift, Prog.bind_op, Prog.bind_ret, Prog.pure_eq_ret]
      unfold held
      iintro ⟨⟨H2, H3, H4, H7, H8⟩, Hk⟩
      iapply (wp_assume 𝒱₀ (c : Thread nD τ) (some (n + 1)) E hck.1)
      iapply (wp_load 𝒱₀ (c : Thread nD τ) (some (n + 1)) E (m := arg2) (View.setOn_subset_set _ _)) $$ H2; iintro H2
      iapply (wp_load 𝒱₀ (c : Thread nD τ) (some (n + 1)) E (m := arg3) (View.setOn_subset_set _ _)) $$ H3; iintro H3
      iapply (wp_load 𝒱₀ (c : Thread nD τ) (some (n + 1)) E (m := arg4) (View.setOn_subset_set _ _)) $$ H4; iintro H4
      iapply (wp_load 𝒱₀ (c : Thread nD τ) (some (n + 1)) E (m := arg8) (View.setOn_subset_set _ _)) $$ H8; iintro H8
      iapply (wp_load 𝒱₀ (c : Thread nD τ) (some (n + 1)) E (m := arg7) (View.setOn_subset_set _ _)) $$ H7; iintro H7
      iapply (wp_load 𝒱₀ (c : Thread nD τ) (some (n + 1)) E (m := arg8) (View.setOn_subset_set _ _)) $$ H8; iintro H8
      iapply (wp_store 𝒱₀ (c : Thread nD τ) (some (n + 1)) E (m := arg8) (r := Rect.unit (s := S2560x128) ![2304, 0] S256x128.size inb_S2560x128_S256x128_2304_0) (Mk := Finset.univ) ((View.setOn_subset_set _ _).trans (View.set_slice_subset _ _))) $$ H8; iintro H8
      iapply (wp_load 𝒱₀ (c : Thread nD τ) (some (n + 1)) E (m := arg7) (View.setOn_subset_set _ _)) $$ H7; iintro H7
      iapply (wp_store 𝒱₀ (c : Thread nD τ) (some (n + 1)) E (m := arg7) (r := Rect.unit (s := S1280x256) ![1024, 128] S256x128.size inb_S1280x256_S256x128_1024_128) (Mk := Finset.univ) ((View.setOn_subset_set _ _).trans (View.set_slice_subset _ _))) $$ H7; iintro H7
      iapply (wp_load 𝒱₀ (c : Thread nD τ) (some (n + 1)) E (m := arg8) (View.setOn_subset_set _ _)) $$ H8; iintro H8
      rw [readAt_tile arg3.view f3 1 n _ _ hoff, readAt_tile arg4.view f4 1 n _ _ hoff]
      have e : after10 arg2 arg3 arg4 arg7 arg8 f2 f3 f4 tab (n + 1) x f7 f8 = after10 arg2 arg3 arg4 arg7 arg8 f2 f3 f4 tab n (top (get8 arg8.view ![2304, 0] inb_S2560x128_S256x128_2304_0 (put8 arg8.view ![2304, 0] inb_S2560x128_S256x128_2304_0 f8 (stepC tab (arg2.view.readAt (Elt F) (Rect.unit (s := S1280x256) ![1024, 128] S256x128.size inb_S1280x256_S256x128_1024_128).toLoadRect f2) ((tile 1 (arg3.view.read (Elt F) f3)) n) (get8 arg8.view ![2304, 0] inb_S2560x128_S256x128_2304_0 f8))))) (put7 arg7.view ![1024, 128] inb_S1280x256_S256x128_1024_128 f7 (stepA tab (arg2.view.readAt (Elt F) (Rect.unit (s := S1280x256) ![1024, 128] S256x128.size inb_S1280x256_S256x128_1024_128).toLoadRect f2) ((tile 1 (arg3.view.read (Elt F) f3)) n) ((tile 1 (arg4.view.read (Elt F) f4)) n) (get8 arg8.view ![2304, 0] inb_S2560x128_S256x128_2304_0 f8) (get7 arg7.view ![1024, 128] inb_S1280x256_S256x128_1024_128 f7))) (put8 arg8.view ![2304, 0] inb_S2560x128_S256x128_2304_0 f8 (stepC tab (arg2.view.readAt (Elt F) (Rect.unit (s := S1280x256) ![1024, 128] S256x128.size inb_S1280x256_S256x128_1024_128).toLoadRect f2) ((tile 1 (arg3.view.read (Elt F) f3)) n) (get8 arg8.view ![2304, 0] inb_S2560x128_S256x128_2304_0 f8))) := by
        unfold after10; rw [loopBuf, if_pos hg]
      rw [e]
      iapply (wp_call_spec 𝒱₀ (c : Thread nD τ) (some (n + 1)) E (spec c arg2 arg3 arg4 arg7 arg8 f2 f3 f4 (put7 arg7.view ![1024, 128] inb_S1280x256_S256x128_1024_128 f7 (stepA tab (arg2.view.readAt (Elt F) (Rect.unit (s := S1280x256) ![1024, 128] S256x128.size inb_S1280x256_S256x128_1024_128).toLoadRect f2) ((tile 1 (arg3.view.read (Elt F) f3)) n) ((tile 1 (arg4.view.read (Elt F) f4)) n) (get8 arg8.view ![2304, 0] inb_S2560x128_S256x128_2304_0 f8) (get7 arg7.view ![1024, 128] inb_S1280x256_S256x128_1024_128 f7))) (put8 arg8.view ![2304, 0] inb_S2560x128_S256x128_2304_0 f8 (stepC tab (arg2.view.readAt (Elt F) (Rect.unit (s := S1280x256) ![1024, 128] S256x128.size inb_S1280x256_S256x128_1024_128).toLoadRect f2) ((tile 1 (arg3.view.read (Elt F) f3)) n) (get8 arg8.view ![2304, 0] inb_S2560x128_S256x128_2304_0 f8))) (after10 arg2 arg3 arg4 arg7 arg8 f2 f3 f4 tab n (top (get8 arg8.view ![2304, 0] inb_S2560x128_S256x128_2304_0 (put8 arg8.view ![2304, 0] inb_S2560x128_S256x128_2304_0 f8 (stepC tab (arg2.view.readAt (Elt F) (Rect.unit (s := S1280x256) ![1024, 128] S256x128.size inb_S1280x256_S256x128_1024_128).toLoadRect f2) ((tile 1 (arg3.view.read (Elt F) f3)) n) (get8 arg8.view ![2304, 0] inb_S2560x128_S256x128_2304_0 f8))))) (put7 arg7.view ![1024, 128] inb_S1280x256_S256x128_1024_128 f7 (stepA tab (arg2.view.readAt (Elt F) (Rect.unit (s := S1280x256) ![1024, 128] S256x128.size inb_S1280x256_S256x128_1024_128).toLoadRect f2) ((tile 1 (arg3.view.read (Elt F) f3)) n) ((tile 1 (arg4.view.read (Elt F) f4)) n) (get8 arg8.view ![2304, 0] inb_S2560x128_S256x128_2304_0 f8) (get7 arg7.view ![1024, 128] inb_S1280x256_S256x128_1024_128 f7))) (put8 arg8.view ![2304, 0] inb_S2560x128_S256x128_2304_0 f8 (stepC tab (arg2.view.readAt (Elt F) (Rect.unit (s := S1280x256) ![1024, 128] S256x128.size inb_S1280x256_S256x128_1024_128).toLoadRect f2) ((tile 1 (arg3.view.read (Elt F) f3)) n) (get8 arg8.view ![2304, 0] inb_S2560x128_S256x128_2304_0 f8))))) n
        (fun u hu => by cases hu; exact Nat.lt_succ_self n)
        (ih _ (counts_pred n (by omega)) _ _ _))
      rw [spec_apply]; unfold held
      isplitl [H2 H3 H4 H7 H8]
      · isplitl [H2]; · iexact H2
        isplitl [H3]; · iexact H3
        isplitl [H4]; · iexact H4
        isplitl [H7]; · iexact H7
        iexact H8
      iintro %r ⟨H2, H3, H4, H7, H8⟩
      rw [wp_ret]; imodintro
      iapply Hk
      isplitl [H2]; · iexact H2
      isplitl [H3]; · iexact H3
      isplitl [H4]; · iexact H4
      isplitl [H7]; · iexact H7
      iexact H8
    · have ht : ¬ Scalar.andi (1#1) (Scalar.cmpf .ogt x (Named.named κ "neg_inf" 0xC2D20000#32)) = 1#1 := fun h => hg ((andi_one_left _).mp h)
      simp only [ht, ↓reduceIte, Prog.pure_eq_ret]
      have e : after10 arg2 arg3 arg4 arg7 arg8 f2 f3 f4 tab (n + 1) x f7 f8 = (f7, f8) := by
        unfold after10; rw [loopBuf, if_neg hg]
      rw [e]
      iintro ⟨H, Hk⟩
      rw [wp_ret]; imodintro
      iapply Hk
      iexact H

end Label

end Cert.Proof.Sb

end
-- ==== Proof.SbBody.lean ====
/-
  One grid step of `_sb_attention`: what its body leaves in its output block, as a function of the four input blocks.
  A step holds ten units (five blocks of 256 rows, for each of two heads); unit `u` is rows `256 (u % 5)`, head `u / 5`.
-/
module

public import proofs.«01_k».proof.Proof.SbLoop

@[expose] public section

set_option maxRecDepth 16384

noncomputable section

namespace Cert.Proof.Sb

open Cert.Kernel8Ideal Cert.Kernel8Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (URounds (GSem nD τ sig) Unit) ℕ

/-! ### The units -/

/-- Where unit `u` lies in the block of queries, the accumulator and the output block. -/
abbrev o7 (u : Fin 10) : Fin 2 → ℕ := ![256 * (u.val % 5), 128 * (u.val / 5)]
/-- Where unit `u` lies in the carry. -/
abbrev o8 (u : Fin 10) : Fin 2 → ℕ := ![256 * u.val, 0]

/-- A unit lies inside the accumulator. -/
theorem o7_inb : ∀ (u : Fin 10) (a : Fin 2), o7 u a + S256x128.size a ≤ S1280x256.size a := by decide +kernel
/-- A unit lies inside the carry. -/
theorem o8_inb : ∀ (u : Fin 10) (a : Fin 2), o8 u a + S256x128.size a ≤ S2560x128.size a := by decide +kernel
/-- Two units do not meet in the accumulator. -/
theorem o7_ne : ∀ u k : Fin 10, u ≠ k → ∃ a : Fin 2, o7 u a + S256x128.size a ≤ o7 k a ∨ o7 k a + S256x128.size a ≤ o7 u a := by
  decide +kernel
/-- Two units do not meet in the carry. -/
theorem o8_ne : ∀ u k : Fin 10, u ≠ k → ∃ a : Fin 2, o8 u a + S256x128.size a ≤ o8 k a ∨ o8 k a + S256x128.size a ≤ o8 u a := by
  decide +kernel

/-- The queries of unit `u`. -/
def qt (x0 : Vec F S1280x256 .bf16) (u : Fin 10) : Vec F S256x128 .bf16 :=
  fun y => x0 ((Rect.unit (s := S1280x256) (o7 u) S256x128.size (o7_inb u)).emb y)

/-- The table, as the body loads it. -/
def tb (x3 : Vec F S256x256 .bf16) : Vec F S256x256 .bf16 :=
  fun y => x3 ((Rect.unit (s := S256x256) ![0, 0] S256x256.size inb_S256x256_S256x256_0_0).emb y)

/-- The number of tiles before the units' first tile, as a word. -/
def vw (i : grid0.Coords) : BitVec 32 := Scalar.muli (BitVec.ofNat 32 (i 1).val) 5#32

/-- The accumulator of unit `u` before its loop: its diagonal tile and the tile before it (when there is one). -/
def acc (i : grid0.Coords) (x0 : Vec F S1280x256 .bf16) (x1 x2 : Vec F S16640x256 .bf16) (x3 : Vec F S256x256 .bf16) (u : Fin 10) :
    Vec F S256x128 .f32 :=
  if u.val % 5 = 0 then
    k0_pay32 (k0_pay30 (vw i) (tb x3) (qt x0 u)
      (k0_pay25 (tb x3) (qt x0 u) (tile (u.val / 5) x1 (5 * (i 1).val + u.val % 5)) (tile (u.val / 5) x2 (5 * (i 1).val + u.val % 5)))
      (k0_pay26 (tb x3) (qt x0 u) (tile (u.val / 5) x1 (5 * (i 1).val + u.val % 5)))
      (tile (u.val / 5) x1 (5 * (i 1).val + u.val % 5 - 1)) (tile (u.val / 5) x2 (5 * (i 1).val + u.val % 5 - 1)))
  else stepA (tb x3) (qt x0 u) (tile (u.val / 5) x1 (5 * (i 1).val + u.val % 5 - 1)) (tile (u.val / 5) x2 (5 * (i 1).val + u.val % 5 - 1))
    (k0_pay27 (k0_pay26 (tb x3) (qt x0 u) (tile (u.val / 5) x1 (5 * (i 1).val + u.val % 5))))
    (k0_pay25 (tb x3) (qt x0 u) (tile (u.val / 5) x1 (5 * (i 1).val + u.val % 5)) (tile (u.val / 5) x2 (5 * (i 1).val + u.val % 5)))

/-- The carry of unit `u` before its loop. -/
def car (i : grid0.Coords) (x0 : Vec F S1280x256 .bf16) (x1 : Vec F S16640x256 .bf16) (x3 : Vec F S256x256 .bf16) (u : Fin 10) :
    Vec F S256x128 .f32 :=
  if u.val % 5 = 0 then
    k0_pay31 (vw i) (tb x3) (qt x0 u) (k0_pay26 (tb x3) (qt x0 u) (tile (u.val / 5) x1 (5 * (i 1).val + u.val % 5)))
      (tile (u.val / 5) x1 (5 * (i 1).val + u.val % 5 - 1))
  else stepC (tb x3) (qt x0 u) (tile (u.val / 5) x1 (5 * (i 1).val + u.val % 5 - 1))
    (k0_pay27 (k0_pay26 (tb x3) (qt x0 u) (tile (u.val / 5) x1 (5 * (i 1).val + u.val % 5))))

/-- The accumulator of unit `u` after its loop. -/
def fin (i : grid0.Coords) (x0 : Vec F S1280x256 .bf16) (x1 x2 : Vec F S16640x256 .bf16) (x3 : Vec F S256x256 .bf16) (u : Fin 10) :
    Vec F S256x128 .f32 :=
  (run (tb x3) (qt x0 u) (tile (u.val / 5) x1) (tile (u.val / 5) x2) (5 * (i 1).val + u.val % 5 - 1) (top (car i x0 x1 x3 u))
    (car i x0 x1 x3 u) (acc i x0 x1 x2 x3 u)).2

/-- The unit a position of the output block belongs to. -/
def unitOf (y : S1280x256.Idx) : Fin 10 :=
  ⟨5 * ((y 1).val / 128) + (y 0).val / 256, by
    have h0 : (y 0).val < 1280 := (y 0).isLt
    have h1 : (y 1).val < 256 := (y 1).isLt
    omega⟩

/-- The position inside its unit. -/
def inUnit (y : S1280x256.Idx) : S256x128.Idx :=
  ix2 (⟨(y 0).val % 256, Nat.mod_lt _ (by decide)⟩ : Fin 256) (⟨(y 1).val % 128, Nat.mod_lt _ (by decide)⟩ : Fin 128)

/-- What the body leaves in the output block. -/
def outBlk (i : grid0.Coords) (x0 : Vec F S1280x256 .bf16) (x1 x2 : Vec F S16640x256 .bf16) (x3 : Vec F S256x256 .bf16) :
    Vec F S1280x256 .bf16 :=
  k0_pay1 (fun y => fin i x0 x1 x2 x3 (unitOf y) (inUnit y))

/-! ### Slices of a list of writes -/

section Lists

variable (M7 : View sig .tc .vmem S1280x256 .f32) (M8 : View sig .tc .vmem S2560x128 .f32)

/-- The slice the last write filled reads what it wrote: of the accumulator … -/
theorem get7_cons (o : Fin 2 → ℕ) (h : ∀ a, o a + S256x128.size a ≤ S1280x256.size a) (f : M7.ty.Contents (Elt F))
    (w : Vec F S256x128 .f32) (L : List (View.Piece (Elt F) S1280x256 .f32)) :
    get7 M7 o h (M7.writes (Elt F) f (⟨Rect.unit (s := S1280x256) o S256x128.size h, w⟩ :: L)) = w :=
  get7_put7 M7 o h _ w
/-- … and of the carry. -/
theorem get8_cons (o : Fin 2 → ℕ) (h : ∀ a, o a + S256x128.size a ≤ S2560x128.size a) (f : M8.ty.Contents (Elt F))
    (w : Vec F S256x128 .f32) (L : List (View.Piece (Elt F) S2560x128 .f32)) :
    get8 M8 o h (M8.writes (Elt F) f (⟨Rect.unit (s := S2560x128) o S256x128.size h, w⟩ :: L)) = w :=
  get8_put8 M8 o h _ w

/-- A slice the last write did not meet reads what was there before it: of the accumulator … -/
theorem get7_cons_ne (o p : Fin 2 → ℕ) (h : ∀ a, o a + S256x128.size a ≤ S1280x256.size a) (hp : ∀ a, p a + S256x128.size a ≤ S1280x256.size a)
    (hd : ∃ a, p a + S256x128.size a ≤ o a ∨ o a + S256x128.size a ≤ p a) (f : M7.ty.Contents (Elt F))
    (w : Vec F S256x128 .f32) (L : List (View.Piece (Elt F) S1280x256 .f32)) :
    get7 M7 p hp (M7.writes (Elt F) f (⟨Rect.unit (s := S1280x256) o S256x128.size h, w⟩ :: L)) = get7 M7 p hp (M7.writes (Elt F) f L) := by
  refine funext fun y => View.read_slice_write_of_not_mem _ _ _ _ fun hm => ?_
  obtain ⟨z, -, hz⟩ := Finset.mem_map.mp hm
  obtain ⟨a, ha⟩ := hd
  have e : o a + 1 * (z a).val = p a + 1 * (y a).val := congrArg (fun t : S1280x256.Idx => (t a).val) hz
  have z1 : (z a).val < S256x128.size a := (z a).isLt
  have y1 : (y a).val < S256x128.size a := (y a).isLt
  omega
/-- … and of the carry. -/
theorem get8_cons_ne (o p : Fin 2 → ℕ) (h : ∀ a, o a + S256x128.size a ≤ S2560x128.size a) (hp : ∀ a, p a + S256x128.size a ≤ S2560x128.size a)
    (hd : ∃ a, p a + S256x128.size a ≤ o a ∨ o a + S256x128.size a ≤ p a) (f : M8.ty.Contents (Elt F))
    (w : Vec F S256x128 .f32) (L : List (View.Piece (Elt F) S2560x128 .f32)) :
    get8 M8 p hp (M8.writes (Elt F) f (⟨Rect.unit (s := S2560x128) o S256x128.size h, w⟩ :: L)) = get8 M8 p hp (M8.writes (Elt F) f L) := by
  refine funext fun y => View.read_slice_write_of_not_mem _ _ _ _ fun hm => ?_
  obtain ⟨z, -, hz⟩ := Finset.mem_map.mp hm
  obtain ⟨a, ha⟩ := hd
  have e : o a + 1 * (z a).val = p a + 1 * (y a).val := congrArg (fun t : S2560x128.Idx => (t a).val) hz
  have z1 : (z a).val < S256x128.size a := (z a).isLt
  have y1 : (y a).val < S256x128.size a := (y a).isLt
  omega

/-! ### What the scratch buffers hold between two loops -/

/-- Before loop `k`: the units before `k` are final, the others at their start. -/
def Inv7 (i : grid0.Coords) (x0 : Vec F S1280x256 .bf16) (x1 x2 : Vec F S16640x256 .bf16) (x3 : Vec F S256x256 .bf16) (k : ℕ)
    (g : M7.ty.Contents (Elt F)) : Prop :=
  ∀ u : Fin 10, get7 M7 (o7 u) (o7_inb u) g = if u.val < k then fin i x0 x1 x2 x3 u else acc i x0 x1 x2 x3 u
/-- Before loop `k`: the carries of the units from `k` on are at their start. -/
def Inv8 (i : grid0.Coords) (x0 : Vec F S1280x256 .bf16) (x1 : Vec F S16640x256 .bf16) (x3 : Vec F S256x256 .bf16) (k : ℕ)
    (g : M8.ty.Contents (Elt F)) : Prop :=
  ∀ u : Fin 10, k ≤ u.val → get8 M8 (o8 u) (o8_inb u) g = car i x0 x1 x3 u

/-- A loop takes the buffers from one stage to the next. -/
theorem stage (i : grid0.Coords) (x0 : Vec F S1280x256 .bf16) (x1 x2 : Vec F S16640x256 .bf16) (x3 : Vec F S256x256 .bf16) (k : Fin 10)
    (g7 : M7.ty.Contents (Elt F)) (g8 : M8.ty.Contents (Elt F)) (h7 : Inv7 M7 i x0 x1 x2 x3 k.val g7) (h8 : Inv8 M8 i x0 x1 x3 k.val g8)
    (x : F .f32) (hx : x = top (car i x0 x1 x3 k)) :
    Inv7 M7 i x0 x1 x2 x3 (k.val + 1) (loopBuf M7 M8 (o7 k) (o8 k) (o7_inb k) (o8_inb k) (tb x3) (qt x0 k) (tile (k.val / 5) x1)
        (tile (k.val / 5) x2) (5 * (i 1).val + k.val % 5 - 1) x g7 g8).1
      ∧ Inv8 M8 i x0 x1 x3 (k.val + 1) (loopBuf M7 M8 (o7 k) (o8 k) (o7_inb k) (o8_inb k) (tb x3) (qt x0 k) (tile (k.val / 5) x1)
        (tile (k.val / 5) x2) (5 * (i 1).val + k.val % 5 - 1) x g7 g8).2 := by
  refine ⟨fun u => ?_, fun u hu => ?_⟩
  · by_cases e : u = k
    · subst e
      rw [(loopBuf_self M7 M8 _ _ _ _ _ _ _ _ _ _ g7 g8).2, h8 u (le_refl _), h7 u, if_neg (lt_irrefl _), if_pos (Nat.lt_succ_self _), hx]
      rfl
    · rw [loopBuf_other7 M7 M8 _ _ _ _ _ _ _ _ _ (o7_inb u) (o7_ne u k e), h7 u]
      have : u.val ≠ k.val := fun h => e (Fin.ext h)
      by_cases h : u.val < k.val
      · rw [if_pos h, if_pos (by omega)]
      · rw [if_neg h, if_neg (by omega)]
  · have e : u ≠ k := fun h => by subst h; omega
    rw [loopBuf_other8 M7 M8 _ _ _ _ _ _ _ _ _ (o8_inb u) (o8_ne u k e), h8 u (by omega)]

/-- After the last loop the accumulator read as a whole is the ten units' results. -/
theorem final_read (i : grid0.Coords) (x0 : Vec F S1280x256 .bf16) (x1 x2 : Vec F S16640x256 .bf16) (x3 : Vec F S256x256 .bf16)
    (g7 : M7.ty.Contents (Elt F)) (h7 : Inv7 M7 i x0 x1 x2 x3 10 g7) (y : S1280x256.Idx) :
    M7.read (Elt F) g7 y = fin i x0 x1 x2 x3 (unitOf y) (inUnit y) := by
  have h := congrFun (h7 (unitOf y)) (inUnit y)
  rw [if_pos (unitOf y).isLt] at h
  rw [← h]
  show M7.read (Elt F) g7 y = M7.read (Elt F) g7 _
  have y0 : (y 0).val < 1280 := (y 0).isLt
  have y1 : (y 1).val < 256 := (y 1).isLt
  refine congrArg _ (funext fun a => Fin.ext ?_)
  fin_cases a
  · show (y 0).val = 256 * ((5 * ((y 1).val / 128) + (y 0).val / 256) % 5) + 1 * ((y 0).val % 256)
    omega
  · show (y 1).val = 128 * ((5 * ((y 1).val / 128) + (y 0).val / 256) / 5) + 1 * ((y 1).val % 128)
    omega

/-- The same through the box the body loads, which is the whole accumulator. -/
theorem final_readAt (i : grid0.Coords) (x0 : Vec F S1280x256 .bf16) (x1 x2 : Vec F S16640x256 .bf16) (x3 : Vec F S256x256 .bf16)
    (g7 : M7.ty.Contents (Elt F)) (h7 : Inv7 M7 i x0 x1 x2 x3 10 g7) :
    M7.readAt (Elt F) (Rect.unit (s := S1280x256) ![0, 0] S1280x256.size inb_S1280x256_S1280x256_0_0).toLoadRect g7
      = fun y : S1280x256.Idx => fin i x0 x1 x2 x3 (unitOf y) (inUnit y) := by
  refine funext fun y => ?_
  refine Eq.trans ?_ (final_read M7 i x0 x1 x2 x3 g7 h7 y)
  refine congrArg (M7.read (Elt F) g7) (funext fun a => Fin.ext ?_)
  fin_cases a
  · show 0 + 1 * (y 0).val = (y 0).val
    omega
  · show 0 + 1 * (y 1).val = (y 1).val
    omega

/-- A block written through the box that is all of it reads what was written. -/
theorem whole_read (M : View sig .tc .vmem S1280x256 .bf16) (f : M.ty.Contents (Elt F)) (w : Vec F S1280x256 .bf16) :
    M.read (Elt F) ((M.slice (Rect.unit (s := S1280x256) ![0, 0] S1280x256.size inb_S1280x256_S1280x256_0_0)).write (Elt F) f w Finset.univ) = w := by
  refine funext fun y => ?_
  refine Eq.trans ?_ (congrFun (View.read_write_univ (v := M.slice (Rect.unit (s := S1280x256) ![0, 0] S1280x256.size inb_S1280x256_S1280x256_0_0)) f w) y)
  refine congrArg (M.read (Elt F) _) (funext fun a => Fin.ext ?_)
  fin_cases a
  · show (y 0).val = 0 + 1 * (y 0).val
    omega
  · show (y 1).val = 0 + 1 * (y 1).val
    omega

end Lists

/-! ### Offsets and counters -/

/-- The rows the body loads with `k0_off1`, head 0: the diagonal tile. -/
theorem off1_eq (i : grid0.Coords) : ∀ s : Fin 5, k0_off1 i (BitVec.ofNat 32 s.val) = ![256 * (5 * (i 1).val + s.val), 128 * 0] := by
  unfold k0_off1
  generalize (i 1) = r
  revert r
  decide +kernel

/-- The rows the body loads with `k0_off2`, head 0: the tile before the diagonal one. -/
theorem off2_eq (i : grid0.Coords) : ∀ s : Fin 5, k0_off2 i (BitVec.ofNat 32 s.val) = ![256 * (5 * (i 1).val + s.val - 1), 128 * 0] := by
  unfold k0_off2
  generalize (i 1) = r
  revert r
  decide +kernel

/-- The rows the body loads with `k0_off3`, head 1: the diagonal tile. -/
theorem off3_eq (i : grid0.Coords) : ∀ s : Fin 5, k0_off3 i (BitVec.ofNat 32 s.val) = ![256 * (5 * (i 1).val + s.val), 128 * 1] := by
  unfold k0_off3
  generalize (i 1) = r
  revert r
  decide +kernel

/-- The rows the body loads with `k0_off4`, head 1: the tile before the diagonal one. -/
theorem off4_eq (i : grid0.Coords) : ∀ s : Fin 5, k0_off4 i (BitVec.ofNat 32 s.val) = ![256 * (5 * (i 1).val + s.val - 1), 128 * 1] := by
  unfold k0_off4
  generalize (i 1) = r
  revert r
  decide +kernel

/-- A loop's counter at its entry counts the tiles before the one before the diagonal. -/
theorem counts_init (i : grid0.Coords) : ∀ s : Fin 5, Counts (5 * (i 1).val + s.val - 1)
    (Scalar.subi (Scalar.addi (Scalar.muli (BitVec.ofNat 32 (i 1).val) 5#32) (BitVec.ofNat 32 s.val)) 2#32) := by
  unfold Counts
  generalize (i 1) = r
  revert r
  decide +kernel

/-! ### The body -/

set_option maxHeartbeats 8000000 in
/-- The body of one grid step: from its input blocks, `outBlk` in the output block. -/
theorem sound_kernel (c : Dev nD) (i : grid0.Coords)
    (arg2 : Memref sig .tc .vmem S1280x256 .bf16) (harg2 : arg2.IsWhole) (arg3 : Memref sig .tc .vmem S16640x256 .bf16) (harg3 : arg3.IsWhole)
    (arg4 : Memref sig .tc .vmem S16640x256 .bf16) (harg4 : arg4.IsWhole) (arg5 : Memref sig .tc .vmem S256x256 .bf16) (harg5 : arg5.IsWhole)
    (arg6 : Memref sig .tc .vmem S1280x256 .bf16) (harg6 : arg6.IsWhole) (arg7 : Memref sig .tc .vmem S1280x256 .f32) (harg7 : arg7.IsWhole)
    (arg8 : Memref sig .tc .vmem S2560x128 .f32) (harg8 : arg8.IsWhole)
    (x0 : Vec F S1280x256 .bf16) (x1 x2 : Vec F S16640x256 .bf16) (x3 : Vec F S256x256 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (outBlk i x0 x1 x2 x3) ∗ (∃ d, owns (c : Thread nD τ) arg7 fullShare d) ∗ (∃ d, owns (c : Thread nD τ) arg8 fullShare d)) -∗ K ⟨⟩))
      ⊢ wp frame (wpE (defs₀ (F := F)) 𝒱₀ c none) Set.univ (cc0_sb_attention i arg2 harg2 arg3 harg3 arg4 harg4 arg5 harg5 arg6 harg6 arg7 harg7 arg8 harg8) K := by
  simp only [cc0_sb_attention_eq_skeleton]; unfold cc0_sb_attention_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  ihave ⟨%g7, %hg7, H5⟩ : iprop(∃ g, ⌜Inv7 arg7.view i (arg2.view.read (Elt F) f0) (arg3.view.read (Elt F) f1) (arg4.view.read (Elt F) f2) (arg5.view.read (Elt F) f3) 0 g⌝ ∗ arg7.view.loc (c : Thread nD τ) ↦[arg7.view.set]{fullShare} g) $$ [H5]
  · iexists _
    isplitr [H5]
    rotate_left
    · iexact H5
    · ipureintro
      intro u
      rw [if_neg (Nat.not_lt_zero _)]
      fin_cases u
      · refine (get7_cons_ne _ _ _ _ _ (o7_ne 0 9 (by decide)) _ _ _).trans ?_
        refine (get7_cons_ne _ _ _ _ _ (o7_ne 0 8 (by decide)) _ _ _).trans ?_
        refine (get7_cons_ne _ _ _ _ _ (o7_ne 0 7 (by decide)) _ _ _).trans ?_
        refine (get7_cons_ne _ _ _ _ _ (o7_ne 0 6 (by decide)) _ _ _).trans ?_
        refine (get7_cons_ne _ _ _ _ _ (o7_ne 0 5 (by decide)) _ _ _).trans ?_
        refine (get7_cons_ne _ _ _ _ _ (o7_ne 0 4 (by decide)) _ _ _).trans ?_
        refine (get7_cons_ne _ _ _ _ _ (o7_ne 0 3 (by decide)) _ _ _).trans ?_
        refine (get7_cons_ne _ _ _ _ _ (o7_ne 0 2 (by decide)) _ _ _).trans ?_
        refine (get7_cons_ne _ _ _ _ _ (o7_ne 0 1 (by decide)) _ _ _).trans ?_
        refine (get7_cons _ _ _ _ _ _).trans ?_
        unfold acc
        rw [if_pos (by decide)]
        have hk := readAt_tile arg3.view f1 0 _ _ (k0_off1_inb i 0) (off1_eq i 0)
        have hkb := readAt_tile arg3.view f1 0 _ _ (k0_off2_inb i 0) (off2_eq i 0)
        have hv := readAt_tile arg4.view f2 0 _ _ (k0_off1_inb i 0) (off1_eq i 0)
        have hvb := readAt_tile arg4.view f2 0 _ _ (k0_off2_inb i 0) (off2_eq i 0)
        show _ = k0_pay32 (k0_pay30 (vw i) (tb (arg5.view.read (Elt F) f3)) (qt (arg2.view.read (Elt F) f0) 0) (k0_pay25 (tb (arg5.view.read (Elt F) f3)) (qt (arg2.view.read (Elt F) f0) 0) (tile 0 (arg3.view.read (Elt F) f1) (5 * (i 1).val + ((0 : Fin 5).val))) (tile 0 (arg4.view.read (Elt F) f2) (5 * (i 1).val + ((0 : Fin 5).val)))) (k0_pay26 (tb (arg5.view.read (Elt F) f3)) (qt (arg2.view.read (Elt F) f0) 0) (tile 0 (arg3.view.read (Elt F) f1) (5 * (i 1).val + ((0 : Fin 5).val)))) (tile 0 (arg3.view.read (Elt F) f1) (5 * (i 1).val + ((0 : Fin 5).val) - 1)) (tile 0 (arg4.view.read (Elt F) f2) (5 * (i 1).val + ((0 : Fin 5).val) - 1)))
        rw [← hk, ← hkb, ← hv, ← hvb]
        rfl
      · refine (get7_cons_ne _ _ _ _ _ (o7_ne 1 9 (by decide)) _ _ _).trans ?_
        refine (get7_cons_ne _ _ _ _ _ (o7_ne 1 8 (by decide)) _ _ _).trans ?_
        refine (get7_cons_ne _ _ _ _ _ (o7_ne 1 7 (by decide)) _ _ _).trans ?_
        refine (get7_cons_ne _ _ _ _ _ (o7_ne 1 6 (by decide)) _ _ _).trans ?_
        refine (get7_cons_ne _ _ _ _ _ (o7_ne 1 5 (by decide)) _ _ _).trans ?_
        refine (get7_cons_ne _ _ _ _ _ (o7_ne 1 4 (by decide)) _ _ _).trans ?_
        refine (get7_cons_ne _ _ _ _ _ (o7_ne 1 3 (by decide)) _ _ _).trans ?_
        refine (get7_cons_ne _ _ _ _ _ (o7_ne 1 2 (by decide)) _ _ _).trans ?_
        refine (get7_cons _ _ _ _ _ _).trans ?_
        unfold acc
        rw [if_neg (by decide)]
        have hk := readAt_tile arg3.view f1 0 _ _ (k0_off1_inb i 1) (off1_eq i 1)
        have hkb := readAt_tile arg3.view f1 0 _ _ (k0_off2_inb i 1) (off2_eq i 1)
        have hv := readAt_tile arg4.view f2 0 _ _ (k0_off1_inb i 1) (off1_eq i 1)
        have hvb := readAt_tile arg4.view f2 0 _ _ (k0_off2_inb i 1) (off2_eq i 1)
        show _ = stepA (tb (arg5.view.read (Elt F) f3)) (qt (arg2.view.read (Elt F) f0) 1) (tile 0 (arg3.view.read (Elt F) f1) (5 * (i 1).val + ((1 : Fin 5).val) - 1)) (tile 0 (arg4.view.read (Elt F) f2) (5 * (i 1).val + ((1 : Fin 5).val) - 1)) (k0_pay27 (k0_pay26 (tb (arg5.view.read (Elt F) f3)) (qt (arg2.view.read (Elt F) f0) 1) (tile 0 (arg3.view.read (Elt F) f1) (5 * (i 1).val + ((1 : Fin 5).val))))) (k0_pay25 (tb (arg5.view.read (Elt F) f3)) (qt (arg2.view.read (Elt F) f0) 1) (tile 0 (arg3.view.read (Elt F) f1) (5 * (i 1).val + ((1 : Fin 5).val))) (tile 0 (arg4.view.read (Elt F) f2) (5 * (i 1).val + ((1 : Fin 5).val))))
        rw [← hk, ← hkb, ← hv, ← hvb]
        rfl
      · refine (get7_cons_ne _ _ _ _ _ (o7_ne 2 9 (by decide)) _ _ _).trans ?_
        refine (get7_cons_ne _ _ _ _ _ (o7_ne 2 8 (by decide)) _ _ _).trans ?_
        refine (get7_cons_ne _ _ _ _ _ (o7_ne 2 7 (by decide)) _ _ _).trans ?_
        refine (get7_cons_ne _ _ _ _ _ (o7_ne 2 6 (by decide)) _ _ _).trans ?_
        refine (get7_cons_ne _ _ _ _ _ (o7_ne 2 5 (by decide)) _ _ _).trans ?_
        refine (get7_cons_ne _ _ _ _ _ (o7_ne 2 4 (by decide)) _ _ _).trans ?_
        refine (get7_cons_ne _ _ _ _ _ (o7_ne 2 3 (by decide)) _ _ _).trans ?_
        refine (get7_cons _ _ _ _ _ _).trans ?_
        unfold acc
        rw [if_neg (by decide)]
        have hk := readAt_tile arg3.view f1 0 _ _ (k0_off1_inb i 2) (off1_eq i 2)
        have hkb := readAt_tile arg3.view f1 0 _ _ (k0_off2_inb i 2) (off2_eq i 2)
        have hv := readAt_tile arg4.view f2 0 _ _ (k0_off1_inb i 2) (off1_eq i 2)
        have hvb := readAt_tile arg4.view f2 0 _ _ (k0_off2_inb i 2) (off2_eq i 2)
        show _ = stepA (tb (arg5.view.read (Elt F) f3)) (qt (arg2.view.read (Elt F) f0) 2) (tile 0 (arg3.view.read (Elt F) f1) (5 * (i 1).val + ((2 : Fin 5).val) - 1)) (tile 0 (arg4.view.read (Elt F) f2) (5 * (i 1).val + ((2 : Fin 5).val) - 1)) (k0_pay27 (k0_pay26 (tb (arg5.view.read (Elt F) f3)) (qt (arg2.view.read (Elt F) f0) 2) (tile 0 (arg3.view.read (Elt F) f1) (5 * (i 1).val + ((2 : Fin 5).val))))) (k0_pay25 (tb (arg5.view.read (Elt F) f3)) (qt (arg2.view.read (Elt F) f0) 2) (tile 0 (arg3.view.read (Elt F) f1) (5 * (i 1).val + ((2 : Fin 5).val))) (tile 0 (arg4.view.read (Elt F) f2) (5 * (i 1).val + ((2 : Fin 5).val))))
        rw [← hk, ← hkb, ← hv, ← hvb]
        rfl
      · refine (get7_cons_ne _ _ _ _ _ (o7_ne 3 9 (by decide)) _ _ _).trans ?_
        refine (get7_cons_ne _ _ _ _ _ (o7_ne 3 8 (by decide)) _ _ _).trans ?_
        refine (get7_cons_ne _ _ _ _ _ (o7_ne 3 7 (by decide)) _ _ _).trans ?_
        refine (get7_cons_ne _ _ _ _ _ (o7_ne 3 6 (by decide)) _ _ _).trans ?_
        refine (get7_cons_ne _ _ _ _ _ (o7_ne 3 5 (by decide)) _ _ _).trans ?_
        refine (get7_cons_ne _ _ _ _ _ (o7_ne 3 4 (by decide)) _ _ _).trans ?_
        refine (get7_cons _ _ _ _ _ _).trans ?_
        unfold acc
        rw [if_neg (by decide)]
        have hk := readAt_tile arg3.view f1 0 _ _ (k0_off1_inb i 3) (off1_eq i 3)
        have hkb := readAt_tile arg3.view f1 0 _ _ (k0_off2_inb i 3) (off2_eq i 3)
        have hv := readAt_tile arg4.view f2 0 _ _ (k0_off1_inb i 3) (off1_eq i 3)
        have hvb := readAt_tile arg4.view f2 0 _ _ (k0_off2_inb i 3) (off2_eq i 3)
        show _ = stepA (tb (arg5.view.read (Elt F) f3)) (qt (arg2.view.read (Elt F) f0) 3) (tile 0 (arg3.view.read (Elt F) f1) (5 * (i 1).val + ((3 : Fin 5).val) - 1)) (tile 0 (arg4.view.read (Elt F) f2) (5 * (i 1).val + ((3 : Fin 5).val) - 1)) (k0_pay27 (k0_pay26 (tb (arg5.view.read (Elt F) f3)) (qt (arg2.view.read (Elt F) f0) 3) (tile 0 (arg3.view.read (Elt F) f1) (5 * (i 1).val + ((3 : Fin 5).val))))) (k0_pay25 (tb (arg5.view.read (Elt F) f3)) (qt (arg2.view.read (Elt F) f0) 3) (tile 0 (arg3.view.read (Elt F) f1) (5 * (i 1).val + ((3 : Fin 5).val))) (tile 0 (arg4.view.read (Elt F) f2) (5 * (i 1).val + ((3 : Fin 5).val))))
        rw [← hk, ← hkb, ← hv, ← hvb]
        rfl
      · refine (get7_cons_ne _ _ _ _ _ (o7_ne 4 9 (by decide)) _ _ _).trans ?_
        refine (get7_cons_ne _ _ _ _ _ (o7_ne 4 8 (by decide)) _ _ _).trans ?_
        refine (get7_cons_ne _ _ _ _ _ (o7_ne 4 7 (by decide)) _ _ _).trans ?_
        refine (get7_cons_ne _ _ _ _ _ (o7_ne 4 6 (by decide)) _ _ _).trans ?_
        refine (get7_cons_ne _ _ _ _ _ (o7_ne 4 5 (by decide)) _ _ _).trans ?_
        refine (get7_cons _ _ _ _ _ _).trans ?_
        unfold acc
        rw [if_neg (by decide)]
        have hk := readAt_tile arg3.view f1 0 _ _ (k0_off1_inb i 4) (off1_eq i 4)
        have hkb := readAt_tile arg3.view f1 0 _ _ (k0_off2_inb i 4) (off2_eq i 4)
        have hv := readAt_tile arg4.view f2 0 _ _ (k0_off1_inb i 4) (off1_eq i 4)
        have hvb := readAt_tile arg4.view f2 0 _ _ (k0_off2_inb i 4) (off2_eq i 4)
        show _ = stepA (tb (arg5.view.read (Elt F) f3)) (qt (arg2.view.read (Elt F) f0) 4) (tile 0 (arg3.view.read (Elt F) f1) (5 * (i 1).val + ((4 : Fin 5).val) - 1)) (tile 0 (arg4.view.read (Elt F) f2) (5 * (i 1).val + ((4 : Fin 5).val) - 1)) (k0_pay27 (k0_pay26 (tb (arg5.view.read (Elt F) f3)) (qt (arg2.view.read (Elt F) f0) 4) (tile 0 (arg3.view.read (Elt F) f1) (5 * (i 1).val + ((4 : Fin 5).val))))) (k0_pay25 (tb (arg5.view.read (Elt F) f3)) (qt (arg2.view.read (Elt F) f0) 4) (tile 0 (arg3.view.read (Elt F) f1) (5 * (i 1).val + ((4 : Fin 5).val))) (tile 0 (arg4.view.read (Elt F) f2) (5 * (i 1).val + ((4 : Fin 5).val))))
        rw [← hk, ← hkb, ← hv, ← hvb]
        rfl
      · refine (get7_cons_ne _ _ _ _ _ (o7_ne 5 9 (by decide)) _ _ _).trans ?_
        refine (get7_cons_ne _ _ _ _ _ (o7_ne 5 8 (by decide)) _ _ _).trans ?_
        refine (get7_cons_ne _ _ _ _ _ (o7_ne 5 7 (by decide)) _ _ _).trans ?_
        refine (get7_cons_ne _ _ _ _ _ (o7_ne 5 6 (by decide)) _ _ _).trans ?_
        refine (get7_cons _ _ _ _ _ _).trans ?_
        unfold acc
        rw [if_pos (by decide)]
        have hk := readAt_tile arg3.view f1 1 _ _ (k0_off3_inb i 0) (off3_eq i 0)
        have hkb := readAt_tile arg3.view f1 1 _ _ (k0_off4_inb i 0) (off4_eq i 0)
        have hv := readAt_tile arg4.view f2 1 _ _ (k0_off3_inb i 0) (off3_eq i 0)
        have hvb := readAt_tile arg4.view f2 1 _ _ (k0_off4_inb i 0) (off4_eq i 0)
        show _ = k0_pay32 (k0_pay30 (vw i) (tb (arg5.view.read (Elt F) f3)) (qt (arg2.view.read (Elt F) f0) 5) (k0_pay25 (tb (arg5.view.read (Elt F) f3)) (qt (arg2.view.read (Elt F) f0) 5) (tile 1 (arg3.view.read (Elt F) f1) (5 * (i 1).val + ((0 : Fin 5).val))) (tile 1 (arg4.view.read (Elt F) f2) (5 * (i 1).val + ((0 : Fin 5).val)))) (k0_pay26 (tb (arg5.view.read (Elt F) f3)) (qt (arg2.view.read (Elt F) f0) 5) (tile 1 (arg3.view.read (Elt F) f1) (5 * (i 1).val + ((0 : Fin 5).val)))) (tile 1 (arg3.view.read (Elt F) f1) (5 * (i 1).val + ((0 : Fin 5).val) - 1)) (tile 1 (arg4.view.read (Elt F) f2) (5 * (i 1).val + ((0 : Fin 5).val) - 1)))
        rw [← hk, ← hkb, ← hv, ← hvb]
        rfl
      · refine (get7_cons_ne _ _ _ _ _ (o7_ne 6 9 (by decide)) _ _ _).trans ?_
        refine (get7_cons_ne _ _ _ _ _ (o7_ne 6 8 (by decide)) _ _ _).trans ?_
        refine (get7_cons_ne _ _ _ _ _ (o7_ne 6 7 (by decide)) _ _ _).trans ?_
        refine (get7_cons _ _ _ _ _ _).trans ?_
        unfold acc
        rw [if_neg (by decide)]
        have hk := readAt_tile arg3.view f1 1 _ _ (k0_off3_inb i 1) (off3_eq i 1)
        have hkb := readAt_tile arg3.view f1 1 _ _ (k0_off4_inb i 1) (off4_eq i 1)
        have hv := readAt_tile arg4.view f2 1 _ _ (k0_off3_inb i 1) (off3_eq i 1)
        have hvb := readAt_tile arg4.view f2 1 _ _ (k0_off4_inb i 1) (off4_eq i 1)
        show _ = stepA (tb (arg5.view.read (Elt F) f3)) (qt (arg2.view.read (Elt F) f0) 6) (tile 1 (arg3.view.read (Elt F) f1) (5 * (i 1).val + ((1 : Fin 5).val) - 1)) (tile 1 (arg4.view.read (Elt F) f2) (5 * (i 1).val + ((1 : Fin 5).val) - 1)) (k0_pay27 (k0_pay26 (tb (arg5.view.read (Elt F) f3)) (qt (arg2.view.read (Elt F) f0) 6) (tile 1 (arg3.view.read (Elt F) f1) (5 * (i 1).val + ((1 : Fin 5).val))))) (k0_pay25 (tb (arg5.view.read (Elt F) f3)) (qt (arg2.view.read (Elt F) f0) 6) (tile 1 (arg3.view.read (Elt F) f1) (5 * (i 1).val + ((1 : Fin 5).val))) (tile 1 (arg4.view.read (Elt F) f2) (5 * (i 1).val + ((1 : Fin 5).val))))
        rw [← hk, ← hkb, ← hv, ← hvb]
        rfl
      · refine (get7_cons_ne _ _ _ _ _ (o7_ne 7 9 (by decide)) _ _ _).trans ?_
        refine (get7_cons_ne _ _ _ _ _ (o7_ne 7 8 (by decide)) _ _ _).trans ?_
        refine (get7_cons _ _ _ _ _ _).trans ?_
        unfold acc
        rw [if_neg (by decide)]
        have hk := readAt_tile arg3.view f1 1 _ _ (k0_off3_inb i 2) (off3_eq i 2)
        have hkb := readAt_tile arg3.view f1 1 _ _ (k0_off4_inb i 2) (off4_eq i 2)
        have hv := readAt_tile arg4.view f2 1 _ _ (k0_off3_inb i 2) (off3_eq i 2)
        have hvb := readAt_tile arg4.view f2 1 _ _ (k0_off4_inb i 2) (off4_eq i 2)
        show _ = stepA (tb (arg5.view.read (Elt F) f3)) (qt (arg2.view.read (Elt F) f0) 7) (tile 1 (arg3.view.read (Elt F) f1) (5 * (i 1).val + ((2 : Fin 5).val) - 1)) (tile 1 (arg4.view.read (Elt F) f2) (5 * (i 1).val + ((2 : Fin 5).val) - 1)) (k0_pay27 (k0_pay26 (tb (arg5.view.read (Elt F) f3)) (qt (arg2.view.read (Elt F) f0) 7) (tile 1 (arg3.view.read (Elt F) f1) (5 * (i 1).val + ((2 : Fin 5).val))))) (k0_pay25 (tb (arg5.view.read (Elt F) f3)) (qt (arg2.view.read (Elt F) f0) 7) (tile 1 (arg3.view.read (Elt F) f1) (5 * (i 1).val + ((2 : Fin 5).val))) (tile 1 (arg4.view.read (Elt F) f2) (5 * (i 1).val + ((2 : Fin 5).val))))
        rw [← hk, ← hkb, ← hv, ← hvb]
        rfl
      · refine (get7_cons_ne _ _ _ _ _ (o7_ne 8 9 (by decide)) _ _ _).trans ?_
        refine (get7_cons _ _ _ _ _ _).trans ?_
        unfold acc
        rw [if_neg (by decide)]
        have hk := readAt_tile arg3.view f1 1 _ _ (k0_off3_inb i 3) (off3_eq i 3)
        have hkb := readAt_tile arg3.view f1 1 _ _ (k0_off4_inb i 3) (off4_eq i 3)
        have hv := readAt_tile arg4.view f2 1 _ _ (k0_off3_inb i 3) (off3_eq i 3)
        have hvb := readAt_tile arg4.view f2 1 _ _ (k0_off4_inb i 3) (off4_eq i 3)
        show _ = stepA (tb (arg5.view.read (Elt F) f3)) (qt (arg2.view.read (Elt F) f0) 8) (tile 1 (arg3.view.read (Elt F) f1) (5 * (i 1).val + ((3 : Fin 5).val) - 1)) (tile 1 (arg4.view.read (Elt F) f2) (5 * (i 1).val + ((3 : Fin 5).val) - 1)) (k0_pay27 (k0_pay26 (tb (arg5.view.read (Elt F) f3)) (qt (arg2.view.read (Elt F) f0) 8) (tile 1 (arg3.view.read (Elt F) f1) (5 * (i 1).val + ((3 : Fin 5).val))))) (k0_pay25 (tb (arg5.view.read (Elt F) f3)) (qt (arg2.view.read (Elt F) f0) 8) (tile 1 (arg3.view.read (Elt F) f1) (5 * (i 1).val + ((3 : Fin 5).val))) (tile 1 (arg4.view.read (Elt F) f2) (5 * (i 1).val + ((3 : Fin 5).val))))
        rw [← hk, ← hkb, ← hv, ← hvb]
        rfl
      · refine (get7_cons _ _ _ _ _ _).trans ?_
        unfold acc
        rw [if_neg (by decide)]
        have hk := readAt_tile arg3.view f1 1 _ _ (k0_off3_inb i 4) (off3_eq i 4)
        have hkb := readAt_tile arg3.view f1 1 _ _ (k0_off4_inb i 4) (off4_eq i 4)
        have hv := readAt_tile arg4.view f2 1 _ _ (k0_off3_inb i 4) (off3_eq i 4)
        have hvb := readAt_tile arg4.view f2 1 _ _ (k0_off4_inb i 4) (off4_eq i 4)
        show _ = stepA (tb (arg5.view.read (Elt F) f3)) (qt (arg2.view.read (Elt F) f0) 9) (tile 1 (arg3.view.read (Elt F) f1) (5 * (i 1).val + ((4 : Fin 5).val) - 1)) (tile 1 (arg4.view.read (Elt F) f2) (5 * (i 1).val + ((4 : Fin 5).val) - 1)) (k0_pay27 (k0_pay26 (tb (arg5.view.read (Elt F) f3)) (qt (arg2.view.read (Elt F) f0) 9) (tile 1 (arg3.view.read (Elt F) f1) (5 * (i 1).val + ((4 : Fin 5).val))))) (k0_pay25 (tb (arg5.view.read (Elt F) f3)) (qt (arg2.view.read (Elt F) f0) 9) (tile 1 (arg3.view.read (Elt F) f1) (5 * (i 1).val + ((4 : Fin 5).val))) (tile 1 (arg4.view.read (Elt F) f2) (5 * (i 1).val + ((4 : Fin 5).val))))
        rw [← hk, ← hkb, ← hv, ← hvb]
        rfl
  have hcar : ∀ f, Inv8 arg8.view i (arg2.view.read (Elt F) f0) (arg3.view.read (Elt F) f1) (arg5.view.read (Elt F) f3) 0 (arg8.view.writes (Elt F) f (sound_kernel.sl.H6_10 c i arg2 arg3 arg5 f0 f1 f3)) := by
    intro f u hu
    clear hu
    fin_cases u
    · refine (get8_cons_ne _ _ _ _ _ (o8_ne 0 9 (by decide)) _ _ _).trans ?_
      refine (get8_cons_ne _ _ _ _ _ (o8_ne 0 8 (by decide)) _ _ _).trans ?_
      refine (get8_cons_ne _ _ _ _ _ (o8_ne 0 7 (by decide)) _ _ _).trans ?_
      refine (get8_cons_ne _ _ _ _ _ (o8_ne 0 6 (by decide)) _ _ _).trans ?_
      refine (get8_cons_ne _ _ _ _ _ (o8_ne 0 5 (by decide)) _ _ _).trans ?_
      refine (get8_cons_ne _ _ _ _ _ (o8_ne 0 4 (by decide)) _ _ _).trans ?_
      refine (get8_cons_ne _ _ _ _ _ (o8_ne 0 3 (by decide)) _ _ _).trans ?_
      refine (get8_cons_ne _ _ _ _ _ (o8_ne 0 2 (by decide)) _ _ _).trans ?_
      refine (get8_cons_ne _ _ _ _ _ (o8_ne 0 1 (by decide)) _ _ _).trans ?_
      refine (get8_cons _ _ _ _ _ _).trans ?_
      unfold car
      rw [if_pos (by decide)]
      have hk := readAt_tile arg3.view f1 0 _ _ (k0_off1_inb i 0) (off1_eq i 0)
      have hkb := readAt_tile arg3.view f1 0 _ _ (k0_off2_inb i 0) (off2_eq i 0)
      have hv := readAt_tile arg4.view f2 0 _ _ (k0_off1_inb i 0) (off1_eq i 0)
      have hvb := readAt_tile arg4.view f2 0 _ _ (k0_off2_inb i 0) (off2_eq i 0)
      show _ = k0_pay31 (vw i) (tb (arg5.view.read (Elt F) f3)) (qt (arg2.view.read (Elt F) f0) 0) (k0_pay26 (tb (arg5.view.read (Elt F) f3)) (qt (arg2.view.read (Elt F) f0) 0) (tile 0 (arg3.view.read (Elt F) f1) (5 * (i 1).val + ((0 : Fin 5).val)))) (tile 0 (arg3.view.read (Elt F) f1) (5 * (i 1).val + ((0 : Fin 5).val) - 1))
      rw [← hk, ← hkb]
      rfl
    · refine (get8_cons_ne _ _ _ _ _ (o8_ne 1 9 (by decide)) _ _ _).trans ?_
      refine (get8_cons_ne _ _ _ _ _ (o8_ne 1 8 (by decide)) _ _ _).trans ?_
      refine (get8_cons_ne _ _ _ _ _ (o8_ne 1 7 (by decide)) _ _ _).trans ?_
      refine (get8_cons_ne _ _ _ _ _ (o8_ne 1 6 (by decide)) _ _ _).trans ?_
      refine (get8_cons_ne _ _ _ _ _ (o8_ne 1 5 (by decide)) _ _ _).trans ?_
      refine (get8_cons_ne _ _ _ _ _ (o8_ne 1 4 (by decide)) _ _ _).trans ?_
      refine (get8_cons_ne _ _ _ _ _ (o8_ne 1 3 (by decide)) _ _ _).trans ?_
      refine (get8_cons_ne _ _ _ _ _ (o8_ne 1 2 (by decide)) _ _ _).trans ?_
      refine (get8_cons _ _ _ _ _ _).trans ?_
      unfold car
      rw [if_neg (by decide)]
      have hk := readAt_tile arg3.view f1 0 _ _ (k0_off1_inb i 1) (off1_eq i 1)
      have hkb := readAt_tile arg3.view f1 0 _ _ (k0_off2_inb i 1) (off2_eq i 1)
      have hv := readAt_tile arg4.view f2 0 _ _ (k0_off1_inb i 1) (off1_eq i 1)
      have hvb := readAt_tile arg4.view f2 0 _ _ (k0_off2_inb i 1) (off2_eq i 1)
      show _ = stepC (tb (arg5.view.read (Elt F) f3)) (qt (arg2.view.read (Elt F) f0) 1) (tile 0 (arg3.view.read (Elt F) f1) (5 * (i 1).val + ((1 : Fin 5).val) - 1)) (k0_pay27 (k0_pay26 (tb (arg5.view.read (Elt F) f3)) (qt (arg2.view.read (Elt F) f0) 1) (tile 0 (arg3.view.read (Elt F) f1) (5 * (i 1).val + ((1 : Fin 5).val)))))
      rw [← hk, ← hkb]
      rfl
    · refine (get8_cons_ne _ _ _ _ _ (o8_ne 2 9 (by decide)) _ _ _).trans ?_
      refine (get8_cons_ne _ _ _ _ _ (o8_ne 2 8 (by decide)) _ _ _).trans ?_
      refine (get8_cons_ne _ _ _ _ _ (o8_ne 2 7 (by decide)) _ _ _).trans ?_
      refine (get8_cons_ne _ _ _ _ _ (o8_ne 2 6 (by decide)) _ _ _).trans ?_
      refine (get8_cons_ne _ _ _ _ _ (o8_ne 2 5 (by decide)) _ _ _).trans ?_
      refine (get8_cons_ne _ _ _ _ _ (o8_ne 2 4 (by decide)) _ _ _).trans ?_
      refine (get8_cons_ne _ _ _ _ _ (o8_ne 2 3 (by decide)) _ _ _).trans ?_
      refine (get8_cons _ _ _ _ _ _).trans ?_
      unfold car
      rw [if_neg (by decide)]
      have hk := readAt_tile arg3.view f1 0 _ _ (k0_off1_inb i 2) (off1_eq i 2)
      have hkb := readAt_tile arg3.view f1 0 _ _ (k0_off2_inb i 2) (off2_eq i 2)
      have hv := readAt_tile arg4.view f2 0 _ _ (k0_off1_inb i 2) (off1_eq i 2)
      have hvb := readAt_tile arg4.view f2 0 _ _ (k0_off2_inb i 2) (off2_eq i 2)
      show _ = stepC (tb (arg5.view.read (Elt F) f3)) (qt (arg2.view.read (Elt F) f0) 2) (tile 0 (arg3.view.read (Elt F) f1) (5 * (i 1).val + ((2 : Fin 5).val) - 1)) (k0_pay27 (k0_pay26 (tb (arg5.view.read (Elt F) f3)) (qt (arg2.view.read (Elt F) f0) 2) (tile 0 (arg3.view.read (Elt F) f1) (5 * (i 1).val + ((2 : Fin 5).val)))))
      rw [← hk, ← hkb]
      rfl
    · refine (get8_cons_ne _ _ _ _ _ (o8_ne 3 9 (by decide)) _ _ _).trans ?_
      refine (get8_cons_ne _ _ _ _ _ (o8_ne 3 8 (by decide)) _ _ _).trans ?_
      refine (get8_cons_ne _ _ _ _ _ (o8_ne 3 7 (by decide)) _ _ _).trans ?_
      refine (get8_cons_ne _ _ _ _ _ (o8_ne 3 6 (by decide)) _ _ _).trans ?_
      refine (get8_cons_ne _ _ _ _ _ (o8_ne 3 5 (by decide)) _ _ _).trans ?_
      refine (get8_cons_ne _ _ _ _ _ (o8_ne 3 4 (by decide)) _ _ _).trans ?_
      refine (get8_cons _ _ _ _ _ _).trans ?_
      unfold car
      rw [if_neg (by decide)]
      have hk := readAt_tile arg3.view f1 0 _ _ (k0_off1_inb i 3) (off1_eq i 3)
      have hkb := readAt_tile arg3.view f1 0 _ _ (k0_off2_inb i 3) (off2_eq i 3)
      have hv := readAt_tile arg4.view f2 0 _ _ (k0_off1_inb i 3) (off1_eq i 3)
      have hvb := readAt_tile arg4.view f2 0 _ _ (k0_off2_inb i 3) (off2_eq i 3)
      show _ = stepC (tb (arg5.view.read (Elt F) f3)) (qt (arg2.view.read (Elt F) f0) 3) (tile 0 (arg3.view.read (Elt F) f1) (5 * (i 1).val + ((3 : Fin 5).val) - 1)) (k0_pay27 (k0_pay26 (tb (arg5.view.read (Elt F) f3)) (qt (arg2.view.read (Elt F) f0) 3) (tile 0 (arg3.view.read (Elt F) f1) (5 * (i 1).val + ((3 : Fin 5).val)))))
      rw [← hk, ← hkb]
      rfl
    · refine (get8_cons_ne _ _ _ _ _ (o8_ne 4 9 (by decide)) _ _ _).trans ?_
      refine (get8_cons_ne _ _ _ _ _ (o8_ne 4 8 (by decide)) _ _ _).trans ?_
      refine (get8_cons_ne _ _ _ _ _ (o8_ne 4 7 (by decide)) _ _ _).trans ?_
      refine (get8_cons_ne _ _ _ _ _ (o8_ne 4 6 (by decide)) _ _ _).trans ?_
      refine (get8_cons_ne _ _ _ _ _ (o8_ne 4 5 (by decide)) _ _ _).trans ?_
      refine (get8_cons _ _ _ _ _ _).trans ?_
      unfold car
      rw [if_neg (by decide)]
      have hk := readAt_tile arg3.view f1 0 _ _ (k0_off1_inb i 4) (off1_eq i 4)
      have hkb := readAt_tile arg3.view f1 0 _ _ (k0_off2_inb i 4) (off2_eq i 4)
      have hv := readAt_tile arg4.view f2 0 _ _ (k0_off1_inb i 4) (off1_eq i 4)
      have hvb := readAt_tile arg4.view f2 0 _ _ (k0_off2_inb i 4) (off2_eq i 4)
      show _ = stepC (tb (arg5.view.read (Elt F) f3)) (qt (arg2.view.read (Elt F) f0) 4) (tile 0 (arg3.view.read (Elt F) f1) (5 * (i 1).val + ((4 : Fin 5).val) - 1)) (k0_pay27 (k0_pay26 (tb (arg5.view.read (Elt F) f3)) (qt (arg2.view.read (Elt F) f0) 4) (tile 0 (arg3.view.read (Elt F) f1) (5 * (i 1).val + ((4 : Fin 5).val)))))
      rw [← hk, ← hkb]
      rfl
    · refine (get8_cons_ne _ _ _ _ _ (o8_ne 5 9 (by decide)) _ _ _).trans ?_
      refine (get8_cons_ne _ _ _ _ _ (o8_ne 5 8 (by decide)) _ _ _).trans ?_
      refine (get8_cons_ne _ _ _ _ _ (o8_ne 5 7 (by decide)) _ _ _).trans ?_
      refine (get8_cons_ne _ _ _ _ _ (o8_ne 5 6 (by decide)) _ _ _).trans ?_
      refine (get8_cons _ _ _ _ _ _).trans ?_
      unfold car
      rw [if_pos (by decide)]
      have hk := readAt_tile arg3.view f1 1 _ _ (k0_off3_inb i 0) (off3_eq i 0)
      have hkb := readAt_tile arg3.view f1 1 _ _ (k0_off4_inb i 0) (off4_eq i 0)
      have hv := readAt_tile arg4.view f2 1 _ _ (k0_off3_inb i 0) (off3_eq i 0)
      have hvb := readAt_tile arg4.view f2 1 _ _ (k0_off4_inb i 0) (off4_eq i 0)
      show _ = k0_pay31 (vw i) (tb (arg5.view.read (Elt F) f3)) (qt (arg2.view.read (Elt F) f0) 5) (k0_pay26 (tb (arg5.view.read (Elt F) f3)) (qt (arg2.view.read (Elt F) f0) 5) (tile 1 (arg3.view.read (Elt F) f1) (5 * (i 1).val + ((0 : Fin 5).val)))) (tile 1 (arg3.view.read (Elt F) f1) (5 * (i 1).val + ((0 : Fin 5).val) - 1))
      rw [← hk, ← hkb]
      rfl
    · refine (get8_cons_ne _ _ _ _ _ (o8_ne 6 9 (by decide)) _ _ _).trans ?_
      refine (get8_cons_ne _ _ _ _ _ (o8_ne 6 8 (by decide)) _ _ _).trans ?_
      refine (get8_cons_ne _ _ _ _ _ (o8_ne 6 7 (by decide)) _ _ _).trans ?_
      refine (get8_cons _ _ _ _ _ _).trans ?_
      unfold car
      rw [if_neg (by decide)]
      have hk := readAt_tile arg3.view f1 1 _ _ (k0_off3_inb i 1) (off3_eq i 1)
      have hkb := readAt_tile arg3.view f1 1 _ _ (k0_off4_inb i 1) (off4_eq i 1)
      have hv := readAt_tile arg4.view f2 1 _ _ (k0_off3_inb i 1) (off3_eq i 1)
      have hvb := readAt_tile arg4.view f2 1 _ _ (k0_off4_inb i 1) (off4_eq i 1)
      show _ = stepC (tb (arg5.view.read (Elt F) f3)) (qt (arg2.view.read (Elt F) f0) 6) (tile 1 (arg3.view.read (Elt F) f1) (5 * (i 1).val + ((1 : Fin 5).val) - 1)) (k0_pay27 (k0_pay26 (tb (arg5.view.read (Elt F) f3)) (qt (arg2.view.read (Elt F) f0) 6) (tile 1 (arg3.view.read (Elt F) f1) (5 * (i 1).val + ((1 : Fin 5).val)))))
      rw [← hk, ← hkb]
      rfl
    · refine (get8_cons_ne _ _ _ _ _ (o8_ne 7 9 (by decide)) _ _ _).trans ?_
      refine (get8_cons_ne _ _ _ _ _ (o8_ne 7 8 (by decide)) _ _ _).trans ?_
      refine (get8_cons _ _ _ _ _ _).trans ?_
      unfold car
      rw [if_neg (by decide)]
      have hk := readAt_tile arg3.view f1 1 _ _ (k0_off3_inb i 2) (off3_eq i 2)
      have hkb := readAt_tile arg3.view f1 1 _ _ (k0_off4_inb i 2) (off4_eq i 2)
      have hv := readAt_tile arg4.view f2 1 _ _ (k0_off3_inb i 2) (off3_eq i 2)
      have hvb := readAt_tile arg4.view f2 1 _ _ (k0_off4_inb i 2) (off4_eq i 2)
      show _ = stepC (tb (arg5.view.read (Elt F) f3)) (qt (arg2.view.read (Elt F) f0) 7) (tile 1 (arg3.view.read (Elt F) f1) (5 * (i 1).val + ((2 : Fin 5).val) - 1)) (k0_pay27 (k0_pay26 (tb (arg5.view.read (Elt F) f3)) (qt (arg2.view.read (Elt F) f0) 7) (tile 1 (arg3.view.read (Elt F) f1) (5 * (i 1).val + ((2 : Fin 5).val)))))
      rw [← hk, ← hkb]
      rfl
    · refine (get8_cons_ne _ _ _ _ _ (o8_ne 8 9 (by decide)) _ _ _).trans ?_
      refine (get8_cons _ _ _ _ _ _).trans ?_
      unfold car
      rw [if_neg (by decide)]
      have hk := readAt_tile arg3.view f1 1 _ _ (k0_off3_inb i 3) (off3_eq i 3)
      have hkb := readAt_tile arg3.view f1 1 _ _ (k0_off4_inb i 3) (off4_eq i 3)
      have hv := readAt_tile arg4.view f2 1 _ _ (k0_off3_inb i 3) (off3_eq i 3)
      have hvb := readAt_tile arg4.view f2 1 _ _ (k0_off4_inb i 3) (off4_eq i 3)
      show _ = stepC (tb (arg5.view.read (Elt F) f3)) (qt (arg2.view.read (Elt F) f0) 8) (tile 1 (arg3.view.read (Elt F) f1) (5 * (i 1).val + ((3 : Fin 5).val) - 1)) (k0_pay27 (k0_pay26 (tb (arg5.view.read (Elt F) f3)) (qt (arg2.view.read (Elt F) f0) 8) (tile 1 (arg3.view.read (Elt F) f1) (5 * (i 1).val + ((3 : Fin 5).val)))))
      rw [← hk, ← hkb]
      rfl
    · refine (get8_cons _ _ _ _ _ _).trans ?_
      unfold car
      rw [if_neg (by decide)]
      have hk := readAt_tile arg3.view f1 1 _ _ (k0_off3_inb i 4) (off3_eq i 4)
      have hkb := readAt_tile arg3.view f1 1 _ _ (k0_off4_inb i 4) (off4_eq i 4)
      have hv := readAt_tile arg4.view f2 1 _ _ (k0_off3_inb i 4) (off3_eq i 4)
      have hvb := readAt_tile arg4.view f2 1 _ _ (k0_off4_inb i 4) (off4_eq i 4)
      show _ = stepC (tb (arg5.view.read (Elt F) f3)) (qt (arg2.view.read (Elt F) f0) 9) (tile 1 (arg3.view.read (Elt F) f1) (5 * (i 1).val + ((4 : Fin 5).val) - 1)) (k0_pay27 (k0_pay26 (tb (arg5.view.read (Elt F) f3)) (qt (arg2.view.read (Elt F) f0) 9) (tile 1 (arg3.view.read (Elt F) f1) (5 * (i 1).val + ((4 : Fin 5).val)))))
      rw [← hk, ← hkb]
      rfl
  ihave ⟨%g8, %hg8, H6⟩ : iprop(∃ g, ⌜Inv8 arg8.view i (arg2.view.read (Elt F) f0) (arg3.view.read (Elt F) f1) (arg5.view.read (Elt F) f3) 0 g⌝ ∗ arg8.view.loc (c : Thread nD τ) ↦[arg8.view.set]{fullShare} g) $$ [H6]
  · iexists _
    isplitr [H6]
    rotate_left
    · iexact H6
    · ipureintro
      exact hcar _
  -- loop 1
  iapply (wp_call_spec 𝒱₀ (c : Thread nD τ) none Set.univ (spec c arg2 arg3 arg4 arg7 arg8 f0 f1 f2 g7 g8
      (after1 arg2 arg3 arg4 arg7 arg8 f0 f1 f2 _ (5 * (i 1).val + ((0 : Fin 5).val) - 1) _ g7 g8)) (5 * (i 1).val + ((0 : Fin 5).val) - 1) (fun w hw => nomatch hw)
    (spec_le1 c i arg2 harg2 arg3 harg3 arg4 harg4 arg7 harg7 arg8 harg8 f0 f1 f2 _ Set.univ (5 * (i 1).val + ((0 : Fin 5).val) - 1) _ (counts_init i 0) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r0 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 1 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 0 g7 g8 hg7 hg8 _ (congrArg top (hcar arg8.view.junk 0 (Nat.zero_le _))))
  ihave ⟨%g8', %hg8', H6⟩ : iprop(∃ g, ⌜Inv8 arg8.view i (arg2.view.read (Elt F) f0) (arg3.view.read (Elt F) f1) (arg5.view.read (Elt F) f3) 1 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 0 g7 g8 hg7 hg8 _ (congrArg top (hcar arg8.view.junk 0 (Nat.zero_le _))))
  clear hg7 hg8 g7 g8
  obtain ⟨a0, b0⟩ := r0
  try simp only [Prog.lift, Prog.bind_op, Prog.bind_ret, Prog.pure_eq_ret]
  rename' g7' => g7, hg7' => hg7, g8' => g8, hg8' => hg8
  -- loop 2
  iapply (wp_call_spec 𝒱₀ (c : Thread nD τ) none Set.univ (spec c arg2 arg3 arg4 arg7 arg8 f0 f1 f2 g7 g8
      (after2 arg2 arg3 arg4 arg7 arg8 f0 f1 f2 _ (5 * (i 1).val + ((1 : Fin 5).val) - 1) _ g7 g8)) (5 * (i 1).val + ((1 : Fin 5).val) - 1) (fun w hw => nomatch hw)
    (spec_le2 c i arg2 harg2 arg3 harg3 arg4 harg4 arg7 harg7 arg8 harg8 f0 f1 f2 _ Set.univ (5 * (i 1).val + ((1 : Fin 5).val) - 1) _ (counts_init i 1) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r1 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 2 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 1 g7 g8 hg7 hg8 _ (congrArg top (hcar arg8.view.junk 1 (Nat.zero_le _))))
  ihave ⟨%g8', %hg8', H6⟩ : iprop(∃ g, ⌜Inv8 arg8.view i (arg2.view.read (Elt F) f0) (arg3.view.read (Elt F) f1) (arg5.view.read (Elt F) f3) 2 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 1 g7 g8 hg7 hg8 _ (congrArg top (hcar arg8.view.junk 1 (Nat.zero_le _))))
  clear hg7 hg8 g7 g8
  obtain ⟨a1, b1⟩ := r1
  try simp only [Prog.lift, Prog.bind_op, Prog.bind_ret, Prog.pure_eq_ret]
  rename' g7' => g7, hg7' => hg7, g8' => g8, hg8' => hg8
  -- loop 3
  iapply (wp_call_spec 𝒱₀ (c : Thread nD τ) none Set.univ (spec c arg2 arg3 arg4 arg7 arg8 f0 f1 f2 g7 g8
      (after3 arg2 arg3 arg4 arg7 arg8 f0 f1 f2 _ (5 * (i 1).val + ((2 : Fin 5).val) - 1) _ g7 g8)) (5 * (i 1).val + ((2 : Fin 5).val) - 1) (fun w hw => nomatch hw)
    (spec_le3 c i arg2 harg2 arg3 harg3 arg4 harg4 arg7 harg7 arg8 harg8 f0 f1 f2 _ Set.univ (5 * (i 1).val + ((2 : Fin 5).val) - 1) _ (counts_init i 2) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r2 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 3 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 2 g7 g8 hg7 hg8 _ (congrArg top (hcar arg8.view.junk 2 (Nat.zero_le _))))
  ihave ⟨%g8', %hg8', H6⟩ : iprop(∃ g, ⌜Inv8 arg8.view i (arg2.view.read (Elt F) f0) (arg3.view.read (Elt F) f1) (arg5.view.read (Elt F) f3) 3 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 2 g7 g8 hg7 hg8 _ (congrArg top (hcar arg8.view.junk 2 (Nat.zero_le _))))
  clear hg7 hg8 g7 g8
  obtain ⟨a2, b2⟩ := r2
  try simp only [Prog.lift, Prog.bind_op, Prog.bind_ret, Prog.pure_eq_ret]
  rename' g7' => g7, hg7' => hg7, g8' => g8, hg8' => hg8
  -- loop 4
  iapply (wp_call_spec 𝒱₀ (c : Thread nD τ) none Set.univ (spec c arg2 arg3 arg4 arg7 arg8 f0 f1 f2 g7 g8
      (after4 arg2 arg3 arg4 arg7 arg8 f0 f1 f2 _ (5 * (i 1).val + ((3 : Fin 5).val) - 1) _ g7 g8)) (5 * (i 1).val + ((3 : Fin 5).val) - 1) (fun w hw => nomatch hw)
    (spec_le4 c i arg2 harg2 arg3 harg3 arg4 harg4 arg7 harg7 arg8 harg8 f0 f1 f2 _ Set.univ (5 * (i 1).val + ((3 : Fin 5).val) - 1) _ (counts_init i 3) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r3 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 4 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 3 g7 g8 hg7 hg8 _ (congrArg top (hcar arg8.view.junk 3 (Nat.zero_le _))))
  ihave ⟨%g8', %hg8', H6⟩ : iprop(∃ g, ⌜Inv8 arg8.view i (arg2.view.read (Elt F) f0) (arg3.view.read (Elt F) f1) (arg5.view.read (Elt F) f3) 4 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 3 g7 g8 hg7 hg8 _ (congrArg top (hcar arg8.view.junk 3 (Nat.zero_le _))))
  clear hg7 hg8 g7 g8
  obtain ⟨a3, b3⟩ := r3
  try simp only [Prog.lift, Prog.bind_op, Prog.bind_ret, Prog.pure_eq_ret]
  rename' g7' => g7, hg7' => hg7, g8' => g8, hg8' => hg8
  rw [wp_ret]; imodintro
  dsimp only
  -- loop 5
  iapply (wp_call_spec 𝒱₀ (c : Thread nD τ) none Set.univ (spec c arg2 arg3 arg4 arg7 arg8 f0 f1 f2 g7 g8
      (after5 arg2 arg3 arg4 arg7 arg8 f0 f1 f2 _ (5 * (i 1).val + ((4 : Fin 5).val) - 1) _ g7 g8)) (5 * (i 1).val + ((4 : Fin 5).val) - 1) (fun w hw => nomatch hw)
    (spec_le5 c i arg2 harg2 arg3 harg3 arg4 harg4 arg7 harg7 arg8 harg8 f0 f1 f2 _ Set.univ (5 * (i 1).val + ((4 : Fin 5).val) - 1) _ (counts_init i 4) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r4 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 5 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 4 g7 g8 hg7 hg8 _ (congrArg top (hcar arg8.view.junk 4 (Nat.zero_le _))))
  ihave ⟨%g8', %hg8', H6⟩ : iprop(∃ g, ⌜Inv8 arg8.view i (arg2.view.read (Elt F) f0) (arg3.view.read (Elt F) f1) (arg5.view.read (Elt F) f3) 5 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 4 g7 g8 hg7 hg8 _ (congrArg top (hcar arg8.view.junk 4 (Nat.zero_le _))))
  clear hg7 hg8 g7 g8
  obtain ⟨a4, b4⟩ := r4
  try simp only [Prog.lift, Prog.bind_op, Prog.bind_ret, Prog.pure_eq_ret]
  rename' g7' => g7, hg7' => hg7, g8' => g8, hg8' => hg8
  -- loop 6
  iapply (wp_call_spec 𝒱₀ (c : Thread nD τ) none Set.univ (spec c arg2 arg3 arg4 arg7 arg8 f0 f1 f2 g7 g8
      (after6 arg2 arg3 arg4 arg7 arg8 f0 f1 f2 _ (5 * (i 1).val + ((0 : Fin 5).val) - 1) _ g7 g8)) (5 * (i 1).val + ((0 : Fin 5).val) - 1) (fun w hw => nomatch hw)
    (spec_le6 c i arg2 harg2 arg3 harg3 arg4 harg4 arg7 harg7 arg8 harg8 f0 f1 f2 _ Set.univ (5 * (i 1).val + ((0 : Fin 5).val) - 1) _ (counts_init i 0) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r5 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 6 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 5 g7 g8 hg7 hg8 _ (congrArg top (hcar arg8.view.junk 5 (Nat.zero_le _))))
  ihave ⟨%g8', %hg8', H6⟩ : iprop(∃ g, ⌜Inv8 arg8.view i (arg2.view.read (Elt F) f0) (arg3.view.read (Elt F) f1) (arg5.view.read (Elt F) f3) 6 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 5 g7 g8 hg7 hg8 _ (congrArg top (hcar arg8.view.junk 5 (Nat.zero_le _))))
  clear hg7 hg8 g7 g8
  obtain ⟨a5, b5⟩ := r5
  try simp only [Prog.lift, Prog.bind_op, Prog.bind_ret, Prog.pure_eq_ret]
  rename' g7' => g7, hg7' => hg7, g8' => g8, hg8' => hg8
  -- loop 7
  iapply (wp_call_spec 𝒱₀ (c : Thread nD τ) none Set.univ (spec c arg2 arg3 arg4 arg7 arg8 f0 f1 f2 g7 g8
      (after7 arg2 arg3 arg4 arg7 arg8 f0 f1 f2 _ (5 * (i 1).val + ((1 : Fin 5).val) - 1) _ g7 g8)) (5 * (i 1).val + ((1 : Fin 5).val) - 1) (fun w hw => nomatch hw)
    (spec_le7 c i arg2 harg2 arg3 harg3 arg4 harg4 arg7 harg7 arg8 harg8 f0 f1 f2 _ Set.univ (5 * (i 1).val + ((1 : Fin 5).val) - 1) _ (counts_init i 1) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r6 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 7 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 6 g7 g8 hg7 hg8 _ (congrArg top (hcar arg8.view.junk 6 (Nat.zero_le _))))
  ihave ⟨%g8', %hg8', H6⟩ : iprop(∃ g, ⌜Inv8 arg8.view i (arg2.view.read (Elt F) f0) (arg3.view.read (Elt F) f1) (arg5.view.read (Elt F) f3) 7 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 6 g7 g8 hg7 hg8 _ (congrArg top (hcar arg8.view.junk 6 (Nat.zero_le _))))
  clear hg7 hg8 g7 g8
  obtain ⟨a6, b6⟩ := r6
  try simp only [Prog.lift, Prog.bind_op, Prog.bind_ret, Prog.pure_eq_ret]
  rename' g7' => g7, hg7' => hg7, g8' => g8, hg8' => hg8
  -- loop 8
  iapply (wp_call_spec 𝒱₀ (c : Thread nD τ) none Set.univ (spec c arg2 arg3 arg4 arg7 arg8 f0 f1 f2 g7 g8
      (after8 arg2 arg3 arg4 arg7 arg8 f0 f1 f2 _ (5 * (i 1).val + ((2 : Fin 5).val) - 1) _ g7 g8)) (5 * (i 1).val + ((2 : Fin 5).val) - 1) (fun w hw => nomatch hw)
    (spec_le8 c i arg2 harg2 arg3 harg3 arg4 harg4 arg7 harg7 arg8 harg8 f0 f1 f2 _ Set.univ (5 * (i 1).val + ((2 : Fin 5).val) - 1) _ (counts_init i 2) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r7 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 8 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 7 g7 g8 hg7 hg8 _ (congrArg top (hcar arg8.view.junk 7 (Nat.zero_le _))))
  ihave ⟨%g8', %hg8', H6⟩ : iprop(∃ g, ⌜Inv8 arg8.view i (arg2.view.read (Elt F) f0) (arg3.view.read (Elt F) f1) (arg5.view.read (Elt F) f3) 8 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 7 g7 g8 hg7 hg8 _ (congrArg top (hcar arg8.view.junk 7 (Nat.zero_le _))))
  clear hg7 hg8 g7 g8
  obtain ⟨a7, b7⟩ := r7
  try simp only [Prog.lift, Prog.bind_op, Prog.bind_ret, Prog.pure_eq_ret]
  rename' g7' => g7, hg7' => hg7, g8' => g8, hg8' => hg8
  -- loop 9
  iapply (wp_call_spec 𝒱₀ (c : Thread nD τ) none Set.univ (spec c arg2 arg3 arg4 arg7 arg8 f0 f1 f2 g7 g8
      (after9 arg2 arg3 arg4 arg7 arg8 f0 f1 f2 _ (5 * (i 1).val + ((3 : Fin 5).val) - 1) _ g7 g8)) (5 * (i 1).val + ((3 : Fin 5).val) - 1) (fun w hw => nomatch hw)
    (spec_le9 c i arg2 harg2 arg3 harg3 arg4 harg4 arg7 harg7 arg8 harg8 f0 f1 f2 _ Set.univ (5 * (i 1).val + ((3 : Fin 5).val) - 1) _ (counts_init i 3) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r8 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 9 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 8 g7 g8 hg7 hg8 _ (congrArg top (hcar arg8.view.junk 8 (Nat.zero_le _))))
  ihave ⟨%g8', %hg8', H6⟩ : iprop(∃ g, ⌜Inv8 arg8.view i (arg2.view.read (Elt F) f0) (arg3.view.read (Elt F) f1) (arg5.view.read (Elt F) f3) 9 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 8 g7 g8 hg7 hg8 _ (congrArg top (hcar arg8.view.junk 8 (Nat.zero_le _))))
  clear hg7 hg8 g7 g8
  obtain ⟨a8, b8⟩ := r8
  try simp only [Prog.lift, Prog.bind_op, Prog.bind_ret, Prog.pure_eq_ret]
  rename' g7' => g7, hg7' => hg7, g8' => g8, hg8' => hg8
  -- loop 10
  iapply (wp_call_spec 𝒱₀ (c : Thread nD τ) none Set.univ (spec c arg2 arg3 arg4 arg7 arg8 f0 f1 f2 g7 g8
      (after10 arg2 arg3 arg4 arg7 arg8 f0 f1 f2 _ (5 * (i 1).val + ((4 : Fin 5).val) - 1) _ g7 g8)) (5 * (i 1).val + ((4 : Fin 5).val) - 1) (fun w hw => nomatch hw)
    (spec_le10 c i arg2 harg2 arg3 harg3 arg4 harg4 arg7 harg7 arg8 harg8 f0 f1 f2 _ Set.univ (5 * (i 1).val + ((4 : Fin 5).val) - 1) _ (counts_init i 4) _ g7 g8))
  rw [spec_apply]; unfold held
  isplitl [H0 H1 H2 H5 H6]
  · isplitl [H0]; · iexact H0
    isplitl [H1]; · iexact H1
    isplitl [H2]; · iexact H2
    isplitl [H5]; · iexact H5
    iexact H6
  iintro %r9 ⟨H0, H1, H2, H5, H6⟩
  ihave ⟨%g7', %hg7', H5⟩ : iprop(∃ g, ⌜Inv7 arg7.view i (arg2.view.read (Elt F) f0) (arg3.view.read (Elt F) f1) (arg4.view.read (Elt F) f2) (arg5.view.read (Elt F) f3) 10 g⌝ ∗ arg7.view.loc (c : Thread nD τ) ↦[arg7.view.set]{fullShare} g) $$ [H5]
  · iexists _
    isplitr [H5]
    rotate_left
    · iexact H5
    · ipureintro
      exact And.left (stage arg7.view arg8.view i (arg2.view.read (Elt F) f0) (arg3.view.read (Elt F) f1) (arg4.view.read (Elt F) f2) (arg5.view.read (Elt F) f3) 9 g7 g8 hg7 hg8 _ (congrArg top (hcar arg8.view.junk 9 (Nat.zero_le _))))
  ihave ⟨%g8', %hg8', H6⟩ : iprop(∃ g, ⌜Inv8 arg8.view i (arg2.view.read (Elt F) f0) (arg3.view.read (Elt F) f1) (arg5.view.read (Elt F) f3) 10 g⌝ ∗ arg8.view.loc (c : Thread nD τ) ↦[arg8.view.set]{fullShare} g) $$ [H6]
  · iexists _
    isplitr [H6]
    rotate_left
    · iexact H6
    · ipureintro
      exact And.right (stage arg7.view arg8.view i (arg2.view.read (Elt F) f0) (arg3.view.read (Elt F) f1) (arg4.view.read (Elt F) f2) (arg5.view.read (Elt F) f3) 9 g7 g8 hg7 hg8 _ (congrArg top (hcar arg8.view.junk 9 (Nat.zero_le _))))
  clear hg7 hg8 g7 g8
  obtain ⟨a9, b9⟩ := r9
  try simp only [Prog.lift, Prog.bind_op, Prog.bind_ret, Prog.pure_eq_ret]
  rename' g7' => g7, hg7' => hg7, g8' => g8, hg8' => hg8
  -- the block out
  iapply (wp_load 𝒱₀ (c : Thread nD τ) none Set.univ (m := arg7) (View.setOn_subset_set _ _)) $$ H5; iintro H5
  iapply (wp_load 𝒱₀ (c : Thread nD τ) none Set.univ (m := arg6) (View.setOn_subset_set _ _)) $$ H4; iintro H4
  iapply (wp_store 𝒱₀ (c : Thread nD τ) none Set.univ (m := arg6) (r := Rect.unit (s := S1280x256) ![0, 0] S1280x256.size inb_S1280x256_S1280x256_0_0) (Mk := Finset.univ) ((View.setOn_subset_set _ _).trans (View.set_slice_subset _ _))) $$ H4; iintro H4
  rw [final_readAt arg7.view i (arg2.view.read (Elt F) f0) (arg3.view.read (Elt F) f1) (arg4.view.read (Elt F) f2) (arg5.view.read (Elt F) f3) g7 hg7]
  rw [wp_ret]; imodintro
  iapply Hk
  isplitl [H0]; · iexists f0; isplitr [H0]; · ipureintro; rfl
                  iexact H0
  isplitl [H1]; · iexists f1; isplitr [H1]; · ipureintro; rfl
                  iexact H1
  isplitl [H2]; · iexists f2; isplitr [H2]; · ipureintro; rfl
                  iexact H2
  isplitl [H3]; · iexists f3; isplitr [H3]; · ipureintro; rfl
                  iexact H3
  isplitl [H4]
  · iexists _
    isplitr [H4]
    rotate_left
    · iexact H4
    · ipureintro
      exact whole_read arg6.view f4 _
  isplitl [H5]; · iexists _; iexists g7; isplitr [H5]; · ipureintro; rfl
                  iexact H5
  iexists _; iexists g8; isplitr [H6]; · ipureintro; rfl
  iexact H6

end Cert.Proof.Sb

end
-- ==== Proof.SbFrame.lean ====
/-
  The run of `_sb_attention`: the pipeline's proof data over the body's result (`outBlk`), the body's obligation at every
  grid point, the run to its end, and the frame claim. The keys' and values' windows share one array.
-/
module

public import proofs.«01_k».proof.Proof.SbBody
public import Idealize.ShloMosaic.Lib.Claim
public import Idealize.ShloMosaic.Lib.Ring
public import Idealize.ShloMosaic.Lib.WordCmp

@[expose] public section

set_option maxRecDepth 16384

noncomputable section

namespace Cert.Proof.Sb

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the pipeline finds them: the table written, everything else as launched. -/
abbrev V (c : Dev nD) (b : Ref sig .tc) : Buf (Elt F) ((c : Thread nD τ).loc b) := StableHlo.after hostOps0 (fun b => m (c, b)) b

/-- No host operation leaves a buffer undefined. -/
theorem hostOps0_fresh : (hostOps0 : List (HloOp τ sig (Elt F))).Forall fun op => op.fresh = ∅ := by
  simp only [List.Forall]; repeat' constructor

set_option maxHeartbeats 800000 in
/-- The program up to its pipeline: the table is written, then the pipeline is entered. -/
theorem hmain (𝒱 : Variants) : Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub hostOps0_fresh main_chain

/-- Argument 0 is as launched when the pipeline is entered. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    exact StableHlo.devRef_ne_of_ne (by decide)))

/-- Argument 1 is as launched when the pipeline is entered. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    exact StableHlo.devRef_ne_of_ne (by decide)))

/-- The block of window `w` at a grid point, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The pipeline's proof data: arrays as found, inputs' blocks left in place, the output block at the body's result. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 0 t) (iblk m c 1 t) (iblk m c 2 t) (iblk m c 3 t)
  Φ _ := Pipeline.ΦA spec0 c
  q w := Pipeline.shareOf spec0 w
  owed _ := 0

/-- The proof data's arrays are the buffers as found. -/
theorem A_eq (c : Dev nD) (w : Fin (cfg0 (F := F)).W) : (dats m 0 c).A w = V m c (Pipeline.arrRef spec0 w) := by
  dsimp only [dats]

/-- The body leaves window 0's block in place, -/
theorem after0_0 (c : Dev nD) (t : Fin (cfg0 (F := F)).N) : (dats m 0 c).after 0 t = iblk m c 0 t := by dsimp only [dats]; rfl
/-- and finds it there. -/
theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The body leaves window 1's block in place, -/
theorem after0_1 (c : Dev nD) (t : Fin (cfg0 (F := F)).N) : (dats m 0 c).after 1 t = iblk m c 1 t := by dsimp only [dats]; rfl
/-- and finds it there. -/
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- The body leaves window 2's block in place, -/
theorem after0_2 (c : Dev nD) (t : Fin (cfg0 (F := F)).N) : (dats m 0 c).after 2 t = iblk m c 2 t := by dsimp only [dats]; rfl
/-- and finds it there. -/
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- The body leaves window 3's block in place, -/
theorem after0_3 (c : Dev nD) (t : Fin (cfg0 (F := F)).N) : (dats m 0 c).after 3 t = iblk m c 3 t := by dsimp only [dats]; rfl
/-- and finds it there. -/
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- The body leaves its result in the output window's block. -/
theorem after0_4 (c : Dev nD) (t : Fin (cfg0 (F := F)).N) :
    (dats m 0 c).after 4 t = outBlk (grid0.coords t) (iblk m c 0 t) (iblk m c 1 t) (iblk m c 2 t) (iblk m c 3 t) := by dsimp only [dats]; rfl

/-- The scratch holding the running sums, -/
abbrev scM0_0 : Memref sig .tc .vmem S1280x256 .f32 := Memref.whole cc0_scratch0
/-- and the one holding the carries. -/
abbrev scM0_1 : Memref sig .tc .vmem S2560x128 .f32 := Memref.whole cc0_scratch1

/-- What the pipeline keeps for the body between points, with the two scratch buffers named. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- What the body is called with at a point, window by window, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point takes what it is called with to what it returns. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, PhiA0_eq]
  iintro ⟨⟨⟨HS0, HS1⟩, Hg⟩, Ho, ⟨%d0, H0⟩, ⟨%d1, H1⟩, ⟨%d2, H2⟩, ⟨%d3, H3⟩, ⟨%d4, H4⟩⟩
  iapply (sound_kernel c (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body the pipeline calls at a point is the printed one on that point's buffers. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- The run ends, with every array at what the pipeline's proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := A_eq m)
    (hin := fun _ => Idealize.SL.BI.Entails.refl _) (hout := fun _ => Idealize.SL.BI.Entails.refl _)

/-- The run ends with every array at what the pipeline's proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: from any memory with zero counters the program ends, its arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).1 0).trans (((dats m 0 c).arrAt_in 0 rfl _).trans ((A_eq m c 0).trans (V_main_arg0 m c))),
        ((h.1 c).1 1).trans (((dats m 0 c).arrAt_in 1 rfl _).trans ((A_eq m c 1).trans (V_main_arg1 m c)))⟩, h.2⟩)
    (run_main_quiescent m ρ)

end Cert.Proof.Sb

end
-- ==== Proof.SbRow.lean ====
/-
  One row of stick-breaking attention over the extended reals: the softplus, a row's output as a sum over the keys below
  the query, and the three rearrangements the two programs differ by: tiles of keys, the reference's running sum, and the
  kernel's early stop.
-/
module

public import Idealize.ShloMosaic.Lib.Pointwise
public import Idealize.ShloMosaic.Lib.Pipeline.ValueKit

@[expose] public section

set_option maxRecDepth 16384

noncomputable section

open Idealize.ShloMosaic

namespace Cert.Layer.SbRow

/-- The softplus, as both programs write it. -/
def sp (z : EReal) : EReal := max z 0 + Ideal.log (1 + Ideal.exp (-(max z (-z))))

/-- A row's output: over the keys below the query `t`, the weight `exp (z s - ∑ softplus (z j), s ≤ j < t)` times the value. -/
def rowOf (z v : ℕ → EReal) (t : ℕ) : EReal :=
  ∑ s ∈ Finset.range t, Ideal.exp (z s + ∑ j ∈ Finset.Ico s t, -sp (z j)) * v s

/-- The logarithm of one minus a key's share, zero from the query on. -/
def lg (z : ℕ → EReal) (t j : ℕ) : EReal := if j < t then -sp (z j) else 0

/-- Those logarithms summed over the keys from `a` up to `b`. -/
def lgs (z : ℕ → EReal) (t a b : ℕ) : EReal := ∑ j ∈ Finset.Ico a b, lg z t j

/-- What a key adds to a row, the logarithms being summed up to `E`; zero from the query on. -/
def term (z v : ℕ → EReal) (t E s : ℕ) : EReal := if s < t then Ideal.exp (z s + lgs z t s E) * v s else 0

/-- At a real number the softplus is a real number, and that of the negated number is smaller by the number. -/
theorem sp_real (x : ℝ) : ∃ a b : ℝ, sp (x : EReal) = a ∧ sp (-(x : EReal)) = b ∧ a - b = x := by
  have hm : ∀ a b : ℝ, ((max a b : ℝ) : EReal) = max (a : EReal) (b : EReal) := fun a b => EReal.coe_strictMono.monotone.map_max
  have h : ∀ y : ℝ, sp (y : EReal) = ((max y 0 + Real.log (1 + Real.exp (-(max y (-y)))) : ℝ) : EReal) := by
    intro y
    unfold sp
    have h1 : -(max (y : EReal) (-(y : EReal))) = ((-(max y (-y)) : ℝ) : EReal) := by
      rw [← EReal.coe_neg, ← hm, ← EReal.coe_neg]
    have h2 : (0 : ℝ) < 1 + Real.exp (-(max y (-y))) := by positivity
    rw [h1, Ideal.exp_coe, ← EReal.coe_one, ← EReal.coe_add, Ideal.log_coe, if_neg (not_le.mpr h2), ← EReal.coe_zero,
      ← hm, ← EReal.coe_add]
  have hn := h (-x)
  rw [EReal.coe_neg] at hn
  refine ⟨_, _, h x, hn, ?_⟩
  · rw [neg_neg, max_comm (-x) x]
    rcases le_total 0 x with hx | hx
    · rw [max_eq_left hx, max_eq_right (by linarith : -x ≤ 0)]; ring
    · rw [max_eq_right hx, max_eq_left (by linarith : (0:ℝ) ≤ -x)]; ring

/-- The softplus of plus infinity. -/
theorem sp_top : sp ⊤ = ⊤ := by
  unfold sp
  simp [Ideal.log_coe, ← EReal.coe_one]

/-- The reference's exponent is the kernel's: a share's logarithm plus the sum less the key's own term is the score plus the
    sum. It holds at the infinities too, where both are minus infinity. -/
theorem exponent (z X : EReal) : -sp (-z) + ((-sp z + X) - -sp z) = z + (-sp z + X) := by
  induction z using EReal.rec with
  | bot => simp [sp_top]
  | top => simp [sp_top]
  | coe r =>
    obtain ⟨a, b, ha, hb, hab⟩ := sp_real r
    rw [ha, hb]
    induction X using EReal.rec with
    | bot => simp
    | top =>
      rw [← EReal.coe_neg, ← EReal.coe_neg, EReal.coe_add_top, EReal.top_sub_coe, EReal.coe_add_top, EReal.coe_add_top]
    | coe s =>
      norm_cast
      linarith

/-- A sum cut at the query. -/
theorem sum_cut (f : ℕ → EReal) (s t E : ℕ) (h : t ≤ E) :
    (∑ j ∈ Finset.Ico s E, if j < t then f j else 0) = ∑ j ∈ Finset.Ico s t, f j := by
  rw [← Finset.sum_filter]
  congr 1
  ext j
  simp only [Finset.mem_filter, Finset.mem_Ico]
  omega

/-- The logarithms summed past the query are those summed up to it. -/
theorem lgs_eq (z : ℕ → EReal) (s t E : ℕ) (h : t ≤ E) : lgs z t s E = ∑ j ∈ Finset.Ico s t, -sp (z j) :=
  sum_cut (fun j => -sp (z j)) s t E h

/-- A row's output, the sum taken past the query. -/
theorem sum_term (z v : ℕ → EReal) (t E : ℕ) (h : t ≤ E) : ∑ s ∈ Finset.Ico 0 E, term z v t E s = rowOf z v t := by
  unfold term
  rw [sum_cut (fun s => Ideal.exp (z s + lgs z t s E) * v s) 0 t E h]
  unfold rowOf
  rw [← Finset.range_eq_Ico]
  exact Finset.sum_congr rfl fun s _ => by rw [lgs_eq z s t E h]

/-- Two neighbouring stretches of keys together. -/
theorem lgs_add (z : ℕ → EReal) (t a b c : ℕ) (h1 : a ≤ b) (h2 : b ≤ c) : lgs z t a b + lgs z t b c = lgs z t a c :=
  Finset.sum_Ico_consecutive _ h1 h2

/-- The tail of a tile, as a sum over the whole tile with the keys before `k` at zero. -/
theorem tile_tail (f : ℕ → EReal) (B k : ℕ) :
    (∑ x : Fin 256, if k ≤ x.val then f (B + x.val) else 0) = ∑ j ∈ Finset.Ico (B + k) (B + 256), f j := by
  rw [Fin.sum_univ_eq_sum_range (fun x => if k ≤ x then f (B + x) else 0) 256, ← Finset.sum_filter]
  rw [Nat.add_comm B k, Nat.add_comm B 256, ← Finset.sum_Ico_add f k 256 B]
  congr 1
  ext j
  simp only [Finset.mem_filter, Finset.mem_range, Finset.mem_Ico]
  omega

/-- A whole tile. -/
theorem tile_all (f : ℕ → EReal) (B : ℕ) : (∑ x : Fin 256, f (B + x.val)) = ∑ j ∈ Finset.Ico B (B + 256), f j := by
  have h := tile_tail f B 0
  simpa using h

/-- Once the logarithms from `b` on sum to minus infinity, the keys below `b` add nothing. -/
theorem term_zero (z v : ℕ → EReal) (t E b s : ℕ) (h1 : s ≤ b) (h2 : b ≤ E) (h : lgs z t b E = ⊥) : term z v t E s = 0 := by
  unfold term
  split
  · rw [← lgs_add z t s b E h1 h2, h, EReal.add_bot, EReal.add_bot, Ideal.exp_bot, zero_mul]
  · rfl

/-- So the whole row is what the keys from `b` on add. -/
theorem stop (z v : ℕ → EReal) (t E b : ℕ) (h2 : b ≤ E) (h : lgs z t b E = ⊥) :
    ∑ s ∈ Finset.Ico b E, term z v t E s = ∑ s ∈ Finset.Ico 0 E, term z v t E s := by
  rw [← Finset.sum_Ico_consecutive _ (Nat.zero_le b) h2, Finset.sum_eq_zero (s := Finset.Ico 0 b), zero_add]
  intro s hs
  exact term_zero z v t E b s (Finset.mem_Ico.mp hs).2.le h2 h

/-- The reference's running sum from the end, at a key. -/
theorem window (f : ℕ → EReal) (N s : ℕ) :
    (∑ n : Fin N, if s + n.val < N then f (s + n.val) else 0) = ∑ j ∈ Finset.Ico s N, f j := by
  rw [Fin.sum_univ_eq_sum_range (fun n => if s + n < N then f (s + n) else 0) N, ← Finset.sum_filter, Finset.sum_Ico_eq_sum_range]
  congr 1
  ext j
  simp only [Finset.mem_filter, Finset.mem_range]
  omega

/-- The reference's row. -/
theorem ref_row (z v : ℕ → EReal) (t N : ℕ) (h : t ≤ N) :
    (∑ s : Fin N, v s.val * (if s.val < t then Ideal.exp (-sp (-z s.val) + (lgs z t s.val N - lg z t s.val)) else 0)) = rowOf z v t := by
  rw [← sum_term z v t N h, Fin.sum_univ_eq_sum_range (fun s => v s * (if s < t then Ideal.exp (-sp (-z s) + (lgs z t s N - lg z t s)) else 0)) N,
    Finset.range_eq_Ico]
  refine Finset.sum_congr rfl fun s hs => ?_
  unfold term
  by_cases hst : s < t
  · rw [if_pos hst, if_pos hst, mul_comm]
    have hs1 : s < N := lt_of_lt_of_le hst h
    have hl : lg z t s = -sp (z s) := if_pos hst
    have hU : lgs z t s N = -sp (z s) + lgs z t (s + 1) N := by
      unfold lgs
      rw [Finset.sum_eq_sum_Ico_succ_bot hs1, hl]
    rw [hl, hU, exponent]
  · rw [if_neg hst, if_neg hst, mul_zero]

end Cert.Layer.SbRow

end
-- ==== Proof.SbTiles.lean ====
/-
  What the body's tiles and loop leave of one row of stick-breaking attention, over the extended reals: each tile extends
  the row's sum by the tile's keys and the carried logarithms by the tile's, and the loop, wherever it stops, leaves the
  whole row.
-/
module

public import proofs.«01_k».proof.Proof.SbLoop
public import proofs.«01_k».proof.Proof.SbRow
public import Idealize.ShloMosaic.Lib.Pointwise
public import Idealize.ShloMosaic.Lib.Pipeline.ValueKit
public import Idealize.ShloMosaic.Lib.WordCmp

@[expose] public section

set_option maxRecDepth 16384

noncomputable section

open Idealize.ShloMosaic Idealize.ShloMosaic.TcCoe

namespace Cert.Layer.SbTiles

open Cert.Kernel8Ideal Cert.Kernel8Ideal.Gen Cert.Proof.Sb Cert.Layer.SbRow

/-- A selection on a signed comparison of two small numbers. -/
theorem sel_lt (a b : ℕ) (ha : a < 2 ^ 31) (hb : b < 2 ^ 31) (x y : EReal) :
    Scalar.select (IntOp.cmpi .slt (BitVec.ofNat 32 a) (BitVec.ofNat 32 b)) x y = if a < b then x else y := by
  rw [WordCmp.cmpi_slt_ofNat (w := 32) ha hb, WordCmp.select_ofBool]
  simp

variable (tab : FVec Ideal S256x256 .bf16) (htab : ∀ j k : Fin 256, tab (ix2 j k) = if k.val ≤ j.val then (-1 : EReal) else 0)
variable (q K V : FVec Ideal S256x128 .bf16) (z : ℕ → EReal) (v : ℕ → EReal) (t E B : ℕ)

/-- A tile's scores are the products of the query's row with the keys' rows. -/
theorem score (p k : Fin 256) : k0_pay135 (F := Ideal) q K (ix2 p k) = ∑ d : Fin 128, q (ix2 p d) * K (ix2 k d) := by
  pointwise [k0_pay135]

/-- One product of the sums with the table: a softplus at a key, kept with its sign turned or dropped. -/
theorem entry (x : EReal) (k j : ℕ) (b : Prop) [Decidable b] (h : b) :
    (max x 0 + Ideal.log (1 + Ideal.exp (0 - FloatOps.absf (F := Ideal) (φ := .f32) x))) * (if k ≤ j then (-1 : EReal) else 0)
      = if k ≤ j then (if b then -sp x else 0) else 0 := by
  rw [zero_sub, if_pos h]
  change sp x * _ = _
  split
  · rw [mul_neg, mul_one]
  · exact mul_zero _

include htab in
/-- A tile wholly below the query: the sums of its logarithms from each key to the tile's end. -/
theorem sums_step (p k : Fin 256) (hz : ∀ k : Fin 256, k0_pay135 (F := Ideal) q K (ix2 p k) = z (B + k.val)) (hB : B + 256 ≤ t) :
    k0_pay136 (F := Ideal) tab q K (ix2 p k) = lgs z t (B + k.val) (B + 256) := by
  pointwise [k0_pay136]
  refine (Finset.sum_congr rfl fun x _ => ?_).trans (tile_tail (lg z t) B k.val)
  rw [hz x, htab x k]
  exact entry _ _ _ (B + x.val < t) (by have := x.isLt; omega)

include htab in
/-- The tile that holds the query: the same, its keys from the query on adding nothing. -/
theorem sums_diag (p k : Fin 256) (hz : ∀ k : Fin 256, k0_pay22 (F := Ideal) q K (ix2 p k) = z (B + k.val)) (ht : t = B + p.val) :
    k0_pay24 (F := Ideal) tab q K (ix2 p k) = lgs z t (B + k.val) (B + 256) := by
  pointwise [k0_pay24, k0_pay23]
  refine (Finset.sum_congr rfl fun x _ => ?_).trans (tile_tail (lg z t) B k.val)
  have hx := x.isLt
  have hp := p.isLt
  rw [hz x, htab x k, sel_lt _ _ (by omega) (by omega)]
  unfold lg
  by_cases h : x.val < p.val
  · rw [if_pos h]
    exact entry _ _ _ (B + x.val < t) (by omega)
  · rw [if_neg h, if_neg (by omega : ¬ B + x.val < t)]
    split <;> rfl

include htab in
/-- The carried logarithms after a tile below the query. -/
theorem carry_step (cr : FVec Ideal S256x128 .f32) (p : Fin 256) (c : Fin 128)
    (hz : ∀ k : Fin 256, k0_pay135 (F := Ideal) q K (ix2 p k) = z (B + k.val)) (hB : B + 256 ≤ t) (ht : t ≤ E)
    (hc : cr (ix2 p c) = lgs z t (B + 256) E) :
    stepC (F := Ideal) tab q K cr (ix2 p c) = lgs z t B E := by
  pointwise [stepC, k0_pay138]
  rw [sums_step tab htab q K z t B p 0 hz hB, hc, add_comm]
  exact lgs_add z t B (B + 256) E (by omega) (by omega)

include htab in
/-- The row's sum after a tile below the query. -/
theorem sum_step (cr ac : FVec Ideal S256x128 .f32) (p : Fin 256) (c : Fin 128)
    (hz : ∀ k : Fin 256, k0_pay135 (F := Ideal) q K (ix2 p k) = z (B + k.val)) (hv : ∀ k : Fin 256, V (ix2 k c) = v (B + k.val))
    (hB : B + 256 ≤ t) (ht : t ≤ E) (hc : ∀ x : Fin 128, cr (ix2 p x) = lgs z t (B + 256) E)
    (ha : ac (ix2 p c) = ∑ s ∈ Finset.Ico (B + 256) E, term z v t E s) :
    stepA (F := Ideal) tab q K V cr ac (ix2 p c) = ∑ s ∈ Finset.Ico B E, term z v t E s := by
  have key : ∀ (k : Fin 256) (x : Fin 128), Ideal.exp (k0_pay135 (F := Ideal) q K (ix2 p k) + k0_pay136 (F := Ideal) tab q K (ix2 p k) + cr (ix2 p x)) * V (ix2 k c)
      = term z v t E (B + k.val) := by
    intro k x
    have hk := k.isLt
    unfold term
    rw [hz, sums_step tab htab q K z t B p k hz hB, hc, hv, if_pos (by omega), add_assoc, lgs_add z t _ _ E (by omega) (by omega)]
  pointwise [stepA, k0_pay2, k0_pay137]
  rw [ha, ← Finset.sum_Ico_consecutive _ (by omega : B ≤ B + 256) (by omega : B + 256 ≤ E), ← tile_all (term z v t E) B,
    Fin.sum_univ_two_halves 128 128 rfl, add_comm]
  exact congrArg₂ (· + ·) (congrArg₂ (· + ·) (Finset.sum_congr rfl fun x _ => key _ _) (Finset.sum_congr rfl fun x _ => key _ _)) rfl

include htab in
/-- The row's sum after the tile that holds the query. -/
theorem sum_diag (p : Fin 256) (c : Fin 128)
    (hz : ∀ k : Fin 256, k0_pay22 (F := Ideal) q K (ix2 p k) = z (B + k.val)) (hv : ∀ k : Fin 256, V (ix2 k c) = v (B + k.val))
    (ht : t = B + p.val) :
    k0_pay25 (F := Ideal) tab q K V (ix2 p c) = ∑ s ∈ Finset.Ico B (B + 256), term z v t (B + 256) s := by
  pointwise [k0_pay25, k0_pay23]
  rw [← tile_all (term z v t (B + 256)) B]
  refine Finset.sum_congr rfl fun x _ => ?_
  have hx := x.isLt
  have hp := p.isLt
  rw [sel_lt _ _ (by omega) (by omega), hz x, sums_diag tab htab q K z t B p x hz ht, hv x]
  unfold term
  by_cases h : x.val < p.val
  · rw [if_pos h, if_pos (by omega : B + x.val < t)]
  · rw [if_neg h, if_neg (by omega : ¬ B + x.val < t)]

include htab in
/-- The carried logarithms after the tile that holds the query. -/
theorem carry_diag (p : Fin 256) (c : Fin 128) (hz : ∀ k : Fin 256, k0_pay22 (F := Ideal) q K (ix2 p k) = z (B + k.val)) (ht : t = B + p.val) :
    k0_pay27 (k0_pay26 (F := Ideal) tab q K) (ix2 p c) = lgs z t B (B + 256) := by
  pointwise [k0_pay26, k0_pay27]
  exact sums_diag tab htab q K z t B p 0 hz ht

/-- The loop goes on while some carried logarithm is above minus infinity. -/
theorem go_iff (x : EReal) : go (F := Ideal) x ↔ ⊥ < x := by
  have h : (Named.named (F := Ideal) κ "neg_inf" 0xC2D20000#32 : Ideal .f32) = (⊥ : EReal) :=
    IdealRules.named_const.ideal_named_scalar _ _ _ _ rfl
  pointwise [go]
  rw [h]
  by_cases hx : ⊥ < x
  · simp [hx]
  · simp [hx]

/-- Where the largest of the carried logarithms is not above minus infinity, none is. -/
theorem top_bot (cr : FVec Ideal S256x128 .f32) (h : ¬ (⊥ : EReal) < top (F := Ideal) cr) (p : Fin 256) (c : Fin 128) : cr (ix2 p c) = (⊥ : EReal) := by
  by_contra hne
  refine h ?_
  pointwise [top, k0_pay3]
  rw [Finset.lt_fold_max]
  exact Or.inr ⟨(p, c), Finset.mem_univ _, bot_lt_iff_ne_bot.mpr hne⟩

include htab in
/-- The loop: started with a row's sum and carried logarithms down to a tile's start, it leaves the whole row, wherever it
    stops. -/
theorem loop (Ks Vs : ℕ → FVec Ideal S256x128 .bf16) (zs : Fin 256 → ℕ → EReal) (vs : Fin 128 → ℕ → EReal) (ts : Fin 256 → ℕ) (n : ℕ)
    (hz : ∀ j < n, ∀ p k : Fin 256, k0_pay135 (F := Ideal) q (Ks j) (ix2 p k) = zs p (256 * j + k.val))
    (hv : ∀ j < n, ∀ (k : Fin 256) (c : Fin 128), Vs j (ix2 k c) = vs c (256 * j + k.val))
    (ht : ∀ p, 256 * n ≤ ts p ∧ ts p ≤ E) :
    ∀ (x : EReal) (cr ac : FVec Ideal S256x128 .f32), x = top (F := Ideal) cr →
      (∀ p c, cr (ix2 p c) = lgs (zs p) (ts p) (256 * n) E) →
      (∀ p c, ac (ix2 p c) = ∑ s ∈ Finset.Ico (256 * n) E, term (zs p) (vs c) (ts p) E s) →
      ∀ p c, (run (F := Ideal) tab q Ks Vs n x cr ac).2 (ix2 p c) = rowOf (zs p) (vs c) (ts p) := by
  induction n with
  | zero =>
    intro x cr ac hx hc ha p c
    refine (ha p c).trans ?_
    rw [Nat.mul_zero]
    exact sum_term _ _ _ _ (ht p).2
  | succ n ih =>
    intro x cr ac hx hc ha p c
    have e : 256 * (n + 1) = 256 * n + 256 := by omega
    rw [e] at hc ha ht
    unfold run
    by_cases hg : go (F := Ideal) x
    · rw [if_pos hg]
      refine ih (fun j hj => hz j (by omega)) (fun j hj => hv j (by omega)) (fun p => ⟨by have := (ht p).1; omega, (ht p).2⟩)
        _ _ _ rfl ?_ ?_ p c
      · intro p c
        exact carry_step tab htab q (Ks n) (zs p) (ts p) E (256 * n) cr p c (hz n (by omega) p) (ht p).1 (ht p).2 (hc p c)
      · intro p c
        exact sum_step tab htab q (Ks n) (Vs n) (zs p) (vs c) (ts p) E (256 * n) cr ac p c (hz n (by omega) p)
          (fun k => hv n (by omega) k c) (ht p).1 (ht p).2 (hc p) (ha p c)
    · rw [if_neg hg]
      refine (ha p c).trans ?_
      have hb := top_bot cr (fun h => hg ((go_iff x).mpr (hx ▸ h))) p c
      rw [hc p c] at hb
      rw [stop _ _ _ _ _ (by have := ht p; omega) hb]
      exact sum_term _ _ _ _ (ht p).2

end Cert.Layer.SbTiles

end
-- ==== Proof.SbUnit.lean ====
/-
  What the body leaves in its output block, over the extended reals: each unit of 256 queries and 128 columns holds the
  attention's rows of those queries.
-/
module

public import proofs.«01_k».proof.Proof.SbBody
public import proofs.«01_k».proof.Proof.SbTiles

@[expose] public section

set_option maxRecDepth 16384

noncomputable section

open Idealize.ShloMosaic Idealize.ShloMosaic.TcCoe

namespace Cert.Layer.SbUnit

open Cert.Kernel8Ideal Cert.Kernel8Ideal.Gen Cert.Proof.Sb Cert.Layer.SbRow Cert.Layer.SbTiles

/-- Whether there is a tile before the units' first tile. -/
theorem vw_pos (i : grid0.Coords) : IntOp.cmpi .sgt (vw i) 0#32 = BitVec.ofBool (decide (0 < (i 1).val)) :=
  (by decide +kernel : ∀ n : Fin 13, IntOp.cmpi .sgt (Scalar.muli (BitVec.ofNat 32 n.val) 5#32) 0#32 = BitVec.ofBool (decide (0 < n.val))) (i 1)

variable (i : grid0.Coords) (tab : FVec Ideal S256x256 .bf16) (q kb vb : FVec Ideal S256x128 .bf16)

/-- The first unit's sum takes the tile before it where there is one. -/
theorem first_sum (w : BitVec 32) (v36 : FVec Ideal S256x128 .f32) (p : Fin 256) (c : Fin 128) (u : FVec Ideal S256x1 .f32) :
    k0_pay32 (F := Ideal) (k0_pay30 w tab q v36 u kb vb) (ix2 p c)
      = Scalar.select (IntOp.cmpi .sgt w 0#32) (stepA (F := Ideal) tab q kb vb (k0_pay27 u) v36 (ix2 p c)) (v36 (ix2 p c)) := by
  pointwise [stepA, k0_pay2, k0_pay137, k0_pay30, k0_pay32]
  rfl

/-- The first unit's carried logarithms take the tile before it where there is one. -/
theorem first_carry (w : BitVec 32) (p : Fin 256) (c : Fin 128) (u : FVec Ideal S256x1 .f32) :
    k0_pay31 (F := Ideal) w tab q u kb (ix2 p c)
      = Scalar.select (IntOp.cmpi .sgt w 0#32) (stepC (F := Ideal) tab q kb (k0_pay27 u) (ix2 p c)) (k0_pay27 (F := Ideal) u (ix2 p c)) := by
  pointwise [stepC, k0_pay138, k0_pay31]
  rfl

/-- A score of a query with a key, both taken from the call's blocks: the product of the two heads' rows. -/
def sc (x0 : FVec Ideal S1280x256 .bf16) (x1 : FVec Ideal S16640x256 .bf16) (u : Fin 10) (p : Fin 256) (s : ℕ) : EReal :=
  ∑ d : Fin 128, (qt (F := Ideal) x0 u (ix2 p d) : EReal) * x1 (ix2 (⟨s % 16640, Nat.mod_lt _ (by decide)⟩ : Fin 16640) (⟨(128 * (u.val / 5) + d.val) % 256, Nat.mod_lt _ (by decide)⟩ : Fin 256))

/-- A value, taken from the call's block. -/
def vl (x2 : FVec Ideal S16640x256 .bf16) (u : Fin 10) (c : Fin 128) (s : ℕ) : EReal :=
  x2 (ix2 (⟨s % 16640, Nat.mod_lt _ (by decide)⟩ : Fin 16640) (⟨(128 * (u.val / 5) + c.val) % 256, Nat.mod_lt _ (by decide)⟩ : Fin 256))

/-- A tile's scores. -/
theorem tile_score (x0 : FVec Ideal S1280x256 .bf16) (x1 : FVec Ideal S16640x256 .bf16) (u : Fin 10) (n : ℕ) (p k : Fin 256) :
    k0_pay135 (F := Ideal) (qt (F := Ideal) x0 u) (tile (F := Ideal) (u.val / 5) x1 n) (ix2 p k) = sc x0 x1 u p (256 * n + k.val) := by
  rw [score]
  rfl

/-- A tile's values. -/
theorem tile_value (x2 : FVec Ideal S16640x256 .bf16) (u : Fin 10) (n : ℕ) (k : Fin 256) (c : Fin 128) :
    tile (F := Ideal) (u.val / 5) x2 n (ix2 k c) = vl x2 u c (256 * n + k.val) := rfl

/-- A unit's result is the attention's rows of its queries. -/
theorem fin_at (x0 : FVec Ideal S1280x256 .bf16) (x1 x2 : FVec Ideal S16640x256 .bf16) (x3 : FVec Ideal S256x256 .bf16) (u : Fin 10)
    (htab : ∀ j k : Fin 256, tb (F := Ideal) x3 (ix2 j k) = if k.val ≤ j.val then (-1 : EReal) else 0) (p : Fin 256) (c : Fin 128) :
    fin (F := Ideal) i x0 x1 x2 x3 u (ix2 p c) = rowOf (sc x0 x1 u p) (vl x2 u c) (256 * (5 * (i 1).val + u.val % 5) + p.val) := by
  unfold fin
  generalize hD : 5 * (i 1).val + u.val % 5 = D
  have cd : ∀ (p : Fin 256) (c : Fin 128), k0_pay27 (k0_pay26 (F := Ideal) (tb (F := Ideal) x3) (qt (F := Ideal) x0 u) (tile (F := Ideal) (u.val / 5) x1 D)) (ix2 p c)
      = lgs (sc x0 x1 u p) (256 * D + p.val) (256 * D) (256 * D + 256) :=
    fun p c => carry_diag (tb (F := Ideal) x3) htab (qt (F := Ideal) x0 u) _ (sc x0 x1 u p) _ (256 * D) p c (fun k => tile_score x0 x1 u D p k) rfl
  have sd : ∀ (p : Fin 256) (c : Fin 128), k0_pay25 (F := Ideal) (tb (F := Ideal) x3) (qt (F := Ideal) x0 u) (tile (F := Ideal) (u.val / 5) x1 D) (tile (F := Ideal) (u.val / 5) x2 D) (ix2 p c)
      = ∑ s ∈ Finset.Ico (256 * D) (256 * D + 256), term (sc x0 x1 u p) (vl x2 u c) (256 * D + p.val) (256 * D + 256) s :=
    fun p c => sum_diag (tb (F := Ideal) x3) htab (qt (F := Ideal) x0 u) _ _ (sc x0 x1 u p) (vl x2 u c) _ (256 * D) p c (fun k => tile_score x0 x1 u D p k)
      (fun k => tile_value x2 u D k c) rfl
  have c1 : 0 < D → ∀ (p : Fin 256) (c : Fin 128), stepC (F := Ideal) (tb (F := Ideal) x3) (qt (F := Ideal) x0 u) (tile (F := Ideal) (u.val / 5) x1 (D - 1))
      (k0_pay27 (k0_pay26 (F := Ideal) (tb (F := Ideal) x3) (qt (F := Ideal) x0 u) (tile (F := Ideal) (u.val / 5) x1 D))) (ix2 p c)
      = lgs (sc x0 x1 u p) (256 * D + p.val) (256 * (D - 1)) (256 * D + 256) := fun h p c =>
    carry_step (tb (F := Ideal) x3) htab (qt (F := Ideal) x0 u) _ (sc x0 x1 u p) _ _ (256 * (D - 1)) _ p c (fun k => tile_score x0 x1 u (D - 1) p k)
      (by omega) (by have := p.isLt; omega) ((cd p c).trans (by rw [show 256 * (D - 1) + 256 = 256 * D by omega]))
  have s1 : 0 < D → ∀ (p : Fin 256) (c : Fin 128), stepA (F := Ideal) (tb (F := Ideal) x3) (qt (F := Ideal) x0 u) (tile (F := Ideal) (u.val / 5) x1 (D - 1)) (tile (F := Ideal) (u.val / 5) x2 (D - 1))
      (k0_pay27 (k0_pay26 (F := Ideal) (tb (F := Ideal) x3) (qt (F := Ideal) x0 u) (tile (F := Ideal) (u.val / 5) x1 D)))
      (k0_pay25 (F := Ideal) (tb (F := Ideal) x3) (qt (F := Ideal) x0 u) (tile (F := Ideal) (u.val / 5) x1 D) (tile (F := Ideal) (u.val / 5) x2 D)) (ix2 p c)
      = ∑ s ∈ Finset.Ico (256 * (D - 1)) (256 * D + 256), term (sc x0 x1 u p) (vl x2 u c) (256 * D + p.val) (256 * D + 256) s := fun h p c =>
    sum_step (tb (F := Ideal) x3) htab (qt (F := Ideal) x0 u) _ _ (sc x0 x1 u p) (vl x2 u c) _ _ (256 * (D - 1)) _ _ p c (fun k => tile_score x0 x1 u (D - 1) p k)
      (fun k => tile_value x2 u (D - 1) k c) (by omega) (by have := p.isLt; omega)
      (fun x => (cd p x).trans (by rw [show 256 * (D - 1) + 256 = 256 * D by omega]))
      ((sd p c).trans (by rw [show 256 * (D - 1) + 256 = 256 * D by omega]))
  refine loop (tb (F := Ideal) x3) htab (qt (F := Ideal) x0 u) (256 * D + 256) (tile (F := Ideal) (u.val / 5) x1) (tile (F := Ideal) (u.val / 5) x2) (sc x0 x1 u) (vl x2 u) (fun p => 256 * D + p.val) (D - 1)
    (fun j _ p k => tile_score x0 x1 u j p k) (fun j _ k c => tile_value x2 u j k c)
    (fun p => by have := p.isLt; constructor <;> omega) _ _ _ rfl ?_ ?_ p c
  · intro p c
    unfold car
    rw [hD]
    split
    · rename_i h0
      rw [first_carry, vw_pos, WordCmp.select_ofBool]
      by_cases hp : 0 < (i 1).val
      · rw [decide_eq_true hp]
        exact c1 (by omega) p c
      · rw [decide_eq_false hp]
        refine (cd p c).trans ?_
        rw [show D - 1 = D by omega]
    · exact c1 (by omega) p c
  · intro p c
    unfold acc
    rw [hD]
    split
    · rename_i h0
      rw [first_sum, vw_pos, WordCmp.select_ofBool]
      by_cases hp : 0 < (i 1).val
      · rw [decide_eq_true hp]
        exact s1 (by omega) p c
      · rw [decide_eq_false hp]
        refine (sd p c).trans ?_
        rw [show D - 1 = D by omega]
    · exact s1 (by omega) p c

end Cert.Layer.SbUnit
-- ==== Proof.SbValue.lean ====
/- Stick-breaking attention: what the kernel's call leaves in its result. -/
module

public import proofs.«01_k».proof.Proof.SbFrame
public import proofs.«01_k».proof.Proof.SbUnit
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.Sb

open Cert.Kernel8Ideal Cert.Kernel8Ideal.Gen Cert.Proof.Sb Cert.Layer.SbRow Cert.Layer.SbUnit

variable (m : (ℓ : Loc nD τ sig) → Buf (Elt Ideal) ℓ)

/-- Where the windows of a grid point lie. -/
theorem idx : ∀ t : Fin grid0.N, win0_0.index t = ![t.val % 13, t.val / 13] ∧ win0_1.index t = ![0, t.val / 13] ∧ win0_2.index t = ![0, 8 + t.val / 13]
    ∧ win0_3.index t = ![0, 0] ∧ win0_4.index t = ![t.val % 13, t.val / 13] ∧ (grid0.coords t 1).val = t.val % 13 :=
  by decide +kernel

/-- The output block, at an index. -/
theorem blk_at (i : grid0.Coords) (x0 : FVec Ideal S1280x256 .bf16) (x1 x2 : FVec Ideal S16640x256 .bf16) (x3 : FVec Ideal S256x256 .bf16)
    (htab : ∀ j k : Fin 256, tb (F := Ideal) x3 (ix2 j k) = if k.val ≤ j.val then (-1 : EReal) else 0) (y : S1280x256.Idx) :
    outBlk (F := Ideal) i x0 x1 x2 x3 y
      = rowOf (sc x0 x1 (unitOf y) ⟨(y 0).val % 256, Nat.mod_lt _ (by decide)⟩) (vl x2 (unitOf y) ⟨(y 1).val % 128, Nat.mod_lt _ (by decide)⟩)
          (1280 * (i 1).val + (y 0).val) := by
  have h0 : (y 0).val < 1280 := (y 0).isLt
  have h1 : (y 1).val < 256 := (y 1).isLt
  unfold outBlk
  pointwise [k0_pay1]
  unfold inUnit
  rw [fin_at i x0 x1 x2 x3 (unitOf y) htab]
  congr 1
  show 256 * (5 * (i 1).val + (5 * ((y 1).val / 128) + (y 0).val / 256) % 5) + (y 0).val % 256 = _
  omega

/-- The call's result, from its arguments. -/
def out (x0 : FVec Ideal S16640x2048 .bf16) (x1 : FVec Ideal S16640x4096 .bf16) (i : S16640x2048.Idx) : EReal :=
  rowOf (fun s => ∑ d : Fin 128, (x0 (ix2 (i 0) (⟨(i 1).val / 128 * 128 + d.val, by have : (i 1).val < 2048 := (i 1).isLt; have := d.isLt; omega⟩ : Fin 2048)) : EReal)
      * x1 (ix2 (⟨s % 16640, Nat.mod_lt _ (by decide)⟩ : Fin 16640) (⟨(i 1).val / 128 * 128 + d.val, by have : (i 1).val < 2048 := (i 1).isLt; have := d.isLt; omega⟩ : Fin 4096)))
    (fun s => x1 (ix2 (⟨s % 16640, Nat.mod_lt _ (by decide)⟩ : Fin 16640) (⟨2048 + (i 1).val, by have : (i 1).val < 2048 := (i 1).isLt; omega⟩ : Fin 4096))) (i 0).val

/-- The queries' block of a step, read in the argument. -/
theorem q_at (c : Dev nD) (t : Fin grid0.N) (a : Fin 1280) (b : Fin 256) : iblk m c 0 t (ix2 a b)
    = m ((c : Thread nD τ).loc main_arg0) (ix2 (⟨1280 * (t.val % 13) + a.val, by have := a.isLt; omega⟩ : Fin 16640)
        (⟨256 * (t.val / 13) + b.val, by have h : t.val < 104 := t.isLt; have := b.isLt; omega⟩ : Fin 2048)) := by
  blk_point [iblk, V, idx t]

/-- The keys' block of a step, read in the argument. -/
theorem k_at (c : Dev nD) (t : Fin grid0.N) (a : Fin 16640) (b : Fin 256) : iblk m c 1 t (ix2 a b)
    = m ((c : Thread nD τ).loc main_arg1) (ix2 a
        (⟨256 * (t.val / 13) + b.val, by have h : t.val < 104 := t.isLt; have := b.isLt; omega⟩ : Fin 4096)) := by
  blk_point [iblk, V, idx t]

/-- The values' block of a step, read in the argument. -/
theorem v_at (c : Dev nD) (t : Fin grid0.N) (a : Fin 16640) (b : Fin 256) : iblk m c 2 t (ix2 a b)
    = m ((c : Thread nD τ).loc main_arg1) (ix2 a
        (⟨2048 + 256 * (t.val / 13) + b.val, by have h : t.val < 104 := t.isLt; have := b.isLt; omega⟩ : Fin 4096)) := by
  blk_point [iblk, V, idx t]

/-- The table's block is the table of constants. -/
theorem t_at (c : Dev nD) (t : Fin grid0.N) (j k : Fin 256) : tb (F := Ideal) (iblk m c 3 t) (ix2 j k)
    = Ideal.ofBits .bf16 (lit0 (S256x256.rowMajor (ix2 j k))) := by
  blk_point [tb, iblk, V, idx t]

/-- A unit's queries are a tile of rows and one head's columns of the block. -/
theorem qt_at (x0 : FVec Ideal S1280x256 .bf16) (u : Fin 10) (p : Fin 256) (d : Fin 128) : qt (F := Ideal) x0 u (ix2 p d)
    = x0 (ix2 (⟨256 * (u.val % 5) + p.val, by have := p.isLt; omega⟩ : Fin 1280) (⟨128 * (u.val / 5) + d.val, by have := u.isLt; have := d.isLt; omega⟩ : Fin 256)) := by
  refine congrArg x0 (funext fun a => Fin.ext ?_)
  rw [Rect.emb_apply]
  fin_cases a
  · show 256 * (u.val % 5) + 1 * p.val = 256 * (u.val % 5) + p.val
    omega
  · show 128 * (u.val / 5) + 1 * d.val = 128 * (u.val / 5) + d.val
    omega

/-- The result array after the run, from the arguments. -/
theorem final (c : Dev nD) (htab : ∀ (t : Fin grid0.N) (j k : Fin 256), tb (F := Ideal) (iblk m c 3 t) (ix2 j k) = if k.val ≤ j.val then (-1 : EReal) else 0) :
    (dats m 0 c).arrAt 4 (cfgs (F := Ideal) 0).N
    = out (m ((c : Thread nD τ).loc main_arg0)) (m ((c : Thread nD τ).loc main_arg1)) := by
  refine (dats m 0 c).arrAt_eq_of_covers 4 _ (by decide +kernel) fun t hf y => ?_
  blk_simp
  rw [after0_4, blk_at _ _ _ _ _ (htab t)]
  obtain ⟨-, -, -, -, i4, i5⟩ := idx t
  have e0 : ((win0_4.blk t).view.emb y 0).val = 1280 * (t.val % 13) + (y 0).val := by
    refine (Pipeline.Window.rect_emb_val win0_4 t y 0).trans ?_
    rw [i4]
    show t.val % 13 * 1280 + (y 0).val = _
    omega
  have e1 : ((win0_4.blk t).view.emb y 1).val = 256 * (t.val / 13) + (y 1).val := by
    refine (Pipeline.Window.rect_emb_val win0_4 t y 1).trans ?_
    rw [i4]
    show t.val / 13 * 256 + (y 1).val = _
    omega
  generalize (win0_4.blk t).view.emb y = i at e0 e1 ⊢
  have h0 : (y 0).val < 1280 := (y 0).isLt
  have h1 : (y 1).val < 256 := (y 1).isLt
  have ht : t.val < 104 := t.isLt
  have u5 : (unitOf y).val % 5 = (y 0).val / 256 := by
    show (5 * ((y 1).val / 128) + (y 0).val / 256) % 5 = _
    omega
  have u6 : (unitOf y).val / 5 = (y 1).val / 128 := by
    show (5 * ((y 1).val / 128) + (y 0).val / 256) / 5 = _
    omega
  unfold out
  rw [i5, e0]
  refine congrArg₂ (fun z v => rowOf z v _) (funext fun s => Finset.sum_congr rfl fun d _ => ?_) (funext fun s => ?_)
  · rw [qt_at, q_at, k_at]
    refine congrArg₂ (fun a b : EReal => a * b) (congrArg (m ((c : Thread nD τ).loc main_arg0)) (congrArg₂ ix2 (Fin.ext ?_) (Fin.ext ?_)))
      (congrArg (m ((c : Thread nD τ).loc main_arg1)) (congrArg₂ ix2 rfl (Fin.ext ?_)))
    · rw [e0]
      show 1280 * (t.val % 13) + (256 * ((unitOf y).val % 5) + (y 0).val % 256) = _
      omega
    · show 256 * (t.val / 13) + (128 * ((unitOf y).val / 5) + d.val) = (i 1).val / 128 * 128 + d.val
      omega
    · show 256 * (t.val / 13) + (128 * ((unitOf y).val / 5) + d.val) % 256 = (i 1).val / 128 * 128 + d.val
      have := d.isLt
      omega
  · unfold vl
    rw [v_at]
    refine congrArg (m ((c : Thread nD τ).loc main_arg1)) (congrArg₂ ix2 rfl (Fin.ext ?_))
    show 2048 + 256 * (t.val / 13) + (128 * ((unitOf y).val / 5) + (y 1).val % 128) % 256 = 2048 + (i 1).val
    omega

end Cert.Layer.Sb

end
-- ==== Proof.SbCumsum.lean ====
/- A cumulative sum from the right, written as a window sum. -/
module

public import Idealize.ShloMosaic.Lib.Pointwise
public import Idealize.ShloMosaic.Lib.IdealHost

@[expose] public section

noncomputable section

open Idealize.ShloMosaic

namespace Cert.Layer.SbCumsum

/-- Adding a list's terms one after another. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- The window sum along the last axis: the element and those after it. -/
theorem cumsum (A B M N hi : ℕ) (h : (⟨4, ![A, B, M, N]⟩ : Shape).ReduceWindows ![1, 1, 1, N] ![1, 1, 1, 1] ![0, 0, 0, 0] ![0, 0, 0, hi] ⟨4, ![A, B, M, N]⟩)
    (x : (⟨4, ![A, B, M, N]⟩ : Shape).Idx → EReal) (a : Fin A) (b : Fin B) (c : Fin M) (e : Fin N) :
    Ideal.hostReduceWindowAdd ![1, 1, 1, N] ![1, 1, 1, 1] ![0, 0, 0, 0] ![0, 0, 0, hi] h x 0 (ix4 a b c e)
      = ∑ n : Fin N, if hn : e.val + n.val < N then x (ix4 a b c ⟨e.val + n.val, hn⟩) else 0 := by
  unfold Ideal.hostReduceWindowAdd Host.reduceWindow
  dsimp only
  rw [foldl_add (fun n => _), ← Fin.sum_univ_def, zero_add]
  let G : (⟨4, ![1, 1, 1, N]⟩ : Shape).Idx → EReal := fun w =>
    if hin : ∀ k : Fin 4, (![0, 0, 0, 0] : Fin 4 → ℕ) k ≤ (ix4 a b c e (k.cast h.1.symm)).val * (![1, 1, 1, 1] : Fin 4 → ℕ) k + (w k).val
        ∧ (ix4 a b c e (k.cast h.1.symm)).val * (![1, 1, 1, 1] : Fin 4 → ℕ) k + (w k).val - (![0, 0, 0, 0] : Fin 4 → ℕ) k < (![A, B, M, N] : Fin 4 → ℕ) k then
      x (fun k => ⟨(ix4 a b c e (k.cast h.1.symm)).val * (![1, 1, 1, 1] : Fin 4 → ℕ) k + (w k).val - (![0, 0, 0, 0] : Fin 4 → ℕ) k, (hin k).2⟩) else 0
  refine (Finset.sum_congr rfl fun i _ => ?_).trans ((Equiv.sum_comp (⟨4, ![1, 1, 1, N]⟩ : Shape).rowMajor.symm G).trans ?_)
  · show _ = G ((⟨4, ![1, 1, 1, N]⟩ : Shape).rowMajor.symm i)
    dsimp only [G]
    congr
  rw [sum_idx4]
  simp only [Finset.univ_unique, Finset.sum_singleton]
  refine Finset.sum_congr rfl fun n _ => ?_
  by_cases hn : e.val + n.val < N
  · rw [dif_pos hn]
    have hin : ∀ k : Fin 4, (![0, 0, 0, 0] : Fin 4 → ℕ) k ≤ (ix4 a b c e (k.cast h.1.symm)).val * (![1, 1, 1, 1] : Fin 4 → ℕ) k + (ix4 (0 : Fin 1) (0 : Fin 1) (0 : Fin 1) n k).val
        ∧ (ix4 a b c e (k.cast h.1.symm)).val * (![1, 1, 1, 1] : Fin 4 → ℕ) k + (ix4 (0 : Fin 1) (0 : Fin 1) (0 : Fin 1) n k).val - (![0, 0, 0, 0] : Fin 4 → ℕ) k < (![A, B, M, N] : Fin 4 → ℕ) k := by
      intro k
      fin_cases k
      · show 0 ≤ a.val * 1 + 0 ∧ a.val * 1 + 0 - 0 < A
        have := a.isLt; omega
      · show 0 ≤ b.val * 1 + 0 ∧ b.val * 1 + 0 - 0 < B
        have := b.isLt; omega
      · show 0 ≤ c.val * 1 + 0 ∧ c.val * 1 + 0 - 0 < M
        have := c.isLt; omega
      · show 0 ≤ e.val * 1 + n.val ∧ e.val * 1 + n.val - 0 < N
        omega
    refine (dif_pos hin).trans (congrArg x (funext fun k => Fin.ext ?_))
    fin_cases k
    · show a.val * 1 + 0 - 0 = a.val
      omega
    · show b.val * 1 + 0 - 0 = b.val
      omega
    · show c.val * 1 + 0 - 0 = c.val
      omega
    · show e.val * 1 + n.val - 0 = e.val + n.val
      omega
  · rw [dif_neg hn]
    refine dif_neg fun hin => hn ?_
    have h3 : e.val * 1 + n.val - 0 < N := (hin 3).2
    omega

end Cert.Layer.SbCumsum

end
-- ==== Proof.SbRef.lean ====
/- Stick-breaking attention: the reference's result, at an index. -/
module

public import proofs.«01_k».proof.Proof.SbValue
public import proofs.«01_k».proof.Proof.SbCumsum
public import proofs.«01_k».proof.Proof.Gen.Reference8Ideal.Run
public import proofs.«01_k».proof.Proof.Gen.Reference8Ideal.Read
public import Idealize.ShloMosaic.Lib.Pointwise
public import Idealize.ShloMosaic.Lib.Pipeline.ValueKit

@[expose] public section

set_option maxRecDepth 16384

noncomputable section

open Idealize.ShloMosaic Idealize.ShloMosaic.TcCoe

namespace Cert.Layer.SbRef

open Cert.Kernel8Ideal Cert.Reference8Ideal.Read Cert.Layer.SbRow

variable (x0 : FVec Ideal S16640x2048 .bf16) (x1 : FVec Ideal S16640x4096 .bf16)

/-- A head's score of query `t` with key `s`. -/
def z (h : Fin 16) (t : Fin 16640) (s : ℕ) : EReal :=
  ∑ d : Fin 128, (x0 (ix2 t (⟨h.val * 128 + d.val, by have := h.isLt; have := d.isLt; omega⟩ : Fin 2048)) : EReal)
    * x1 (ix2 (⟨s % 16640, Nat.mod_lt _ (by decide)⟩ : Fin 16640) (⟨h.val * 128 + d.val, by have := h.isLt; have := d.isLt; omega⟩ : Fin 4096))

/-- The scores. -/
theorem score_at (h : Fin 16) (t s : Fin 16640) : val_main_v9 (F := Ideal) x0 x1 (ix4 0 h t s) = z x0 x1 h t s.val := by
  have e : (⟨s.val % 16640, Nat.mod_lt _ (by decide)⟩ : Fin 16640) = s := Fin.ext (Nat.mod_eq_of_lt s.isLt)
  unfold z
  rw [e]
  pointwise [val_main_v9, val_main_v6, val_main_v5, val_main_v3, val_main_v2, val_main_v1, val_main_v0]

/-- The logarithm of a key's own share. -/
theorem own_at (h : Fin 16) (t s : Fin 16640) : val_main_v22 (F := Ideal) x0 x1 (ix4 0 h t s) = -sp (-z x0 x1 h t s.val) := by
  pointwise [val_main_v22, val_main_call3_v1, val_main_call3_v0, val_main_call3_call0_v11, val_main_call3_call0_v10,  val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst]
  rw [score_at]
  rw [if_neg (not_not.mpr rfl)]
  rfl

/-- The logarithm a later key leaves, zero from the query on. -/
theorem left_at (h : Fin 16) (t s : Fin 16640) : val_main_v19 (F := Ideal) x0 x1 (ix4 0 h t s) = lg (z x0 x1 h t) t.val s.val := by
  pointwise [val_main_v19, val_main_v18, val_main_v17, val_main_call1_v0,val_main_call1_v1,val_main_call1_v2,val_main_v16, val_main_v15, val_main_v14,val_main_v13,val_main_v12,val_main_v11,val_main_v10,val_main_v4, val_main_call0_v1, val_main_call0_v0, val_main_call0_call0_v11, val_main_call0_call0_v10,  val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  rw [score_at]
  have h0 : (id (val_main_cst (F := Ideal)) ix0 : EReal) = 0 := by
    show val_main_cst (F := Ideal) ix0 = (0 : EReal)
    pointwise [val_main_cst]
  rw [SbTiles.sel_lt _ _ (by have := s.isLt; omega) (by have := t.isLt; omega), if_neg (not_not.mpr rfl), neg_neg, h0]
  rfl

/-- The logarithms of a key and those after it, summed. -/
theorem sum_at (h : Fin 16) (t s : Fin 16640) : val_main_v20 (F := Ideal) x0 x1 (ix4 0 h t s) = lgs (z x0 x1 h t) t.val s.val 16640 := by
  unfold lgs
  rw [← window (lg (z x0 x1 h t) t.val) 16640 s.val]
  unfold val_main_v20
  have h0 : ∀ i, val_main_call2_v0 (F := Ideal) i = (0 : EReal) := by
    intro i
    pointwise [val_main_call2_v0, val_main_call2_cst]
  unfold Host.reduceWindowAdd
  rw [Ideal.hostReduceWindowAdd_def, h0]
  refine (SbCumsum.cumsum 1 16 16640 16640 16639 _ (val_main_v19 (F := Ideal) x0 x1) 0 h t s).trans (Finset.sum_congr rfl fun n _ => ?_)
  by_cases hn : s.val + n.val < 16640
  · rw [dif_pos hn, if_pos hn, left_at]
  · rw [dif_neg hn, if_neg hn]

/-- The weights. -/
theorem weight_at (h : Fin 16) (t s : Fin 16640) : val_main_v25 (F := Ideal) x0 x1 (ix4 0 h t s)
    = if s.val < t.val then Ideal.exp (-sp (-z x0 x1 h t s.val) + (lgs (z x0 x1 h t) t.val s.val 16640 - lg (z x0 x1 h t) t.val s.val)) else 0 := by
  pointwise [val_main_v25, val_main_v24, val_main_v23, val_main_v21, val_main_call4_v0,val_main_call4_v1,val_main_call4_v2,val_main_v16, val_main_v15, val_main_v14,val_main_v13,val_main_v12,val_main_v11,val_main_v10,val_main_v4]
  rw [own_at, sum_at, left_at, SbTiles.sel_lt _ _ (by have := s.isLt; omega) (by have := t.isLt; omega)]
  have h0 : (id (val_main_cst_0 (F := Ideal)) ix0 : EReal) = 0 := by
    show val_main_cst_0 (F := Ideal) ix0 = (0 : EReal)
    pointwise [val_main_cst_0]
  rw [h0]

/-- The reference's result at an index. -/
theorem ref_at (t : Fin 16640) (k : Fin 2048) : val_main_v29 (F := Ideal) x0 x1 (ix2 t k) = Cert.Layer.Sb.out x0 x1 (ix2 t k) := by
  have hk := k.isLt
  have hr := ref_row (z x0 x1 ⟨k.val / 128, by omega⟩ t)
    (fun s => x1 (ix2 (⟨s % 16640, Nat.mod_lt _ (by decide)⟩ : Fin 16640) (⟨2048 + k.val, by omega⟩ : Fin 4096))) t.val 16640 t.isLt.le
  refine Eq.trans ?_ hr
  pointwise [val_main_v29, val_main_v28, val_main_v27, val_main_v26, val_main_v8, val_main_v7, val_main_v3, val_main_v2]
  refine Finset.sum_congr rfl fun s _ => ?_
  rw [weight_at]
  refine congrArg (fun a : EReal => a * _) (congrArg x1 (congrArg₂ ix2 (Fin.ext (Nat.mod_eq_of_lt s.isLt).symm) (Fin.ext ?_)))
  show 2048 + k.val / 128 * 128 + k.val % 128 = 2048 + k.val
  omega

end Cert.Layer.SbRef

end
-- ==== Proof.Sb.lean ====
/- Stick-breaking attention: the claims. -/
module

public import proofs.«01_k».proof.Defs
public import proofs.«01_k».proof.Proof.SbTable
public import proofs.«01_k».proof.Proof.SbRef
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer.Sb

open Cert.Kernel8Ideal Cert.Kernel8Ideal.Gen Cert.Proof.Sb

/-- The table's window holds minus one on and below the diagonal and zero above it. -/
theorem table (m : (ℓ : Loc nD τ sig) → Buf (Elt Ideal) ℓ) (c : Dev nD) (t : Fin grid0.N) (j k : Fin 256) :
    tb (F := Ideal) (iblk m c 3 t) (ix2 j k) = if k.val ≤ j.val then (-1 : EReal) else 0 :=
  (t_at m c t j k).trans (SbTable.entry j k)

/-- The reference's result is what the kernel's array holds. -/
theorem ref_eq (x0 : FVec Ideal S16640x2048 .bf16) (x1 : FVec Ideal S16640x4096 .bf16) :
    Cert.Reference8Ideal.Read.val_main_v29 (F := Ideal) x0 x1 = out x0 x1 := by
  funext i
  have hi : i = ix2 (i 0) (i 1) := by blk_ext []
  rw [hi]
  exact SbRef.ref_at x0 x1 (i 0) (i 1)

/-- The reference runs and leaves its arguments unchanged. -/
theorem frame_ref : @Cert.quiescent_Reference8Ideal Cert.Reference8Ideal.Gen.facts := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The idealised kernel differs from the kernel in its named constant alone. -/
theorem preserves : Cert.preserves_Kernel8_Kernel8Ideal :=
  IdealRules.named_const.statement Cert.Kernel8Ideal.κ "neg_inf" .f32 0xC2D20000#32 ⊥ rfl

/-- Kernel and reference give the same real numbers from the same arguments. -/
theorem algebraic : @Cert.algebraic_Kernel8Ideal_Reference8Ideal Cert.Kernel8Ideal.Gen.facts Cert.Reference8Ideal.Gen.facts := by
  intro m g m' g' hpre hagree
  refine ⟨fun c => out (m ((c : Thread nD τ).loc main_arg0)) (m ((c : Thread nD τ).loc main_arg1)), ?_, ?_⟩
  · exact Idealize.ShloMosaic.θ_run_mono (Cert.Proof.Sb.run_main m g) fun r hr c =>
      ⟨((hr c).1 4).trans (final m c (table m c)),
        ((hr c).1 0).trans (((dats m 0 c).arrAt_in 0 rfl _).trans ((A_eq m c 0).trans (V_main_arg0 m c))),
        ((hr c).1 1).trans (((dats m 0 c).arrAt_in 1 rfl _).trans ((A_eq m c 1).trans (V_main_arg1 m c)))⟩
  · exact Idealize.ShloMosaic.θ_run_mono (Cert.Reference8Ideal.Value.run m' g') fun r hr c =>
      ⟨(hr c).1.trans ((Cert.Reference8Ideal.Read.val_main_v29_eq m' c).trans ((ref_eq _ _).trans (congrArg₂ out (hagree c).1 (hagree c).2))), (hr c).2⟩

end Cert.Layer.Sb

end
-- ==== Proof.lean ====
/- The certificate's claims, put together: each call's two frames and its reference's, and its equality with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Reference8Ideal
public import proofs.«01_k».proof.Proof.Gen.Reference8Ideal.Run
public import proofs.«01_k».proof.Proof.Gen.Reference8Ideal.Read
public import proofs.«01_k».proof.Proof.Mix
public import proofs.«01_k».proof.Proof.Ffn
public import proofs.«01_k».proof.Proof.ProjIn
public import proofs.«01_k».proof.Proof.ProjGate
public import proofs.«01_k».proof.Proof.ProjQ
public import proofs.«01_k».proof.Proof.ProjKV
public import proofs.«01_k».proof.Proof.MixFirst
public import proofs.«01_k».proof.Proof.SbPFrame
public import proofs.«01_k».proof.Proof.Sb

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts,
  fun m ρ _ => Cert.Kernel.Gen.frame m ρ, fun m ρ _ => Cert.KernelIdeal.Gen.frame m ρ, Cert.Layer.Mix.frame_ref,
  fun m ρ _ => Cert.Kernel2.Gen.frame m ρ, fun m ρ _ => Cert.Kernel2Ideal.Gen.frame m ρ, Cert.Layer.Ffn.frame_ref,
  fun m ρ _ => Cert.Kernel3.Gen.frame m ρ, fun m ρ _ => Cert.Kernel3Ideal.Gen.frame m ρ, Cert.Layer.ProjIn.frame_ref,
  fun m ρ _ => Cert.Kernel4.Gen.frame m ρ, fun m ρ _ => Cert.Kernel4Ideal.Gen.frame m ρ, Cert.Layer.ProjGate.frame_ref,
  fun m ρ _ => Cert.Kernel5.Gen.frame m ρ, fun m ρ _ => Cert.Kernel5Ideal.Gen.frame m ρ, Cert.Layer.ProjQ.frame_ref,
  fun m ρ _ => Cert.Kernel6.Gen.frame m ρ, fun m ρ _ => Cert.Kernel6Ideal.Gen.frame m ρ, Cert.Layer.ProjKV.frame_ref,
  fun m ρ _ => Cert.Kernel7.Gen.frame m ρ, fun m ρ _ => Cert.Kernel7Ideal.Gen.frame m ρ, Cert.Layer.MixFirst.frame_ref,
  fun m ρ _ => Cert.Proof.SbP.frame m ρ, fun m ρ _ => Cert.Proof.Sb.frame m ρ, Cert.Layer.Sb.frame_ref,
  trivial, Cert.Layer.Mix.algebraic,
  trivial, Cert.Layer.Ffn.algebraic,
  trivial, Cert.Layer.ProjIn.algebraic,
  trivial, Cert.Layer.ProjGate.algebraic,
  trivial, Cert.Layer.ProjQ.algebraic,
  trivial, Cert.Layer.ProjKV.algebraic,
  trivial, Cert.Layer.MixFirst.algebraic,
  Cert.Layer.Sb.preserves, Cert.Layer.Sb.algebraic⟩

end Cert.Proof

end
